-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_tables [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_in_tables [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "freq" .f32 0xBD549A78#32 (((-((Real.log 10000) * (Real.log 2)⁻¹)) * (1 / 256) : ℝ) : EReal)
  ∧ IdealRules.named_const.Statement Cert.KernelIdeal.κ "mask" .f32 0xCE6E6B28#32 ⊥

def algebraic_KernelIdeal_ReferenceIdeal_pre_in_tables [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel)
    ∧ quiescent_KernelIdeal (hKernelIdeal := hKernelIdeal)
    ∧ quiescent_KernelIdeal_pre_in_tables (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal_pre_in_tables (hKernelIdeal := hKernelIdeal) (hReferenceIdeal := hReferenceIdeal) (hPre_in_tables := hPre_in_tables)
-- ==== Pre_in_tables.lean ====
abbrev S8x1024 : Shape := ⟨2, ![8, 1024]⟩
abbrev S64x128 : Shape := ⟨2, ![64, 128]⟩
abbrev S601x256 : Shape := ⟨2, ![601, 256]⟩
abbrev S360x384 : Shape := ⟨2, ![360, 384]⟩
abbrev S768 : Shape := ⟨1, ![768]⟩
abbrev S6x2304x768 : Shape := ⟨3, ![6, 2304, 768]⟩
abbrev S6x2304 : Shape := ⟨2, ![6, 2304]⟩
abbrev S6x768x768 : Shape := ⟨3, ![6, 768, 768]⟩
abbrev S6x768 : Shape := ⟨2, ![6, 768]⟩
abbrev S6x2048x768 : Shape := ⟨3, ![6, 2048, 768]⟩
abbrev S6x2048 : Shape := ⟨2, ![6, 2048]⟩
abbrev S6x768x2048 : Shape := ⟨3, ![6, 768, 2048]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : IVec S8x1024 32) (main_arg1 : FVec F S8x1024 .f32) (main_arg2 : IVec S8x1024 32) (main_arg3 : FVec F S64x128 .f32) (main_arg4 : FVec F S601x256 .f32) (main_arg5 : FVec F S360x384 .f32) (main_arg6 : FVec F S768 .f32) (main_arg7 : FVec F S6x2304x768 .f32) (main_arg8 : FVec F S6x2304 .f32) (main_arg9 : FVec F S6x768x768 .f32) (main_arg10 : FVec F S6x768 .f32) (main_arg11 : FVec F S6x768 .f32) (main_arg12 : FVec F S6x768 .f32) (main_arg13 : FVec F S6x2048x768 .f32) (main_arg14 : FVec F S6x2048 .f32) (main_arg15 : FVec F S6x768x2048 .f32) (main_arg16 : FVec F S6x768 .f32) (main_arg17 : FVec F S6x768 .f32) (main_arg18 : FVec F S6x768 .f32) : IVec S8x1024 1 :=
  let main_c : IVec S_ 32 := constantI S_ 32 0#32
  let main_v0 : IVec S8x1024 32 := broadcastInDim S8x1024 ![] bcast_S_S8x1024 main_c
  let main_v1 : IVec S8x1024 1 := cmpi .sge main_arg0 main_v0
  let main_c_0 : IVec S_ 32 := constantI S_ 32 64#32
  let main_v2 : IVec S8x1024 32 := broadcastInDim S8x1024 ![] bcast_S_S8x1024 main_c_0
  let main_v3 : IVec S8x1024 1 := cmpi .slt main_arg0 main_v2
  let main_v4 : IVec S8x1024 1 := andi main_v1 main_v3
  let main_c_1 : IVec S_ 32 := constantI S_ 32 0#32
  let main_v5 : IVec S8x1024 32 := broadcastInDim S8x1024 ![] bcast_S_S8x1024 main_c_1
  let main_v6 : IVec S8x1024 1 := cmpi .sge main_arg2 main_v5
  let main_v7 : IVec S8x1024 1 := andi main_v4 main_v6
  let main_c_2 : IVec S_ 32 := constantI S_ 32 360#32
  let main_v8 : IVec S8x1024 32 := broadcastInDim S8x1024 ![] bcast_S_S8x1024 main_c_2
  let main_v9 : IVec S8x1024 1 := cmpi .slt main_arg2 main_v8
  let main_v10 : IVec S8x1024 1 := andi main_v7 main_v9
  main_v10
-- ==== Kernel.lean ====
abbrev S8x1024 : Shape := ⟨2, ![8, 1024]⟩
abbrev S64x128 : Shape := ⟨2, ![64, 128]⟩
abbrev S601x256 : Shape := ⟨2, ![601, 256]⟩
abbrev S360x384 : Shape := ⟨2, ![360, 384]⟩
abbrev S768 : Shape := ⟨1, ![768]⟩
abbrev S6x2304x768 : Shape := ⟨3, ![6, 2304, 768]⟩
abbrev S6x2304 : Shape := ⟨2, ![6, 2304]⟩
abbrev S6x768x768 : Shape := ⟨3, ![6, 768, 768]⟩
abbrev S6x768 : Shape := ⟨2, ![6, 768]⟩
abbrev S6x2048x768 : Shape := ⟨3, ![6, 2048, 768]⟩
abbrev S6x2048 : Shape := ⟨2, ![6, 2048]⟩
abbrev S6x768x2048 : Shape := ⟨3, ![6, 768, 2048]⟩
abbrev S8x1x1024 : Shape := ⟨3, ![8, 1, 1024]⟩
abbrev S1x768 : Shape := ⟨2, ![1, 768]⟩
abbrev S8x1088x768 : Shape := ⟨3, ![8, 1088, 768]⟩
abbrev S1x1x1024 : Shape := ⟨3, ![1, 1, 1024]⟩
abbrev S1x1088x768 : Shape := ⟨3, ![1, 1088, 768]⟩
abbrev S1x1024 : Shape := ⟨2, ![1, 1024]⟩
abbrev S64x1024 : Shape := ⟨2, ![64, 1024]⟩
abbrev S1024x128 : Shape := ⟨2, ![1024, 128]⟩
abbrev S1x1024x128 : Shape := ⟨3, ![1, 1024, 128]⟩
abbrev S256x1024 : Shape := ⟨2, ![256, 1024]⟩
abbrev S256x256 : Shape := ⟨2, ![256, 256]⟩
abbrev S1024x256 : Shape := ⟨2, ![1024, 256]⟩
abbrev S1x1024x256 : Shape := ⟨3, ![1, 1024, 256]⟩
abbrev S360x1024 : Shape := ⟨2, ![360, 1024]⟩
abbrev S1024x384 : Shape := ⟨2, ![1024, 384]⟩
abbrev S1x1024x384 : Shape := ⟨3, ![1, 1024, 384]⟩
abbrev S64x768 : Shape := ⟨2, ![64, 768]⟩
abbrev S1x64x768 : Shape := ⟨3, ![1, 64, 768]⟩
abbrev S6x1x2304 : Shape := ⟨3, ![6, 1, 2304]⟩
abbrev S6x1x768 : Shape := ⟨3, ![6, 1, 768]⟩
abbrev S6x1x2048 : Shape := ⟨3, ![6, 1, 2048]⟩
abbrev S_ : Shape := ⟨0, ![]⟩
abbrev S1x2304x768 : Shape := ⟨3, ![1, 2304, 768]⟩
abbrev S2304x768 : Shape := ⟨2, ![2304, 768]⟩
abbrev S1x1x2304 : Shape := ⟨3, ![1, 1, 2304]⟩
abbrev S1x2304 : Shape := ⟨2, ![1, 2304]⟩
abbrev S1x768x768 : Shape := ⟨3, ![1, 768, 768]⟩
abbrev S768x768 : Shape := ⟨2, ![768, 768]⟩
abbrev S1x1x768 : Shape := ⟨3, ![1, 1, 768]⟩
abbrev S1x2048x768 : Shape := ⟨3, ![1, 2048, 768]⟩
abbrev S2048x768 : Shape := ⟨2, ![2048, 768]⟩
abbrev S1x1x2048 : Shape := ⟨3, ![1, 1, 2048]⟩
abbrev S1x2048 : Shape := ⟨2, ![1, 2048]⟩
abbrev S1x768x2048 : Shape := ⟨3, ![1, 768, 2048]⟩
abbrev S768x2048 : Shape := ⟨2, ![768, 2048]⟩
abbrev S1088x2304 : Shape := ⟨2, ![1088, 2304]⟩
abbrev S1088x768 : Shape := ⟨2, ![1088, 768]⟩
abbrev S1088x1088 : Shape := ⟨2, ![1088, 1088]⟩
abbrev S1x272x768 : Shape := ⟨3, ![1, 272, 768]⟩
abbrev S272x768 : Shape := ⟨2, ![272, 768]⟩
abbrev S272x1088 : Shape := ⟨2, ![272, 1088]⟩
abbrev S272x640 : Shape := ⟨2, ![272, 640]⟩
abbrev S640x64 : Shape := ⟨2, ![640, 64]⟩
abbrev S272x64 : Shape := ⟨2, ![272, 64]⟩
abbrev S272 : Shape := ⟨1, ![272]⟩
abbrev S272x1 : Shape := ⟨2, ![272, 1]⟩
abbrev S1088x64 : Shape := ⟨2, ![1088, 64]⟩
abbrev S136x768 : Shape := ⟨2, ![136, 768]⟩
abbrev S1x136x768 : Shape := ⟨3, ![1, 136, 768]⟩
abbrev S136 : Shape := ⟨1, ![136]⟩
abbrev S136x1 : Shape := ⟨2, ![136, 1]⟩
abbrev S136x2048 : Shape := ⟨2, ![136, 2048]⟩
abbrev S8x64x64 : Shape := ⟨3, ![8, 64, 64]⟩
abbrev S8x64x601 : Shape := ⟨3, ![8, 64, 601]⟩
abbrev S8x64x360 : Shape := ⟨3, ![8, 64, 360]⟩
abbrev S1x64x64 : Shape := ⟨3, ![1, 64, 64]⟩
abbrev S1x64x601 : Shape := ⟨3, ![1, 64, 601]⟩
abbrev S1x64x360 : Shape := ⟨3, ![1, 64, 360]⟩
abbrev S64x64 : Shape := ⟨2, ![64, 64]⟩
abbrev S64x256 : Shape := ⟨2, ![64, 256]⟩
abbrev S64x601 : Shape := ⟨2, ![64, 601]⟩
abbrev S64x384 : Shape := ⟨2, ![64, 384]⟩
abbrev S64x360 : Shape := ⟨2, ![64, 360]⟩

abbrev nBuf : Space → Nat
  | .hbm => 107
  | .vmem => 41
  | .smem => 0
  | _ => 0

abbrev bufTy : (tb : Table) → Fin (tcTables nBuf tb) → BufTy
  | .hbm, ⟨0, _⟩ => ⟨S8x1024, .i32⟩
  | .hbm, ⟨1, _⟩ => ⟨S8x1024, .f32⟩
  | .hbm, ⟨2, _⟩ => ⟨S8x1024, .i32⟩
  | .hbm, ⟨3, _⟩ => ⟨S64x128, .f32⟩
  | .hbm, ⟨4, _⟩ => ⟨S601x256, .f32⟩
  | .hbm, ⟨5, _⟩ => ⟨S360x384, .f32⟩
  | .hbm, ⟨6, _⟩ => ⟨S768, .f32⟩
  | .hbm, ⟨7, _⟩ => ⟨S6x2304x768, .f32⟩
  | .hbm, ⟨8, _⟩ => ⟨S6x2304, .f32⟩
  | .hbm, ⟨9, _⟩ => ⟨S6x768x768, .f32⟩
  | .hbm, ⟨10, _⟩ => ⟨S6x768, .f32⟩
  | .hbm, ⟨11, _⟩ => ⟨S6x768, .f32⟩
  | .hbm, ⟨12, _⟩ => ⟨S6x768, .f32⟩
  | .hbm, ⟨13, _⟩ => ⟨S6x2048x768, .f32⟩
  | .hbm, ⟨14, _⟩ => ⟨S6x2048, .f32⟩
  | .hbm, ⟨15, _⟩ => ⟨S6x768x2048, .f32⟩
  | .hbm, ⟨16, _⟩ => ⟨S6x768, .f32⟩
  | .hbm, ⟨17, _⟩ => ⟨S6x768, .f32⟩
  | .hbm, ⟨18, _⟩ => ⟨S6x768, .f32⟩
  | .hbm, ⟨19, _⟩ => ⟨S8x1x1024, .i32⟩
  | .hbm, ⟨20, _⟩ => ⟨S8x1x1024, .i32⟩
  | .hbm, ⟨21, _⟩ => ⟨S8x1x1024, .f32⟩
  | .hbm, ⟨22, _⟩ => ⟨S1x768, .f32⟩
  | .hbm, ⟨23, _⟩ => ⟨S8x1088x768, .f32⟩
  | .hbm, ⟨24, _⟩ => ⟨S6x2304x768, .bf16⟩
  | .hbm, ⟨25, _⟩ => ⟨S6x768x768, .bf16⟩
  | .hbm, ⟨26, _⟩ => ⟨S6x2048x768, .bf16⟩
  | .hbm, ⟨27, _⟩ => ⟨S6x768x2048, .bf16⟩
  | .hbm, ⟨28, _⟩ => ⟨S6x1x2304, .f32⟩
  | .hbm, ⟨29, _⟩ => ⟨S6x1x768, .f32⟩
  | .hbm, ⟨30, _⟩ => ⟨S6x1x768, .f32⟩
  | .hbm, ⟨31, _⟩ => ⟨S6x1x768, .f32⟩
  | .hbm, ⟨32, _⟩ => ⟨S6x1x2048, .f32⟩
  | .hbm, ⟨33, _⟩ => ⟨S6x1x768, .f32⟩
  | .hbm, ⟨34, _⟩ => ⟨S6x1x768, .f32⟩
  | .hbm, ⟨35, _⟩ => ⟨S6x1x768, .f32⟩
  | .hbm, ⟨36, _⟩ => ⟨S_, .i32⟩
  | .hbm, ⟨37, _⟩ => ⟨S6x2304x768, .bf16⟩
  | .hbm, ⟨38, _⟩ => ⟨S6x1x2304, .f32⟩
  | .hbm, ⟨39, _⟩ => ⟨S6x768x768, .bf16⟩
  | .hbm, ⟨40, _⟩ => ⟨S6x1x768, .f32⟩
  | .hbm, ⟨41, _⟩ => ⟨S6x1x768, .f32⟩
  | .hbm, ⟨42, _⟩ => ⟨S6x1x768, .f32⟩
  | .hbm, ⟨43, _⟩ => ⟨S6x2048x768, .bf16⟩
  | .hbm, ⟨44, _⟩ => ⟨S6x1x2048, .f32⟩
  | .hbm, ⟨45, _⟩ => ⟨S6x768x2048, .bf16⟩
  | .hbm, ⟨46, _⟩ => ⟨S6x1x768, .f32⟩
  | .hbm, ⟨47, _⟩ => ⟨S6x1x768, .f32⟩
  | .hbm, ⟨48, _⟩ => ⟨S6x1x768, .f32⟩
  | .hbm, ⟨49, _⟩ => ⟨S_, .i32⟩
  | .hbm, ⟨50, _⟩ => ⟨S8x1088x768, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S1x2304x768, .bf16⟩
  | .hbm, ⟨56, _⟩ => ⟨S2304x768, .bf16⟩
  | .hbm, ⟨57, _⟩ => ⟨S_, .i32⟩
  | .hbm, ⟨58, _⟩ => ⟨S_, .i32⟩
  | .hbm, ⟨59, _⟩ => ⟨S1x1x2304, .f32⟩
  | .hbm, ⟨60, _⟩ => ⟨S1x2304, .f32⟩
  | .hbm, ⟨61, _⟩ => ⟨S_, .i32⟩
  | .hbm, ⟨62, _⟩ => ⟨S_, .i32⟩
  | .hbm, ⟨63, _⟩ => ⟨S1x768x768, .bf16⟩
  | .hbm, ⟨64, _⟩ => ⟨S768x768, .bf16⟩
  | .hbm, ⟨65, _⟩ => ⟨S_, .i32⟩
  | .hbm, ⟨66, _⟩ => ⟨S_, .i32⟩
  | .hbm, ⟨67, _⟩ => ⟨S1x1x768, .f32⟩
  | .hbm, ⟨68, _⟩ => ⟨S1x768, .f32⟩
  | .hbm, ⟨69, _⟩ => ⟨S_, .i32⟩
  | .hbm, ⟨70, _⟩ => ⟨S_, .i32⟩
  | .hbm, ⟨71, _⟩ => ⟨S1x1x768, .f32⟩
  | .hbm, ⟨72, _⟩ => ⟨S1x768, .f32⟩
  | .hbm, ⟨73, _⟩ => ⟨S_, .i32⟩
  | .hbm, ⟨74, _⟩ => ⟨S_, .i32⟩
  | .hbm, ⟨75, _⟩ => ⟨S1x1x768, .f32⟩
  | .hbm, ⟨76, _⟩ => ⟨S1x768, .f32⟩
  | .hbm, ⟨77, _⟩ => ⟨S_, .i32⟩
  | .hbm, ⟨78, _⟩ => ⟨S_, .i32⟩
  | .hbm, ⟨79, _⟩ => ⟨S1x2048x768, .bf16⟩
  | .hbm, ⟨80, _⟩ => ⟨S2048x768, .bf16⟩
  | .hbm, ⟨81, _⟩ => ⟨S_, .i32⟩
  | .hbm, ⟨82, _⟩ => ⟨S_, .i32⟩
  | .hbm, ⟨83, _⟩ => ⟨S1x1x2048, .f32⟩
  | .hbm, ⟨84, _⟩ => ⟨S1x2048, .f32⟩
  | .hbm, ⟨85, _⟩ => ⟨S_, .i32⟩
  | .hbm, ⟨86, _⟩ => ⟨S_, .i32⟩
  | .hbm, ⟨87, _⟩ => ⟨S1x768x2048, .bf16⟩
  | .hbm, ⟨88, _⟩ => ⟨S768x2048, .bf16⟩
  | .hbm, ⟨89, _⟩ => ⟨S_, .i32⟩
  | .hbm, ⟨90, _⟩ => ⟨S_, .i32⟩
  | .hbm, ⟨91, _⟩ => ⟨S1x1x768, .f32⟩
  | .hbm, ⟨92, _⟩ => ⟨S1x768, .f32⟩
  | .hbm, ⟨93, _⟩ => ⟨S_, .i32⟩
  | .hbm, ⟨94, _⟩ => ⟨S_, .i32⟩
  | .hbm, ⟨95, _⟩ => ⟨S1x1x768, .f32⟩
  | .hbm, ⟨96, _⟩ => ⟨S1x768, .f32⟩
  | .hbm, ⟨97, _⟩ => ⟨S_, .i32⟩
  | .hbm, ⟨98, _⟩ => ⟨S_, .i32⟩
  | .hbm, ⟨99, _⟩ => ⟨S1x1x768, .f32⟩
  | .hbm, ⟨100, _⟩ => ⟨S1x768, .f32⟩
  | .hbm, ⟨101, _⟩ => ⟨S8x1088x768, .f32⟩
  | .hbm, ⟨102, _⟩ => ⟨S_, .i32⟩
  | .hbm, ⟨103, _⟩ => ⟨S_, .i32⟩
  | .hbm, ⟨104, _⟩ => ⟨S8x64x64, .f32⟩
  | .hbm, ⟨105, _⟩ => ⟨S8x64x601, .f32⟩
  | .hbm, ⟨106, _⟩ => ⟨S8x64x360, .f32⟩
  | .local _ .vmem, ⟨0, _⟩ => ⟨S1x1x1024, .i32⟩
  | .local _ .vmem, ⟨1, _⟩ => ⟨S1x1x1024, .i32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .i32⟩
  | .local _ .vmem, ⟨5, _⟩ => ⟨S1x1x1024, .i32⟩
  | .local _ .vmem, ⟨6, _⟩ => ⟨S64x128, .f32⟩
  | .local _ .vmem, ⟨7, _⟩ => ⟨S360x384, .f32⟩
  | .local _ .vmem, ⟨8, _⟩ => ⟨S1x768, .f32⟩
  | .local _ .vmem, ⟨9, _⟩ => ⟨S1x1088x768, .f32⟩
  | .local _ .vmem, ⟨10, _⟩ => ⟨S1x1088x768, .f32⟩
  | .local _ .vmem, ⟨11, _⟩ => ⟨S1x1088x768, .f32⟩
  | .local _ .vmem, ⟨12, _⟩ => ⟨S1x1088x768, .f32⟩
  | .local _ .vmem, ⟨13, _⟩ => ⟨S2304x768, .bf16⟩
  | .local _ .vmem, ⟨14, _⟩ => ⟨S1x2304, .f32⟩
  | .local _ .vmem, ⟨15, _⟩ => ⟨S768x768, .bf16⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S2048x768, .bf16⟩
  | .local _ .vmem, ⟨20, _⟩ => ⟨S1x2048, .f32⟩
  | .local _ .vmem, ⟨21, _⟩ => ⟨S768x2048, .bf16⟩
  | .local _ .vmem, ⟨22, _⟩ => ⟨S1x768, .f32⟩
  | .local _ .vmem, ⟨23, _⟩ => ⟨S1x768, .f32⟩
  | .local _ .vmem, ⟨24, _⟩ => ⟨S1x768, .f32⟩
  | .local _ .vmem, ⟨25, _⟩ => ⟨S1x1088x768, .f32⟩
  | .local _ .vmem, ⟨26, _⟩ => ⟨S1x1088x768, .f32⟩
  | .local _ .vmem, ⟨27, _⟩ => ⟨S1088x2304, .bf16⟩
  | .local _ .vmem, ⟨28, _⟩ => ⟨S1088x768, .f32⟩
  | .local _ .vmem, ⟨29, _⟩ => ⟨S1088x1088, .f32⟩
  | .local _ .vmem, ⟨30, _⟩ => ⟨S1x64x768, .f32⟩
  | .local _ .vmem, ⟨31, _⟩ => ⟨S1x64x768, .f32⟩
  | .local _ .vmem, ⟨32, _⟩ => ⟨S64x128, .f32⟩
  | .local _ .vmem, ⟨33, _⟩ => ⟨S601x256, .f32⟩
  | .local _ .vmem, ⟨34, _⟩ => ⟨S360x384, .f32⟩
  | .local _ .vmem, ⟨35, _⟩ => ⟨S1x64x64, .f32⟩
  | .local _ .vmem, ⟨36, _⟩ => ⟨S1x64x64, .f32⟩
  | .local _ .vmem, ⟨37, _⟩ => ⟨S1x64x601, .f32⟩
  | .local _ .vmem, ⟨38, _⟩ => ⟨S1x64x601, .f32⟩
  | .local _ .vmem, ⟨39, _⟩ => ⟨S1x64x360, .f32⟩
  | .local _ .vmem, ⟨40, _⟩ => ⟨S1x64x360, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v17_3 : Ref sig .tc := ⟨.hbm, 40, rfl⟩
abbrev main_v17_4 : Ref sig .tc := ⟨.hbm, 41, rfl⟩
abbrev main_v17_5 : Ref sig .tc := ⟨.hbm, 42, rfl⟩
abbrev main_v17_6 : Ref sig .tc := ⟨.hbm, 43, rfl⟩
abbrev main_v17_7 : Ref sig .tc := ⟨.hbm, 44, rfl⟩
abbrev main_v17_8 : Ref sig .tc := ⟨.hbm, 45, rfl⟩
abbrev main_v17_9 : Ref sig .tc := ⟨.hbm, 46, rfl⟩
abbrev main_v17_10 : Ref sig .tc := ⟨.hbm, 47, rfl⟩
abbrev main_v17_11 : Ref sig .tc := ⟨.hbm, 48, rfl⟩
abbrev main_v17_12 : Ref sig .tc := ⟨.hbm, 49, rfl⟩
abbrev main_v17_13 : Ref sig .tc := ⟨.hbm, 50, rfl⟩
abbrev main_while0c_c_13 : Ref sig .tc := ⟨.hbm, 51, rfl⟩
abbrev main_while0c_v19 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_v0 : Ref sig .tc := ⟨.hbm, 55, rfl⟩
abbrev main_while0b_v19 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_v0 : Ref sig .tc := ⟨.hbm, 59, rfl⟩
abbrev main_while0b_v20 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_v0 : Ref sig .tc := ⟨.hbm, 63, rfl⟩
abbrev main_while0b_v21 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_v0 : Ref sig .tc := ⟨.hbm, 67, rfl⟩
abbrev main_while0b_v22 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_v0 : Ref sig .tc := ⟨.hbm, 71, rfl⟩
abbrev main_while0b_v23 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_v0 : Ref sig .tc := ⟨.hbm, 75, rfl⟩
abbrev main_while0b_v24 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_v0 : Ref sig .tc := ⟨.hbm, 79, rfl⟩
abbrev main_while0b_v25 : Ref sig .tc := ⟨.hbm, 80, rfl⟩
abbrev main_while0b_call7_c : Ref sig .tc := ⟨.hbm, 81, rfl⟩
abbrev main_while0b_call7_c_0 : Ref sig .tc := ⟨.hbm, 82, rfl⟩
abbrev main_while0b_call7_v0 : Ref sig .tc := ⟨.hbm, 83, rfl⟩
abbrev main_while0b_v26 : Ref sig .tc := ⟨.hbm, 84, rfl⟩
abbrev main_while0b_call8_c : Ref sig .tc := ⟨.hbm, 85, rfl⟩
abbrev main_while0b_call8_c_0 : Ref sig .tc := ⟨.hbm, 86, rfl⟩
abbrev main_while0b_call8_v0 : Ref sig .tc := ⟨.hbm, 87, rfl⟩
abbrev main_while0b_v27 : Ref sig .tc := ⟨.hbm, 88, rfl⟩
abbrev main_while0b_call9_c : Ref sig .tc := ⟨.hbm, 89, rfl⟩
abbrev main_while0b_call9_c_0 : Ref sig .tc := ⟨.hbm, 90, rfl⟩
abbrev main_while0b_call9_v0 : Ref sig .tc := ⟨.hbm, 91, rfl⟩
abbrev main_while0b_v28 : Ref sig .tc := ⟨.hbm, 92, rfl⟩
abbrev main_while0b_call10_c : Ref sig .tc := ⟨.hbm, 93, rfl⟩
abbrev main_while0b_call10_c_0 : Ref sig .tc := ⟨.hbm, 94, rfl⟩
abbrev main_while0b_call10_v0 : Ref sig .tc := ⟨.hbm, 95, rfl⟩
abbrev main_while0b_v29 : Ref sig .tc := ⟨.hbm, 96, rfl⟩
abbrev main_while0b_call11_c : Ref sig .tc := ⟨.hbm, 97, rfl⟩
abbrev main_while0b_call11_c_0 : Ref sig .tc := ⟨.hbm, 98, rfl⟩
abbrev main_while0b_call11_v0 : Ref sig .tc := ⟨.hbm, 99, rfl⟩
abbrev main_while0b_v30 : Ref sig .tc := ⟨.hbm, 100, rfl⟩
abbrev main_while0b_v31 : Ref sig .tc := ⟨.hbm, 101, rfl⟩
abbrev main_while0b_c_13 : Ref sig .tc := ⟨.hbm, 102, rfl⟩
abbrev main_while0b_v32 : Ref sig .tc := ⟨.hbm, 103, rfl⟩
abbrev main_v18_0 : Ref sig .tc := ⟨.hbm, 104, rfl⟩
abbrev main_v18_1 : Ref sig .tc := ⟨.hbm, 105, rfl⟩
abbrev main_v18_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg13_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem13_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev main_while0_count : Scf.Loop 32 := ⟨0#32, 6#32, 1#32⟩

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S360x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1088x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k1_off1 (k1_t1 : Fin k1_t1_loop.trips) : Fin 3 → Nat :=
  let c0 : Index := 0#32
  let c0_i32 : BitVec 32 := 0#32
  let c1_i32 : BitVec 32 := 1#32
  let arg18 : BitVec 32 := Scf.iv c0_i32 c1_i32 k1_t1
  let c272_i32 : BitVec 32 := 272#32
  let v14 : BitVec 32 := Scalar.muli arg18 c272_i32
  let v15 : Index := Scalar.indexCast v14
  let c0_51 : Index := 0#32
  ![0, v15.toNat, 0]
def k1_off2 (k1_t1 : Fin k1_t1_loop.trips) : Fin 2 → Nat :=
  let c0_i32 : BitVec 32 := 0#32
  let c1_i32 : BitVec 32 := 1#32
  let arg18 : BitVec 32 := Scf.iv c0_i32 c1_i32 k1_t1
  let c272_i32 : BitVec 32 := 272#32
  let v14 : BitVec 32 := Scalar.muli arg18 c272_i32
  let v29 : Index := Scalar.indexCast v14
  let c0_57 : Index := 0#32
  ![v29.toNat, 0]
def k1_off3 (k1_t1 : Fin k1_t1_loop.trips) : Fin 2 → Nat :=
  let c0_i32 : BitVec 32 := 0#32
  let c1_i32 : BitVec 32 := 1#32
  let arg18 : BitVec 32 := Scf.iv c0_i32 c1_i32 k1_t1
  let c272_i32 : BitVec 32 := 272#32
  let v14 : BitVec 32 := Scalar.muli arg18 c272_i32
  let v41 : Index := Scalar.indexCast v14
  let c768_62 : Index := 768#32
  ![v41.toNat, 768]
def k1_off4 (k1_t1 : Fin k1_t1_loop.trips) : Fin 2 → Nat :=
  let c0_i32 : BitVec 32 := 0#32
  let c1_i32 : BitVec 32 := 1#32
  let arg18 : BitVec 32 := Scf.iv c0_i32 c1_i32 k1_t1
  let c272_i32 : BitVec 32 := 272#32
  let v14 : BitVec 32 := Scalar.muli arg18 c272_i32
  let v53 : Index := Scalar.indexCast v14
  let c1536_67 : Index := 1536#32
  ![v53.toNat, 1536]
def k1_off5 (k1_t1 : Fin k1_t1_loop.trips) : Fin 2 → Nat :=
  let c0_i32 : BitVec 32 := 0#32
  let c1_i32 : BitVec 32 := 1#32
  let arg18 : BitVec 32 := Scf.iv c0_i32 c1_i32 k1_t1
  let c272_i32 : BitVec 32 := 272#32
  let v14 : BitVec 32 := Scalar.muli arg18 c272_i32
  let v67 : Index := Scalar.indexCast v14
  let c0_70 : Index := 0#32
  ![v67.toNat, 0]
@[reducible] def k1_t2_loop : Scf.Loop 32 :=
  let c0_i32_1 : BitVec 32 := 0#32
  let c2_i32 : BitVec 32 := 2#32
  let v1 : BitVec 32 := Scalar.addi c0_i32_1 c2_i32
  let c1_i32_2 : BitVec 32 := 1#32
  ⟨c0_i32_1, v1, c1_i32_2⟩
def k1_off6 (k1_t2 : Fin k1_t2_loop.trips) : Fin 2 → Nat :=
  let c0_i32_51 : BitVec 32 := 0#32
  let c0_i32_1 : BitVec 32 := 0#32
  let c1_i32_2 : BitVec 32 := 1#32
  let arg18 : BitVec 32 := Scf.iv c0_i32_1 c1_i32_2 k1_t2
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off7 (k1_t2 : Fin k1_t2_loop.trips) : Fin 2 → Nat :=
  let c0_i32_51 : BitVec 32 := 0#32
  let c0_i32_1 : BitVec 32 := 0#32
  let c1_i32_2 : BitVec 32 := 1#32
  let arg18 : BitVec 32 := Scf.iv c0_i32_1 c1_i32_2 k1_t2
  let c272_i32 : BitVec 32 := 272#32
  let v14 : BitVec 32 := Scalar.muli arg18 c272_i32
  let v15 : BitVec 32 := Scalar.addi c0_i32_51 v14
  let v20 : Index := Scalar.indexCast v15
  let c0_54 : Index := 0#32
  ![v20.toNat, 0]
def k1_off8 (k1_t2 : Fin k1_t2_loop.trips) : Fin 2 → Nat :=
  let c0_i32_51 : BitVec 32 := 0#32
  let c0_i32_1 : BitVec 32 := 0#32
  let c1_i32_2 : BitVec 32 := 1#32
  let arg18 : BitVec 32 := Scf.iv c0_i32_1 c1_i32_2 k1_t2
  let c272_i32 : BitVec 32 := 272#32
  let v14 : BitVec 32 := Scalar.muli arg18 c272_i32
  let v15 : BitVec 32 := Scalar.addi c0_i32_51 v14
  let v37 : Index := Scalar.indexCast v15
  let c0_59 : Index := 0#32
  ![v37.toNat, 0]
def k1_off9 (k1_t2 : Fin k1_t2_loop.trips) : Fin 2 → Nat :=
  let c0_i32_51 : BitVec 32 := 0#32
  let c0_i32_1 : BitVec 32 := 0#32
  let c1_i32_2 : BitVec 32 := 1#32
  let arg18 : BitVec 32 := Scf.iv c0_i32_1 c1_i32_2 k1_t2
  let c272_i32 : BitVec 32 := 272#32
  let v14 : BitVec 32 := Scalar.muli arg18 c272_i32
  let v15 : BitVec 32 := Scalar.addi c0_i32_51 v14
  let v43 : Index := Scalar.indexCast v15
  let c64 : Index := 64#32
  ![v43.toNat, 64]
def k1_off10 (k1_t2 : Fin k1_t2_loop.trips) : Fin 2 → Nat :=
  let c0_i32_51 : BitVec 32 := 0#32
  let c0_i32_1 : BitVec 32 := 0#32
  let c1_i32_2 : BitVec 32 := 1#32
  let arg18 : BitVec 32 := Scf.iv c0_i32_1 c1_i32_2 k1_t2
  let c272_i32 : BitVec 32 := 272#32
  let v14 : BitVec 32 := Scalar.muli arg18 c272_i32
  let v15 : BitVec 32 := Scalar.addi c0_i32_51 v14
  let v60 : Index := Scalar.indexCast v15
  let c64_67 : Index := 64#32
  ![v60.toNat, 64]
@[reducible] def k1_t3_loop : Scf.Loop 32 :=
  let c0_i32_4 : BitVec 32 := 0#32
  let c2_i32_5 : BitVec 32 := 2#32
  let v2 : BitVec 32 := Scalar.addi c0_i32_4 c2_i32_5
  let c1_i32_6 : BitVec 32 := 1#32
  ⟨c0_i32_4, v2, c1_i32_6⟩
def k1_off11 (k1_t3 : Fin k1_t3_loop.trips) : Fin 2 → Nat :=
  let c544_i32 : BitVec 32 := 544#32
  let c0_i32_4 : BitVec 32 := 0#32
  let c1_i32_6 : BitVec 32 := 1#32
  let arg18 : BitVec 32 := Scf.iv c0_i32_4 c1_i32_6 k1_t3
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off12 (k1_t3 : Fin k1_t3_loop.trips) : Fin 2 → Nat :=
  let c544_i32 : BitVec 32 := 544#32
  let c0_i32_4 : BitVec 32 := 0#32
  let c1_i32_6 : BitVec 32 := 1#32
  let arg18 : BitVec 32 := Scf.iv c0_i32_4 c1_i32_6 k1_t3
  let c272_i32 : BitVec 32 := 272#32
  let v14 : BitVec 32 := Scalar.muli arg18 c272_i32
  let v15 : BitVec 32 := Scalar.addi c544_i32 v14
  let v20 : Index := Scalar.indexCast v15
  let c0_53 : Index := 0#32
  ![v20.toNat, 0]
def k1_off13 (k1_t3 : Fin k1_t3_loop.trips) : Fin 2 → Nat :=
  let c544_i32 : BitVec 32 := 544#32
  let c0_i32_4 : BitVec 32 := 0#32
  let c1_i32_6 : BitVec 32 := 1#32
  let arg18 : BitVec 32 := Scf.iv c0_i32_4 c1_i32_6 k1_t3
  let c272_i32 : BitVec 32 := 272#32
  let v14 : BitVec 32 := Scalar.muli arg18 c272_i32
  let v15 : BitVec 32 := Scalar.addi c544_i32 v14
  let v37 : Index := Scalar.indexCast v15
  let c0_58 : Index := 0#32
  ![v37.toNat, 0]
def k1_off14 (k1_t3 : Fin k1_t3_loop.trips) : Fin 2 → Nat :=
  let c544_i32 : BitVec 32 := 544#32
  let c0_i32_4 : BitVec 32 := 0#32
  let c1_i32_6 : BitVec 32 := 1#32
  let arg18 : BitVec 32 := Scf.iv c0_i32_4 c1_i32_6 k1_t3
  let c272_i32 : BitVec 32 := 272#32
  let v14 : BitVec 32 := Scalar.muli arg18 c272_i32
  let v15 : BitVec 32 := Scalar.addi c544_i32 v14
  let v43 : Index := Scalar.indexCast v15
  let c64 : Index := 64#32
  ![v43.toNat, 64]
def k1_off15 (k1_t3 : Fin k1_t3_loop.trips) : Fin 2 → Nat :=
  let c544_i32 : BitVec 32 := 544#32
  let c0_i32_4 : BitVec 32 := 0#32
  let c1_i32_6 : BitVec 32 := 1#32
  let arg18 : BitVec 32 := Scf.iv c0_i32_4 c1_i32_6 k1_t3
  let c272_i32 : BitVec 32 := 272#32
  let v14 : BitVec 32 := Scalar.muli arg18 c272_i32
  let v15 : BitVec 32 := Scalar.addi c544_i32 v14
  let v60 : Index := Scalar.indexCast v15
  let c64_66 : Index := 64#32
  ![v60.toNat, 64]
@[reducible] def k1_t4_loop : Scf.Loop 32 :=
  let c0_i32_8 : BitVec 32 := 0#32
  let c2_i32_9 : BitVec 32 := 2#32
  let v3 : BitVec 32 := Scalar.addi c0_i32_8 c2_i32_9
  let c1_i32_10 : BitVec 32 := 1#32
  ⟨c0_i32_8, v3, c1_i32_10⟩
def k1_off16 (k1_t4 : Fin k1_t4_loop.trips) : Fin 2 → Nat :=
  let c0_i32_51 : BitVec 32 := 0#32
  let c0_i32_8 : BitVec 32 := 0#32
  let c1_i32_10 : BitVec 32 := 1#32
  let arg18 : BitVec 32 := Scf.iv c0_i32_8 c1_i32_10 k1_t4
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off17 (k1_t4 : Fin k1_t4_loop.trips) : Fin 2 → Nat :=
  let c0_i32_51 : BitVec 32 := 0#32
  let c0_i32_8 : BitVec 32 := 0#32
  let c1_i32_10 : BitVec 32 := 1#32
  let arg18 : BitVec 32 := Scf.iv c0_i32_8 c1_i32_10 k1_t4
  let c272_i32 : BitVec 32 := 272#32
  let v14 : BitVec 32 := Scalar.muli arg18 c272_i32
  let v15 : BitVec 32 := Scalar.addi c0_i32_51 v14
  let v20 : Index := Scalar.indexCast v15
  let c128 : Index := 128#32
  ![v20.toNat, 128]
def k1_off18 (k1_t4 : Fin k1_t4_loop.trips) : Fin 2 → Nat :=
  let c0_i32_51 : BitVec 32 := 0#32
  let c0_i32_8 : BitVec 32 := 0#32
  let c1_i32_10 : BitVec 32 := 1#32
  let arg18 : BitVec 32 := Scf.iv c0_i32_8 c1_i32_10 k1_t4
  let c272_i32 : BitVec 32 := 272#32
  let v14 : BitVec 32 := Scalar.muli arg18 c272_i32
  let v15 : BitVec 32 := Scalar.addi c0_i32_51 v14
  let v37 : Index := Scalar.indexCast v15
  let c128_58 : Index := 128#32
  ![v37.toNat, 128]
def k1_off19 (k1_t4 : Fin k1_t4_loop.trips) : Fin 2 → Nat :=
  let c0_i32_51 : BitVec 32 := 0#32
  let c0_i32_8 : BitVec 32 := 0#32
  let c1_i32_10 : BitVec 32 := 1#32
  let arg18 : BitVec 32 := Scf.iv c0_i32_8 c1_i32_10 k1_t4
  let c272_i32 : BitVec 32 := 272#32
  let v14 : BitVec 32 := Scalar.muli arg18 c272_i32
  let v15 : BitVec 32 := Scalar.addi c0_i32_51 v14
  let v43 : Index := Scalar.indexCast v15
  let c192 : Index := 192#32
  ![v43.toNat, 192]
def k1_off20 (k1_t4 : Fin k1_t4_loop.trips) : Fin 2 → Nat :=
  let c0_i32_51 : BitVec 32 := 0#32
  let c0_i32_8 : BitVec 32 := 0#32
  let c1_i32_10 : BitVec 32 := 1#32
  let arg18 : BitVec 32 := Scf.iv c0_i32_8 c1_i32_10 k1_t4
  let c272_i32 : BitVec 32 := 272#32
  let v14 : BitVec 32 := Scalar.muli arg18 c272_i32
  let v15 : BitVec 32 := Scalar.addi c0_i32_51 v14
  let v60 : Index := Scalar.indexCast v15
  let c192_66 : Index := 192#32
  ![v60.toNat, 192]
@[reducible] def k1_t5_loop : Scf.Loop 32 :=
  let c0_i32_12 : BitVec 32 := 0#32
  let c2_i32_13 : BitVec 32 := 2#32
  let v4 : BitVec 32 := Scalar.addi c0_i32_12 c2_i32_13
  let c1_i32_14 : BitVec 32 := 1#32
  ⟨c0_i32_12, v4, c1_i32_14⟩
def k1_off21 (k1_t5 : Fin k1_t5_loop.trips) : Fin 2 → Nat :=
  let c544_i32 : BitVec 32 := 544#32
  let c0_i32_12 : BitVec 32 := 0#32
  let c1_i32_14 : BitVec 32 := 1#32
  let arg18 : BitVec 32 := Scf.iv c0_i32_12 c1_i32_14 k1_t5
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off22 (k1_t5 : Fin k1_t5_loop.trips) : Fin 2 → Nat :=
  let c544_i32 : BitVec 32 := 544#32
  let c0_i32_12 : BitVec 32 := 0#32
  let c1_i32_14 : BitVec 32 := 1#32
  let arg18 : BitVec 32 := Scf.iv c0_i32_12 c1_i32_14 k1_t5
  let c272_i32 : BitVec 32 := 272#32
  let v14 : BitVec 32 := Scalar.muli arg18 c272_i32
  let v15 : BitVec 32 := Scalar.addi c544_i32 v14
  let v20 : Index := Scalar.indexCast v15
  let c128 : Index := 128#32
  ![v20.toNat, 128]
def k1_off23 (k1_t5 : Fin k1_t5_loop.trips) : Fin 2 → Nat :=
  let c544_i32 : BitVec 32 := 544#32
  let c0_i32_12 : BitVec 32 := 0#32
  let c1_i32_14 : BitVec 32 := 1#32
  let arg18 : BitVec 32 := Scf.iv c0_i32_12 c1_i32_14 k1_t5
  let c272_i32 : BitVec 32 := 272#32
  let v14 : BitVec 32 := Scalar.muli arg18 c272_i32
  let v15 : BitVec 32 := Scalar.addi c544_i32 v14
  let v37 : Index := Scalar.indexCast v15
  let c128_57 : Index := 128#32
  ![v37.toNat, 128]
def k1_off24 (k1_t5 : Fin k1_t5_loop.trips) : Fin 2 → Nat :=
  let c544_i32 : BitVec 32 := 544#32
  let c0_i32_12 : BitVec 32 := 0#32
  let c1_i32_14 : BitVec 32 := 1#32
  let arg18 : BitVec 32 := Scf.iv c0_i32_12 c1_i32_14 k1_t5
  let c272_i32 : BitVec 32 := 272#32
  let v14 : BitVec 32 := Scalar.muli arg18 c272_i32
  let v15 : BitVec 32 := Scalar.addi c544_i32 v14
  let v43 : Index := Scalar.indexCast v15
  let c192 : Index := 192#32
  ![v43.toNat, 192]
def k1_off25 (k1_t5 : Fin k1_t5_loop.trips) : Fin 2 → Nat :=
  let c544_i32 : BitVec 32 := 544#32
  let c0_i32_12 : BitVec 32 := 0#32
  let c1_i32_14 : BitVec 32 := 1#32
  let arg18 : BitVec 32 := Scf.iv c0_i32_12 c1_i32_14 k1_t5
  let c272_i32 : BitVec 32 := 272#32
  let v14 : BitVec 32 := Scalar.muli arg18 c272_i32
  let v15 : BitVec 32 := Scalar.addi c544_i32 v14
  let v60 : Index := Scalar.indexCast v15
  let c192_65 : Index := 192#32
  ![v60.toNat, 192]
@[reducible] def k1_t6_loop : Scf.Loop 32 :=
  let c0_i32_16 : BitVec 32 := 0#32
  let c2_i32_17 : BitVec 32 := 2#32
  let v5 : BitVec 32 := Scalar.addi c0_i32_16 c2_i32_17
  let c1_i32_18 : BitVec 32 := 1#32
  ⟨c0_i32_16, v5, c1_i32_18⟩
def k1_off26 (k1_t6 : Fin k1_t6_loop.trips) : Fin 2 → Nat :=
  let c0_i32_51 : BitVec 32 := 0#32
  let c0_i32_16 : BitVec 32 := 0#32
  let c1_i32_18 : BitVec 32 := 1#32
  let arg18 : BitVec 32 := Scf.iv c0_i32_16 c1_i32_18 k1_t6
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off27 (k1_t6 : Fin k1_t6_loop.trips) : Fin 2 → Nat :=
  let c0_i32_51 : BitVec 32 := 0#32
  let c0_i32_16 : BitVec 32 := 0#32
  let c1_i32_18 : BitVec 32 := 1#32
  let arg18 : BitVec 32 := Scf.iv c0_i32_16 c1_i32_18 k1_t6
  let c272_i32 : BitVec 32 := 272#32
  let v14 : BitVec 32 := Scalar.muli arg18 c272_i32
  let v15 : BitVec 32 := Scalar.addi c0_i32_51 v14
  let v20 : Index := Scalar.indexCast v15
  let c256 : Index := 256#32
  ![v20.toNat, 256]
def k1_off28 (k1_t6 : Fin k1_t6_loop.trips) : Fin 2 → Nat :=
  let c0_i32_51 : BitVec 32 := 0#32
  let c0_i32_16 : BitVec 32 := 0#32
  let c1_i32_18 : BitVec 32 := 1#32
  let arg18 : BitVec 32 := Scf.iv c0_i32_16 c1_i32_18 k1_t6
  let c272_i32 : BitVec 32 := 272#32
  let v14 : BitVec 32 := Scalar.muli arg18 c272_i32
  let v15 : BitVec 32 := Scalar.addi c0_i32_51 v14
  let v37 : Index := Scalar.indexCast v15
  let c256_58 : Index := 256#32
  ![v37.toNat, 256]
def k1_off29 (k1_t6 : Fin k1_t6_loop.trips) : Fin 2 → Nat :=
  let c0_i32_51 : BitVec 32 := 0#32
  let c0_i32_16 : BitVec 32 := 0#32
  let c1_i32_18 : BitVec 32 := 1#32
  let arg18 : BitVec 32 := Scf.iv c0_i32_16 c1_i32_18 k1_t6
  let c272_i32 : BitVec 32 := 272#32
  let v14 : BitVec 32 := Scalar.muli arg18 c272_i32
  let v15 : BitVec 32 := Scalar.addi c0_i32_51 v14
  let v43 : Index := Scalar.indexCast v15
  let c320 : Index := 320#32
  ![v43.toNat, 320]
def k1_off30 (k1_t6 : Fin k1_t6_loop.trips) : Fin 2 → Nat :=
  let c0_i32_51 : BitVec 32 := 0#32
  let c0_i32_16 : BitVec 32 := 0#32
  let c1_i32_18 : BitVec 32 := 1#32
  let arg18 : BitVec 32 := Scf.iv c0_i32_16 c1_i32_18 k1_t6
  let c272_i32 : BitVec 32 := 272#32
  let v14 : BitVec 32 := Scalar.muli arg18 c272_i32
  let v15 : BitVec 32 := Scalar.addi c0_i32_51 v14
  let v60 : Index := Scalar.indexCast v15
  let c320_66 : Index := 320#32
  ![v60.toNat, 320]
@[reducible] def k1_t7_loop : Scf.Loop 32 :=
  let c0_i32_20 : BitVec 32 := 0#32
  let c2_i32_21 : BitVec 32 := 2#32
  let v6 : BitVec 32 := Scalar.addi c0_i32_20 c2_i32_21
  let c1_i32_22 : BitVec 32 := 1#32
  ⟨c0_i32_20, v6, c1_i32_22⟩
def k1_off31 (k1_t7 : Fin k1_t7_loop.trips) : Fin 2 → Nat :=
  let c544_i32 : BitVec 32 := 544#32
  let c0_i32_20 : BitVec 32 := 0#32
  let c1_i32_22 : BitVec 32 := 1#32
  let arg18 : BitVec 32 := Scf.iv c0_i32_20 c1_i32_22 k1_t7
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off32 (k1_t7 : Fin k1_t7_loop.trips) : Fin 2 → Nat :=
  let c544_i32 : BitVec 32 := 544#32
  let c0_i32_20 : BitVec 32 := 0#32
  let c1_i32_22 : BitVec 32 := 1#32
  let arg18 : BitVec 32 := Scf.iv c0_i32_20 c1_i32_22 k1_t7
  let c272_i32 : BitVec 32 := 272#32
  let v14 : BitVec 32 := Scalar.muli arg18 c272_i32
  let v15 : BitVec 32 := Scalar.addi c544_i32 v14
  let v20 : Index := Scalar.indexCast v15
  let c256 : Index := 256#32
  ![v20.toNat, 256]
def k1_off33 (k1_t7 : Fin k1_t7_loop.trips) : Fin 2 → Nat :=
  let c544_i32 : BitVec 32 := 544#32
  let c0_i32_20 : BitVec 32 := 0#32
  let c1_i32_22 : BitVec 32 := 1#32
  let arg18 : BitVec 32 := Scf.iv c0_i32_20 c1_i32_22 k1_t7
  let c272_i32 : BitVec 32 := 272#32
  let v14 : BitVec 32 := Scalar.muli arg18 c272_i32
  let v15 : BitVec 32 := Scalar.addi c544_i32 v14
  let v37 : Index := Scalar.indexCast v15
  let c256_57 : Index := 256#32
  ![v37.toNat, 256]
def k1_off34 (k1_t7 : Fin k1_t7_loop.trips) : Fin 2 → Nat :=
  let c544_i32 : BitVec 32 := 544#32
  let c0_i32_20 : BitVec 32 := 0#32
  let c1_i32_22 : BitVec 32 := 1#32
  let arg18 : BitVec 32 := Scf.iv c0_i32_20 c1_i32_22 k1_t7
  let c272_i32 : BitVec 32 := 272#32
  let v14 : BitVec 32 := Scalar.muli arg18 c272_i32
  let v15 : BitVec 32 := Scalar.addi c544_i32 v14
  let v43 : Index := Scalar.indexCast v15
  let c320 : Index := 320#32
  ![v43.toNat, 320]
def k1_off35 (k1_t7 : Fin k1_t7_loop.trips) : Fin 2 → Nat :=
  let c544_i32 : BitVec 32 := 544#32
  let c0_i32_20 : BitVec 32 := 0#32
  let c1_i32_22 : BitVec 32 := 1#32
  let arg18 : BitVec 32 := Scf.iv c0_i32_20 c1_i32_22 k1_t7
  let c272_i32 : BitVec 32 := 272#32
  let v14 : BitVec 32 := Scalar.muli arg18 c272_i32
  let v15 : BitVec 32 := Scalar.addi c544_i32 v14
  let v60 : Index := Scalar.indexCast v15
  let c320_65 : Index := 320#32
  ![v60.toNat, 320]
@[reducible] def k1_t8_loop : Scf.Loop 32 :=
  let c0_i32_24 : BitVec 32 := 0#32
  let c2_i32_25 : BitVec 32 := 2#32
  let v7 : BitVec 32 := Scalar.addi c0_i32_24 c2_i32_25
  let c1_i32_26 : BitVec 32 := 1#32
  ⟨c0_i32_24, v7, c1_i32_26⟩
def k1_off36 (k1_t8 : Fin k1_t8_loop.trips) : Fin 2 → Nat :=
  let c0_i32_51 : BitVec 32 := 0#32
  let c0_i32_24 : BitVec 32 := 0#32
  let c1_i32_26 : BitVec 32 := 1#32
  let arg18 : BitVec 32 := Scf.iv c0_i32_24 c1_i32_26 k1_t8
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off37 (k1_t8 : Fin k1_t8_loop.trips) : Fin 2 → Nat :=
  let c0_i32_51 : BitVec 32 := 0#32
  let c0_i32_24 : BitVec 32 := 0#32
  let c1_i32_26 : BitVec 32 := 1#32
  let arg18 : BitVec 32 := Scf.iv c0_i32_24 c1_i32_26 k1_t8
  let c272_i32 : BitVec 32 := 272#32
  let v14 : BitVec 32 := Scalar.muli arg18 c272_i32
  let v15 : BitVec 32 := Scalar.addi c0_i32_51 v14
  let v20 : Index := Scalar.indexCast v15
  let c384 : Index := 384#32
  ![v20.toNat, 384]
def k1_off38 (k1_t8 : Fin k1_t8_loop.trips) : Fin 2 → Nat :=
  let c0_i32_51 : BitVec 32 := 0#32
  let c0_i32_24 : BitVec 32 := 0#32
  let c1_i32_26 : BitVec 32 := 1#32
  let arg18 : BitVec 32 := Scf.iv c0_i32_24 c1_i32_26 k1_t8
  let c272_i32 : BitVec 32 := 272#32
  let v14 : BitVec 32 := Scalar.muli arg18 c272_i32
  let v15 : BitVec 32 := Scalar.addi c0_i32_51 v14
  let v37 : Index := Scalar.indexCast v15
  let c384_58 : Index := 384#32
  ![v37.toNat, 384]
def k1_off39 (k1_t8 : Fin k1_t8_loop.trips) : Fin 2 → Nat :=
  let c0_i32_51 : BitVec 32 := 0#32
  let c0_i32_24 : BitVec 32 := 0#32
  let c1_i32_26 : BitVec 32 := 1#32
  let arg18 : BitVec 32 := Scf.iv c0_i32_24 c1_i32_26 k1_t8
  let c272_i32 : BitVec 32 := 272#32
  let v14 : BitVec 32 := Scalar.muli arg18 c272_i32
  let v15 : BitVec 32 := Scalar.addi c0_i32_51 v14
  let v43 : Index := Scalar.indexCast v15
  let c448 : Index := 448#32
  ![v43.toNat, 448]
def k1_off40 (k1_t8 : Fin k1_t8_loop.trips) : Fin 2 → Nat :=
  let c0_i32_51 : BitVec 32 := 0#32
  let c0_i32_24 : BitVec 32 := 0#32
  let c1_i32_26 : BitVec 32 := 1#32
  let arg18 : BitVec 32 := Scf.iv c0_i32_24 c1_i32_26 k1_t8
  let c272_i32 : BitVec 32 := 272#32
  let v14 : BitVec 32 := Scalar.muli arg18 c272_i32
  let v15 : BitVec 32 := Scalar.addi c0_i32_51 v14
  let v60 : Index := Scalar.indexCast v15
  let c448_66 : Index := 448#32
  ![v60.toNat, 448]
@[reducible] def k1_t9_loop : Scf.Loop 32 :=
  let c0_i32_28 : BitVec 32 := 0#32
  let c2_i32_29 : BitVec 32 := 2#32
  let v8 : BitVec 32 := Scalar.addi c0_i32_28 c2_i32_29
  let c1_i32_30 : BitVec 32 := 1#32
  ⟨c0_i32_28, v8, c1_i32_30⟩
def k1_off41 (k1_t9 : Fin k1_t9_loop.trips) : Fin 2 → Nat :=
  let c544_i32 : BitVec 32 := 544#32
  let c0_i32_28 : BitVec 32 := 0#32
  let c1_i32_30 : BitVec 32 := 1#32
  let arg18 : BitVec 32 := Scf.iv c0_i32_28 c1_i32_30 k1_t9
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off42 (k1_t9 : Fin k1_t9_loop.trips) : Fin 2 → Nat :=
  let c544_i32 : BitVec 32 := 544#32
  let c0_i32_28 : BitVec 32 := 0#32
  let c1_i32_30 : BitVec 32 := 1#32
  let arg18 : BitVec 32 := Scf.iv c0_i32_28 c1_i32_30 k1_t9
  let c272_i32 : BitVec 32 := 272#32
  let v14 : BitVec 32 := Scalar.muli arg18 c272_i32
  let v15 : BitVec 32 := Scalar.addi c544_i32 v14
  let v20 : Index := Scalar.indexCast v15
  let c384 : Index := 384#32
  ![v20.toNat, 384]
def k1_off43 (k1_t9 : Fin k1_t9_loop.trips) : Fin 2 → Nat :=
  let c544_i32 : BitVec 32 := 544#32
  let c0_i32_28 : BitVec 32 := 0#32
  let c1_i32_30 : BitVec 32 := 1#32
  let arg18 : BitVec 32 := Scf.iv c0_i32_28 c1_i32_30 k1_t9
  let c272_i32 : BitVec 32 := 272#32
  let v14 : BitVec 32 := Scalar.muli arg18 c272_i32
  let v15 : BitVec 32 := Scalar.addi c544_i32 v14
  let v37 : Index := Scalar.indexCast v15
  let c384_57 : Index := 384#32
  ![v37.toNat, 384]
def k1_off44 (k1_t9 : Fin k1_t9_loop.trips) : Fin 2 → Nat :=
  let c544_i32 : BitVec 32 := 544#32
  let c0_i32_28 : BitVec 32 := 0#32
  let c1_i32_30 : BitVec 32 := 1#32
  let arg18 : BitVec 32 := Scf.iv c0_i32_28 c1_i32_30 k1_t9
  let c272_i32 : BitVec 32 := 272#32
  let v14 : BitVec 32 := Scalar.muli arg18 c272_i32
  let v15 : BitVec 32 := Scalar.addi c544_i32 v14
  let v43 : Index := Scalar.indexCast v15
  let c448 : Index := 448#32
  ![v43.toNat, 448]
def k1_off45 (k1_t9 : Fin k1_t9_loop.trips) : Fin 2 → Nat :=
  let c544_i32 : BitVec 32 := 544#32
  let c0_i32_28 : BitVec 32 := 0#32
  let c1_i32_30 : BitVec 32 := 1#32
  let arg18 : BitVec 32 := Scf.iv c0_i32_28 c1_i32_30 k1_t9
  let c272_i32 : BitVec 32 := 272#32
  let v14 : BitVec 32 := Scalar.muli arg18 c272_i32
  let v15 : BitVec 32 := Scalar.addi c544_i32 v14
  let v60 : Index := Scalar.indexCast v15
  let c448_65 : Index := 448#32
  ![v60.toNat, 448]
@[reducible] def k1_t10_loop : Scf.Loop 32 :=
  let c0_i32_32 : BitVec 32 := 0#32
  let c2_i32_33 : BitVec 32 := 2#32
  let v9 : BitVec 32 := Scalar.addi c0_i32_32 c2_i32_33
  let c1_i32_34 : BitVec 32 := 1#32
  ⟨c0_i32_32, v9, c1_i32_34⟩
def k1_off46 (k1_t10 : Fin k1_t10_loop.trips) : Fin 2 → Nat :=
  let c0_i32_51 : BitVec 32 := 0#32
  let c0_i32_32 : BitVec 32 := 0#32
  let c1_i32_34 : BitVec 32 := 1#32
  let arg18 : BitVec 32 := Scf.iv c0_i32_32 c1_i32_34 k1_t10
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off47 (k1_t10 : Fin k1_t10_loop.trips) : Fin 2 → Nat :=
  let c0_i32_51 : BitVec 32 := 0#32
  let c0_i32_32 : BitVec 32 := 0#32
  let c1_i32_34 : BitVec 32 := 1#32
  let arg18 : BitVec 32 := Scf.iv c0_i32_32 c1_i32_34 k1_t10
  let c272_i32 : BitVec 32 := 272#32
  let v14 : BitVec 32 := Scalar.muli arg18 c272_i32
  let v15 : BitVec 32 := Scalar.addi c0_i32_51 v14
  let v20 : Index := Scalar.indexCast v15
  let c512 : Index := 512#32
  ![v20.toNat, 512]
def k1_off48 (k1_t10 : Fin k1_t10_loop.trips) : Fin 2 → Nat :=
  let c0_i32_51 : BitVec 32 := 0#32
  let c0_i32_32 : BitVec 32 := 0#32
  let c1_i32_34 : BitVec 32 := 1#32
  let arg18 : BitVec 32 := Scf.iv c0_i32_32 c1_i32_34 k1_t10
  let c272_i32 : BitVec 32 := 272#32
  let v14 : BitVec 32 := Scalar.muli arg18 c272_i32
  let v15 : BitVec 32 := Scalar.addi c0_i32_51 v14
  let v37 : Index := Scalar.indexCast v15
  let c512_58 : Index := 512#32
  ![v37.toNat, 512]
def k1_off49 (k1_t10 : Fin k1_t10_loop.trips) : Fin 2 → Nat :=
  let c0_i32_51 : BitVec 32 := 0#32
  let c0_i32_32 : BitVec 32 := 0#32
  let c1_i32_34 : BitVec 32 := 1#32
  let arg18 : BitVec 32 := Scf.iv c0_i32_32 c1_i32_34 k1_t10
  let c272_i32 : BitVec 32 := 272#32
  let v14 : BitVec 32 := Scalar.muli arg18 c272_i32
  let v15 : BitVec 32 := Scalar.addi c0_i32_51 v14
  let v43 : Index := Scalar.indexCast v15
  let c576 : Index := 576#32
  ![v43.toNat, 576]
def k1_off50 (k1_t10 : Fin k1_t10_loop.trips) : Fin 2 → Nat :=
  let c0_i32_51 : BitVec 32 := 0#32
  let c0_i32_32 : BitVec 32 := 0#32
  let c1_i32_34 : BitVec 32 := 1#32
  let arg18 : BitVec 32 := Scf.iv c0_i32_32 c1_i32_34 k1_t10
  let c272_i32 : BitVec 32 := 272#32
  let v14 : BitVec 32 := Scalar.muli arg18 c272_i32
  let v15 : BitVec 32 := Scalar.addi c0_i32_51 v14
  let v60 : Index := Scalar.indexCast v15
  let c576_66 : Index := 576#32
  ![v60.toNat, 576]
@[reducible] def k1_t11_loop : Scf.Loop 32 :=
  let c0_i32_36 : BitVec 32 := 0#32
  let c2_i32_37 : BitVec 32 := 2#32
  let v10 : BitVec 32 := Scalar.addi c0_i32_36 c2_i32_37
  let c1_i32_38 : BitVec 32 := 1#32
  ⟨c0_i32_36, v10, c1_i32_38⟩
def k1_off51 (k1_t11 : Fin k1_t11_loop.trips) : Fin 2 → Nat :=
  let c544_i32 : BitVec 32 := 544#32
  let c0_i32_36 : BitVec 32 := 0#32
  let c1_i32_38 : BitVec 32 := 1#32
  let arg18 : BitVec 32 := Scf.iv c0_i32_36 c1_i32_38 k1_t11
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off52 (k1_t11 : Fin k1_t11_loop.trips) : Fin 2 → Nat :=
  let c544_i32 : BitVec 32 := 544#32
  let c0_i32_36 : BitVec 32 := 0#32
  let c1_i32_38 : BitVec 32 := 1#32
  let arg18 : BitVec 32 := Scf.iv c0_i32_36 c1_i32_38 k1_t11
  let c272_i32 : BitVec 32 := 272#32
  let v14 : BitVec 32 := Scalar.muli arg18 c272_i32
  let v15 : BitVec 32 := Scalar.addi c544_i32 v14
  let v20 : Index := Scalar.indexCast v15
  let c512 : Index := 512#32
  ![v20.toNat, 512]
def k1_off53 (k1_t11 : Fin k1_t11_loop.trips) : Fin 2 → Nat :=
  let c544_i32 : BitVec 32 := 544#32
  let c0_i32_36 : BitVec 32 := 0#32
  let c1_i32_38 : BitVec 32 := 1#32
  let arg18 : BitVec 32 := Scf.iv c0_i32_36 c1_i32_38 k1_t11
  let c272_i32 : BitVec 32 := 272#32
  let v14 : BitVec 32 := Scalar.muli arg18 c272_i32
  let v15 : BitVec 32 := Scalar.addi c544_i32 v14
  let v37 : Index := Scalar.indexCast v15
  let c512_57 : Index := 512#32
  ![v37.toNat, 512]
def k1_off54 (k1_t11 : Fin k1_t11_loop.trips) : Fin 2 → Nat :=
  let c544_i32 : BitVec 32 := 544#32
  let c0_i32_36 : BitVec 32 := 0#32
  let c1_i32_38 : BitVec 32 := 1#32
  let arg18 : BitVec 32 := Scf.iv c0_i32_36 c1_i32_38 k1_t11
  let c272_i32 : BitVec 32 := 272#32
  let v14 : BitVec 32 := Scalar.muli arg18 c272_i32
  let v15 : BitVec 32 := Scalar.addi c544_i32 v14
  let v43 : Index := Scalar.indexCast v15
  let c576 : Index := 576#32
  ![v43.toNat, 576]
def k1_off55 (k1_t11 : Fin k1_t11_loop.trips) : Fin 2 → Nat :=
  let c544_i32 : BitVec 32 := 544#32
  let c0_i32_36 : BitVec 32 := 0#32
  let c1_i32_38 : BitVec 32 := 1#32
  let arg18 : BitVec 32 := Scf.iv c0_i32_36 c1_i32_38 k1_t11
  let c272_i32 : BitVec 32 := 272#32
  let v14 : BitVec 32 := Scalar.muli arg18 c272_i32
  let v15 : BitVec 32 := Scalar.addi c544_i32 v14
  let v60 : Index := Scalar.indexCast v15
  let c576_65 : Index := 576#32
  ![v60.toNat, 576]
@[reducible] def k1_t12_loop : Scf.Loop 32 :=
  let c0_i32_40 : BitVec 32 := 0#32
  let c2_i32_41 : BitVec 32 := 2#32
  let v11 : BitVec 32 := Scalar.addi c0_i32_40 c2_i32_41
  let c1_i32_42 : BitVec 32 := 1#32
  ⟨c0_i32_40, v11, c1_i32_42⟩
def k1_off56 (k1_t12 : Fin k1_t12_loop.trips) : Fin 2 → Nat :=
  let c0_i32_51 : BitVec 32 := 0#32
  let c0_i32_40 : BitVec 32 := 0#32
  let c1_i32_42 : BitVec 32 := 1#32
  let arg18 : BitVec 32 := Scf.iv c0_i32_40 c1_i32_42 k1_t12
  let c272_i32 : BitVec 32 := 272#32
  let v14 : BitVec 32 := Scalar.muli arg18 c272_i32
  let v15 : BitVec 32 := Scalar.addi c0_i32_51 v14
  let v16 : Index := Scalar.indexCast v15
  let c0 : Index := 0#32
  ![v16.toNat, 0]
def k1_off57 (k1_t12 : Fin k1_t12_loop.trips) : Fin 2 → Nat :=
  let c0_i32_51 : BitVec 32 := 0#32
  let c0_i32_40 : BitVec 32 := 0#32
  let c1_i32_42 : BitVec 32 := 1#32
  let arg18 : BitVec 32 := Scf.iv c0_i32_40 c1_i32_42 k1_t12
  let c272_i32 : BitVec 32 := 272#32
  let v14 : BitVec 32 := Scalar.muli arg18 c272_i32
  let v15 : BitVec 32 := Scalar.addi c0_i32_51 v14
  let v20 : Index := Scalar.indexCast v15
  let c640 : Index := 640#32
  ![v20.toNat, 640]
def k1_off58 (k1_t12 : Fin k1_t12_loop.trips) : Fin 2 → Nat :=
  let c0_i32_51 : BitVec 32 := 0#32
  let c0_i32_40 : BitVec 32 := 0#32
  let c1_i32_42 : BitVec 32 := 1#32
  let arg18 : BitVec 32 := Scf.iv c0_i32_40 c1_i32_42 k1_t12
  let c272_i32 : BitVec 32 := 272#32
  let v14 : BitVec 32 := Scalar.muli arg18 c272_i32
  let v15 : BitVec 32 := Scalar.addi c0_i32_51 v14
  let v37 : Index := Scalar.indexCast v15
  let c640_58 : Index := 640#32
  ![v37.toNat, 640]
def k1_off59 (k1_t12 : Fin k1_t12_loop.trips) : Fin 2 → Nat :=
  let c0_i32_51 : BitVec 32 := 0#32
  let c0_i32_40 : BitVec 32 := 0#32
  let c1_i32_42 : BitVec 32 := 1#32
  let arg18 : BitVec 32 := Scf.iv c0_i32_40 c1_i32_42 k1_t12
  let c272_i32 : BitVec 32 := 272#32
  let v14 : BitVec 32 := Scalar.muli arg18 c272_i32
  let v15 : BitVec 32 := Scalar.addi c0_i32_51 v14
  let v43 : Index := Scalar.indexCast v15
  let c704 : Index := 704#32
  ![v43.toNat, 704]
def k1_off60 (k1_t12 : Fin k1_t12_loop.trips) : Fin 2 → Nat :=
  let c0_i32_51 : BitVec 32 := 0#32
  let c0_i32_40 : BitVec 32 := 0#32
  let c1_i32_42 : BitVec 32 := 1#32
  let arg18 : BitVec 32 := Scf.iv c0_i32_40 c1_i32_42 k1_t12
  let c272_i32 : BitVec 32 := 272#32
  let v14 : BitVec 32 := Scalar.muli arg18 c272_i32
  let v15 : BitVec 32 := Scalar.addi c0_i32_51 v14
  let v60 : Index := Scalar.indexCast v15
  let c704_66 : Index := 704#32
  ![v60.toNat, 704]
@[reducible] def k1_t13_loop : Scf.Loop 32 :=
  let c0_i32_44 : BitVec 32 := 0#32
  let c2_i32_45 : BitVec 32 := 2#32
  let v12 : BitVec 32 := Scalar.addi c0_i32_44 c2_i32_45
  let c1_i32_46 : BitVec 32 := 1#32
  ⟨c0_i32_44, v12, c1_i32_46⟩
def k1_off61 (k1_t13 : Fin k1_t13_loop.trips) : Fin 2 → Nat :=
  let c544_i32 : BitVec 32 := 544#32
  let c0_i32_44 : BitVec 32 := 0#32
  let c1_i32_46 : BitVec 32 := 1#32
  let arg18 : BitVec 32 := Scf.iv c0_i32_44 c1_i32_46 k1_t13
  let c272_i32 : BitVec 32 := 272#32
  let v14 : BitVec 32 := Scalar.muli arg18 c272_i32
  let v15 : BitVec 32 := Scalar.addi c544_i32 v14
  let v16 : Index := Scalar.indexCast v15
  let c0 : Index := 0#32
  ![v16.toNat, 0]
def k1_off62 (k1_t13 : Fin k1_t13_loop.trips) : Fin 2 → Nat :=
  let c544_i32 : BitVec 32 := 544#32
  let c0_i32_44 : BitVec 32 := 0#32
  let c1_i32_46 : BitVec 32 := 1#32
  let arg18 : BitVec 32 := Scf.iv c0_i32_44 c1_i32_46 k1_t13
  let c272_i32 : BitVec 32 := 272#32
  let v14 : BitVec 32 := Scalar.muli arg18 c272_i32
  let v15 : BitVec 32 := Scalar.addi c544_i32 v14
  let v20 : Index := Scalar.indexCast v15
  let c640 : Index := 640#32
  ![v20.toNat, 640]
def k1_off63 (k1_t13 : Fin k1_t13_loop.trips) : Fin 2 → Nat :=
  let c544_i32 : BitVec 32 := 544#32
  let c0_i32_44 : BitVec 32 := 0#32
  let c1_i32_46 : BitVec 32 := 1#32
  let arg18 : BitVec 32 := Scf.iv c0_i32_44 c1_i32_46 k1_t13
  let c272_i32 : BitVec 32 := 272#32
  let v14 : BitVec 32 := Scalar.muli arg18 c272_i32
  let v15 : BitVec 32 := Scalar.addi c544_i32 v14
  let v37 : Index := Scalar.indexCast v15
  let c640_57 : Index := 640#32
  ![v37.toNat, 640]
def k1_off64 (k1_t13 : Fin k1_t13_loop.trips) : Fin 2 → Nat :=
  let c544_i32 : BitVec 32 := 544#32
  let c0_i32_44 : BitVec 32 := 0#32
  let c1_i32_46 : BitVec 32 := 1#32
  let arg18 : BitVec 32 := Scf.iv c0_i32_44 c1_i32_46 k1_t13
  let c272_i32 : BitVec 32 := 272#32
  let v14 : BitVec 32 := Scalar.muli arg18 c272_i32
  let v15 : BitVec 32 := Scalar.addi c544_i32 v14
  let v43 : Index := Scalar.indexCast v15
  let c704 : Index := 704#32
  ![v43.toNat, 704]
def k1_off65 (k1_t13 : Fin k1_t13_loop.trips) : Fin 2 → Nat :=
  let c544_i32 : BitVec 32 := 544#32
  let c0_i32_44 : BitVec 32 := 0#32
  let c1_i32_46 : BitVec 32 := 1#32
  let arg18 : BitVec 32 := Scf.iv c0_i32_44 c1_i32_46 k1_t13
  let c272_i32 : BitVec 32 := 272#32
  let v14 : BitVec 32 := Scalar.muli arg18 c272_i32
  let v15 : BitVec 32 := Scalar.addi c544_i32 v14
  let v60 : Index := Scalar.indexCast v15
  let c704_65 : Index := 704#32
  ![v60.toNat, 704]
@[reducible] def k1_t14_loop : Scf.Loop 32 :=
  let c0_i32_48 : BitVec 32 := 0#32
  let c8_i32 : BitVec 32 := 8#32
  let v13 : BitVec 32 := Scalar.addi c0_i32_48 c8_i32
  let c1_i32_49 : BitVec 32 := 1#32
  ⟨c0_i32_48, v13, c1_i32_49⟩
def k1_off66 (k1_t14 : Fin k1_t14_loop.trips) : Fin 2 → Nat :=
  let c0_i32_48 : BitVec 32 := 0#32
  let c1_i32_49 : BitVec 32 := 1#32
  let arg18 : BitVec 32 := Scf.iv c0_i32_48 c1_i32_49 k1_t14
  let c136_i32 : BitVec 32 := 136#32
  let v14 : BitVec 32 := Scalar.muli arg18 c136_i32
  let v15 : Index := Scalar.indexCast v14
  let c0 : Index := 0#32
  ![v15.toNat, 0]
def k1_off67 (k1_t14 : Fin k1_t14_loop.trips) : Fin 3 → Nat :=
  let c0_55 : Index := 0#32
  let c0_i32_48 : BitVec 32 := 0#32
  let c1_i32_49 : BitVec 32 := 1#32
  let arg18 : BitVec 32 := Scf.iv c0_i32_48 c1_i32_49 k1_t14
  let c136_i32 : BitVec 32 := 136#32
  let v14 : BitVec 32 := Scalar.muli arg18 c136_i32
  let v25 : Index := Scalar.indexCast v14
  let c0_56 : Index := 0#32
  ![0, v25.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1088x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2304x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2304 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x768 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1x1088x768 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c16_i32 : BitVec 32 := 16#32
  let c0_i32 : BitVec 32 := 0#32
  let c0_i32_0 : BitVec 32 := 0#32
  ![arg0.toNat, c16_i32.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S601x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S360x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x64x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x601 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x360 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "freq" => some (((-((Real.log 10000) * (Real.log 2)⁻¹)) * (1 / 256) : ℝ) : EReal)
  | "mask" => some ⊥
  | _ => none
-- ==== ReferenceIdeal.lean ====
abbrev S8x1024 : Shape := ⟨2, ![8, 1024]⟩
abbrev S64x128 : Shape := ⟨2, ![64, 128]⟩
abbrev S601x256 : Shape := ⟨2, ![601, 256]⟩
abbrev S360x384 : Shape := ⟨2, ![360, 384]⟩
abbrev S768 : Shape := ⟨1, ![768]⟩
abbrev S6x2304x768 : Shape := ⟨3, ![6, 2304, 768]⟩
abbrev S6x2304 : Shape := ⟨2, ![6, 2304]⟩
abbrev S6x768x768 : Shape := ⟨3, ![6, 768, 768]⟩
abbrev S6x768 : Shape := ⟨2, ![6, 768]⟩
abbrev S6x2048x768 : Shape := ⟨3, ![6, 2048, 768]⟩
abbrev S6x2048 : Shape := ⟨2, ![6, 2048]⟩
abbrev S6x768x2048 : Shape := ⟨3, ![6, 768, 2048]⟩
abbrev S_ : Shape := ⟨0, ![]⟩
abbrev S8x1024x1 : Shape := ⟨3, ![8, 1024, 1]⟩
abbrev S8x1024x128 : Shape := ⟨3, ![8, 1024, 128]⟩
abbrev S128 : Shape := ⟨1, ![128]⟩
abbrev S1x1x128 : Shape := ⟨3, ![1, 1, 128]⟩
abbrev S8x1024x128x1 : Shape := ⟨4, ![8, 1024, 128, 1]⟩
abbrev S8x1024x128x2 : Shape := ⟨4, ![8, 1024, 128, 2]⟩
abbrev S8x1024x256 : Shape := ⟨3, ![8, 1024, 256]⟩
abbrev S8x1024x384 : Shape := ⟨3, ![8, 1024, 384]⟩
abbrev S8x1024x768 : Shape := ⟨3, ![8, 1024, 768]⟩
abbrev S8x1088x768 : Shape := ⟨3, ![8, 1088, 768]⟩
abbrev S1088x1088 : Shape := ⟨2, ![1088, 1088]⟩
abbrev S1x2304x768 : Shape := ⟨3, ![1, 2304, 768]⟩
abbrev S2304x768 : Shape := ⟨2, ![2304, 768]⟩
abbrev S1x2304 : Shape := ⟨2, ![1, 2304]⟩
abbrev S2304 : Shape := ⟨1, ![2304]⟩
abbrev S1x768x768 : Shape := ⟨3, ![1, 768, 768]⟩
abbrev S768x768 : Shape := ⟨2, ![768, 768]⟩
abbrev S1x768 : Shape := ⟨2, ![1, 768]⟩
abbrev S1x2048x768 : Shape := ⟨3, ![1, 2048, 768]⟩
abbrev S2048x768 : Shape := ⟨2, ![2048, 768]⟩
abbrev S1x2048 : Shape := ⟨2, ![1, 2048]⟩
abbrev S2048 : Shape := ⟨1, ![2048]⟩
abbrev S1x768x2048 : Shape := ⟨3, ![1, 768, 2048]⟩
abbrev S768x2048 : Shape := ⟨2, ![768, 2048]⟩
abbrev S768x2304 : Shape := ⟨2, ![768, 2304]⟩
abbrev S8x1088x2304 : Shape := ⟨3, ![8, 1088, 2304]⟩
abbrev S1x1x2304 : Shape := ⟨3, ![1, 1, 2304]⟩
abbrev S8x1088x12x64 : Shape := ⟨4, ![8, 1088, 12, 64]⟩
abbrev S8x12x1088x1088 : Shape := ⟨4, ![8, 12, 1088, 1088]⟩
abbrev S1x1x1088x1088 : Shape := ⟨4, ![1, 1, 1088, 1088]⟩
abbrev S8x12x1088 : Shape := ⟨3, ![8, 12, 1088]⟩
abbrev S8x12x1088x1 : Shape := ⟨4, ![8, 12, 1088, 1]⟩
abbrev S8x12x64x1088 : Shape := ⟨4, ![8, 12, 64, 1088]⟩
abbrev S1x1x768 : Shape := ⟨3, ![1, 1, 768]⟩
abbrev S8x1088 : Shape := ⟨2, ![8, 1088]⟩
abbrev S8x1088x1 : Shape := ⟨3, ![8, 1088, 1]⟩
abbrev S8x1088x2048 : Shape := ⟨3, ![8, 1088, 2048]⟩
abbrev S1x1x2048 : Shape := ⟨3, ![1, 1, 2048]⟩
abbrev S8x64x768 : Shape := ⟨3, ![8, 64, 768]⟩
abbrev S8x64x128 : Shape := ⟨3, ![8, 64, 128]⟩
abbrev S128x64 : Shape := ⟨2, ![128, 64]⟩
abbrev S8x64x64 : Shape := ⟨3, ![8, 64, 64]⟩
abbrev S8x64x256 : Shape := ⟨3, ![8, 64, 256]⟩
abbrev S256x601 : Shape := ⟨2, ![256, 601]⟩
abbrev S8x64x601 : Shape := ⟨3, ![8, 64, 601]⟩
abbrev S8x64x384 : Shape := ⟨3, ![8, 64, 384]⟩
abbrev S384x360 : Shape := ⟨2, ![384, 360]⟩
abbrev S8x64x360 : Shape := ⟨3, ![8, 64, 360]⟩

abbrev nBuf : Space → Nat
  | .hbm => 272
  | .vmem => 0
  | .smem => 0
  | _ => 0

abbrev hbmTy0_0 (i : Nat) : BufTy := match i % 128 with
  | 0 => ⟨S8x1024, .i32⟩
  | 1 => ⟨S8x1024, .f32⟩
  | 2 => ⟨S8x1024, .i32⟩
  | 3 => ⟨S64x128, .f32⟩
  | 4 => ⟨S601x256, .f32⟩
  | 5 => ⟨S360x384, .f32⟩
  | 6 => ⟨S768, .f32⟩
  | 7 => ⟨S6x2304x768, .f32⟩
  | 8 => ⟨S6x2304, .f32⟩
  | 9 => ⟨S6x768x768, .f32⟩
  | 10 => ⟨S6x768, .f32⟩
  | 11 => ⟨S6x768, .f32⟩
  | 12 => ⟨S6x768, .f32⟩
  | 13 => ⟨S6x2048x768, .f32⟩
  | 14 => ⟨S6x2048, .f32⟩
  | 15 => ⟨S6x768x2048, .f32⟩
  | 16 => ⟨S6x768, .f32⟩
  | 17 => ⟨S6x768, .f32⟩
  | 18 => ⟨S6x768, .f32⟩
  | 19 => ⟨S_, .i32⟩
  | 20 => ⟨S8x1024, .i32⟩
  | 21 => ⟨S8x1024, .i1⟩
  | 22 => ⟨S_, .i32⟩
  | 23 => ⟨S8x1024, .i32⟩
  | 24 => ⟨S8x1024, .i32⟩
  | 25 => ⟨S8x1024, .i32⟩
  | 26 => ⟨S8x1024x1, .i32⟩
  | 27 => ⟨S8x1024x128, .f32⟩
  | 28 => ⟨S128, .f32⟩
  | 29 => ⟨S128, .f32⟩
  | 30 => ⟨S_, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S8x1024x1, .f32⟩
  | 40 => ⟨S1x1x128, .f32⟩
  | 41 => ⟨S8x1024x128, .f32⟩
  | 42 => ⟨S8x1024x128, .f32⟩
  | 43 => ⟨S8x1024x128, .f32⟩
  | 44 => ⟨S8x1024x128, .f32⟩
  | 45 => ⟨S8x1024x128, .f32⟩
  | 46 => ⟨S8x1024x128x1, .f32⟩
  | 47 => ⟨S8x1024x128x1, .f32⟩
  | 48 => ⟨S8x1024x128x2, .f32⟩
  | 49 => ⟨S8x1024x256, .f32⟩
  | 50 => ⟨S_, .i32⟩
  | 51 => ⟨S8x1024, .i32⟩
  | 52 => ⟨S8x1024, .i1⟩
  | 53 => ⟨S_, .i32⟩
  | 54 => ⟨S8x1024, .i32⟩
  | 55 => ⟨S8x1024, .i32⟩
  | 56 => ⟨S8x1024, .i32⟩
  | 57 => ⟨S8x1024x1, .i32⟩
  | 58 => ⟨S8x1024x384, .f32⟩
  | 59 => ⟨S8x1024x768, .f32⟩
  | 60 => ⟨S_, .f32⟩
  | 61 => ⟨S8x1088x768, .f32⟩
  | 62 => ⟨S8x1088x768, .i32⟩
  | 63 => ⟨S_, .i32⟩
  | 64 => ⟨S8x1088x768, .i32⟩
  | 65 => ⟨S8x1088x768, .i1⟩
  | 66 => ⟨S8x1088x768, .f32⟩
  | 67 => ⟨S8x1088x768, .f32⟩
  | 68 => ⟨S1088x1088, .i32⟩
  | 69 => ⟨S1088x1088, .i32⟩
  | 70 => ⟨S1088x1088, .i1⟩
  | 71 => ⟨S_, .i32⟩
  | 72 => ⟨S1088x1088, .i32⟩
  | 73 => ⟨S1088x1088, .i1⟩
  | 74 => ⟨S_, .i32⟩
  | 75 => ⟨S1088x1088, .i32⟩
  | 76 => ⟨S1088x1088, .i1⟩
  | 77 => ⟨S1088x1088, .i1⟩
  | 78 => ⟨S1088x1088, .i1⟩
  | 79 => ⟨S_, .f32⟩
  | 80 => ⟨S_, .f32⟩
  | 81 => ⟨S1088x1088, .f32⟩
  | 82 => ⟨S1088x1088, .f32⟩
  | 83 => ⟨S1088x1088, .f32⟩
  | 84 => ⟨S1088x1088, .f32⟩
  | 85 => ⟨S_, .f32⟩
  | 86 => ⟨S_, .f32⟩
  | 87 => ⟨S_, .f32⟩
  | 88 => ⟨S_, .f32⟩
  | 89 => ⟨S_, .i32⟩
  | 90 => ⟨S6x2304x768, .f32⟩
  | 91 => ⟨S6x2304, .f32⟩
  | 92 => ⟨S6x768x768, .f32⟩
  | 93 => ⟨S6x768, .f32⟩
  | 94 => ⟨S6x768, .f32⟩
  | 95 => ⟨S6x768, .f32⟩
  | 96 => ⟨S6x2048x768, .f32⟩
  | 97 => ⟨S6x2048, .f32⟩
  | 98 => ⟨S6x768x2048, .f32⟩
  | 99 => ⟨S6x768, .f32⟩
  | 100 => ⟨S6x768, .f32⟩
  | 101 => ⟨S6x768, .f32⟩
  | 102 => ⟨S_, .f32⟩
  | 103 => ⟨S1088x1088, .f32⟩
  | 104 => ⟨S_, .i32⟩
  | 105 => ⟨S8x1088x768, .f32⟩
  | 106 => ⟨S_, .i32⟩
  | 107 => ⟨S_, .i1⟩
  | 108 => ⟨S_, .i32⟩
  | 109 => ⟨S_, .i32⟩
  | 110 => ⟨S1x2304x768, .f32⟩
  | 111 => ⟨S2304x768, .f32⟩
  | 112 => ⟨S_, .i32⟩
  | 113 => ⟨S1x2304, .f32⟩
  | 114 => ⟨S2304, .f32⟩
  | 115 => ⟨S_, .i32⟩
  | 116 => ⟨S_, .i32⟩
  | 117 => ⟨S1x768x768, .f32⟩
  | 118 => ⟨S768x768, .f32⟩
  | 119 => ⟨S_, .i32⟩
  | 120 => ⟨S1x768, .f32⟩
  | 121 => ⟨S768, .f32⟩
  | 122 => ⟨S_, .i32⟩
  | 123 => ⟨S1x768, .f32⟩
  | 124 => ⟨S768, .f32⟩
  | 125 => ⟨S_, .i32⟩
  | 126 => ⟨S1x768, .f32⟩
  | 127 => ⟨S768, .f32⟩
  | _ => ⟨S8x1024, .i32⟩

abbrev hbmTy0_1 (i : Nat) : BufTy := match i % 128 with
  | 0 => ⟨S_, .i32⟩
  | 1 => ⟨S_, .i32⟩
  | 2 => ⟨S1x2048x768, .f32⟩
  | 3 => ⟨S2048x768, .f32⟩
  | 4 => ⟨S_, .i32⟩
  | 5 => ⟨S1x2048, .f32⟩
  | 6 => ⟨S2048, .f32⟩
  | 7 => ⟨S_, .i32⟩
  | 8 => ⟨S_, .i32⟩
  | 9 => ⟨S1x768x2048, .f32⟩
  | 10 => ⟨S768x2048, .f32⟩
  | 11 => ⟨S_, .i32⟩
  | 12 => ⟨S1x768, .f32⟩
  | 13 => ⟨S768, .f32⟩
  | 14 => ⟨S_, .i32⟩
  | 15 => ⟨S1x768, .f32⟩
  | 16 => ⟨S768, .f32⟩
  | 17 => ⟨S_, .i32⟩
  | 18 => ⟨S1x768, .f32⟩
  | 19 => ⟨S768, .f32⟩
  | 20 => ⟨S768x2304, .f32⟩
  | 21 => ⟨S8x1088x2304, .f32⟩
  | 22 => ⟨S1x1x2304, .f32⟩
  | 23 => ⟨S8x1088x2304, .f32⟩
  | 24 => ⟨S8x1088x2304, .f32⟩
  | 25 => ⟨S8x1088x768, .f32⟩
  | 26 => ⟨S8x1088x768, .f32⟩
  | 27 => ⟨S8x1088x768, .f32⟩
  | 28 => ⟨S8x1088x12x64, .f32⟩
  | 29 => ⟨S8x1088x12x64, .f32⟩
  | 30 => ⟨S8x1088x12x64, .f32⟩
  | 31 => ⟨S8x12x1088x1088, .f32⟩
  | 32 => ⟨S8x12x1088x1088, .f32⟩
  | 33 => ⟨S8x12x1088x1088, .f32⟩
  | 34 => ⟨S1x1x1088x1088, .f32⟩
  | 35 => ⟨S8x12x1088x1088, .f32⟩
  | 36 => ⟨S8x12x1088x1088, .f32⟩
  | 37 => ⟨S_, .f32⟩
  | 38 => ⟨S8x12x1088, .f32⟩
  | 39 => ⟨S8x12x1088x1, .f32⟩
  | 40 => ⟨S8x12x1088x1088, .f32⟩
  | 41 => ⟨S8x12x1088x1088, .f32⟩
  | 42 => ⟨S8x12x1088x1088, .f32⟩
  | 43 => ⟨S_, .f32⟩
  | 44 => ⟨S8x12x1088, .f32⟩
  | 45 => ⟨S8x12x1088x1, .f32⟩
  | 46 => ⟨S_, .f32⟩
  | 47 => ⟨S8x12x1088x1, .f32⟩
  | 48 => ⟨S8x12x1088x1, .f32⟩
  | 49 => ⟨S8x12x1088x1088, .f32⟩
  | 50 => ⟨S8x12x1088x1088, .f32⟩
  | 51 => ⟨S8x12x64x1088, .f32⟩
  | 52 => ⟨S8x1088x12x64, .f32⟩
  | 53 => ⟨S8x1088x768, .f32⟩
  | 54 => ⟨S768x768, .f32⟩
  | 55 => ⟨S8x1088x768, .f32⟩
  | 56 => ⟨S1x1x768, .f32⟩
  | 57 => ⟨S8x1088x768, .f32⟩
  | 58 => ⟨S8x1088x768, .f32⟩
  | 59 => ⟨S8x1088x768, .f32⟩
  | 60 => ⟨S_, .f32⟩
  | 61 => ⟨S8x1088, .f32⟩
  | 62 => ⟨S8x1088x1, .f32⟩
  | 63 => ⟨S_, .f32⟩
  | 64 => ⟨S8x1088x1, .f32⟩
  | 65 => ⟨S8x1088x1, .f32⟩
  | 66 => ⟨S8x1088x768, .f32⟩
  | 67 => ⟨S8x1088x768, .f32⟩
  | 68 => ⟨S8x1088x768, .f32⟩
  | 69 => ⟨S_, .f32⟩
  | 70 => ⟨S8x1088, .f32⟩
  | 71 => ⟨S8x1088x1, .f32⟩
  | 72 => ⟨S_, .f32⟩
  | 73 => ⟨S8x1088x1, .f32⟩
  | 74 => ⟨S8x1088x1, .f32⟩
  | 75 => ⟨S8x1088x768, .f32⟩
  | 76 => ⟨S8x1088x768, .f32⟩
  | 77 => ⟨S_, .f32⟩
  | 78 => ⟨S8x1088x1, .f32⟩
  | 79 => ⟨S8x1088x1, .f32⟩
  | 80 => ⟨S8x1088x1, .f32⟩
  | 81 => ⟨S8x1088x768, .f32⟩
  | 82 => ⟨S8x1088x768, .f32⟩
  | 83 => ⟨S1x1x768, .f32⟩
  | 84 => ⟨S8x1088x768, .f32⟩
  | 85 => ⟨S8x1088x768, .f32⟩
  | 86 => ⟨S1x1x768, .f32⟩
  | 87 => ⟨S8x1088x768, .f32⟩
  | 88 => ⟨S8x1088x768, .f32⟩
  | 89 => ⟨S768x2048, .f32⟩
  | 90 => ⟨S8x1088x2048, .f32⟩
  | 91 => ⟨S1x1x2048, .f32⟩
  | 92 => ⟨S8x1088x2048, .f32⟩
  | 93 => ⟨S8x1088x2048, .f32⟩
  | 94 => ⟨S_, .f32⟩
  | 95 => ⟨S8x1088x2048, .f32⟩
  | 96 => ⟨S8x1088x2048, .f32⟩
  | 97 => ⟨S2048x768, .f32⟩
  | 98 => ⟨S8x1088x768, .f32⟩
  | 99 => ⟨S1x1x768, .f32⟩
  | 100 => ⟨S8x1088x768, .f32⟩
  | 101 => ⟨S8x1088x768, .f32⟩
  | 102 => ⟨S8x1088x768, .f32⟩
  | 103 => ⟨S_, .f32⟩
  | 104 => ⟨S8x1088, .f32⟩
  | 105 => ⟨S8x1088x1, .f32⟩
  | 106 => ⟨S_, .f32⟩
  | 107 => ⟨S8x1088x1, .f32⟩
  | 108 => ⟨S8x1088x1, .f32⟩
  | 109 => ⟨S8x1088x768, .f32⟩
  | 110 => ⟨S8x1088x768, .f32⟩
  | 111 => ⟨S8x1088x768, .f32⟩
  | 112 => ⟨S_, .f32⟩
  | 113 => ⟨S8x1088, .f32⟩
  | 114 => ⟨S8x1088x1, .f32⟩
  | 115 => ⟨S_, .f32⟩
  | 116 => ⟨S8x1088x1, .f32⟩
  | 117 => ⟨S8x1088x1, .f32⟩
  | 118 => ⟨S8x1088x768, .f32⟩
  | 119 => ⟨S8x1088x768, .f32⟩
  | 120 => ⟨S_, .f32⟩
  | 121 => ⟨S8x1088x1, .f32⟩
  | 122 => ⟨S8x1088x1, .f32⟩
  | 123 => ⟨S8x1088x1, .f32⟩
  | 124 => ⟨S8x1088x768, .f32⟩
  | 125 => ⟨S8x1088x768, .f32⟩
  | 126 => ⟨S1x1x768, .f32⟩
  | 127 => ⟨S8x1088x768, .f32⟩
  | _ => ⟨S8x1024, .i32⟩

abbrev hbmTy0_2 (i : Nat) : BufTy := match i % 128 with
  | 0 => ⟨S8x1088x768, .f32⟩
  | 1 => ⟨S1x1x768, .f32⟩
  | 2 => ⟨S8x1088x768, .f32⟩
  | 3 => ⟨S8x1088x768, .f32⟩
  | 4 => ⟨S_, .i32⟩
  | 5 => ⟨S_, .i32⟩
  | 6 => ⟨S8x64x768, .f32⟩
  | 7 => ⟨S8x64x128, .f32⟩
  | 8 => ⟨S128x64, .f32⟩
  | 9 => ⟨S8x64x64, .f32⟩
  | 10 => ⟨S8x64x256, .f32⟩
  | 11 => ⟨S256x601, .f32⟩
  | 12 => ⟨S8x64x601, .f32⟩
  | 13 => ⟨S8x64x384, .f32⟩
  | 14 => ⟨S384x360, .f32⟩
  | 15 => ⟨S8x64x360, .f32⟩
  | _ => ⟨S8x1024, .i32⟩

abbrev hbmTy (i : Nat) : BufTy := match i / 128 with
  | 0 => hbmTy0_0 i
  | 1 => hbmTy0_1 i
  | 2 => hbmTy0_2 i
  | _ => ⟨S8x1024, .i32⟩

abbrev bufTy : (tb : Table) → Fin (tcTables nBuf tb) → BufTy
  | .hbm, ⟨i, _⟩ => hbmTy i
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_cst_10 : Ref sig .tc := ⟨.hbm, 80, rfl⟩
abbrev main_call0_v0 : Ref sig .tc := ⟨.hbm, 81, rfl⟩
abbrev main_call0_v1 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_c_13 : Ref sig .tc := ⟨.hbm, 89, rfl⟩
abbrev main_v53_0 : Ref sig .tc := ⟨.hbm, 90, rfl⟩
abbrev main_v53_1 : Ref sig .tc := ⟨.hbm, 91, rfl⟩
abbrev main_v53_2 : Ref sig .tc := ⟨.hbm, 92, rfl⟩
abbrev main_v53_3 : Ref sig .tc := ⟨.hbm, 93, rfl⟩
abbrev main_v53_4 : Ref sig .tc := ⟨.hbm, 94, rfl⟩
abbrev main_v53_5 : Ref sig .tc := ⟨.hbm, 95, rfl⟩
abbrev main_v53_6 : Ref sig .tc := ⟨.hbm, 96, rfl⟩
abbrev main_v53_7 : Ref sig .tc := ⟨.hbm, 97, rfl⟩
abbrev main_v53_8 : Ref sig .tc := ⟨.hbm, 98, rfl⟩
abbrev main_v53_9 : Ref sig .tc := ⟨.hbm, 99, rfl⟩
abbrev main_v53_10 : Ref sig .tc := ⟨.hbm, 100, rfl⟩
abbrev main_v53_11 : Ref sig .tc := ⟨.hbm, 101, rfl⟩
abbrev main_v53_12 : Ref sig .tc := ⟨.hbm, 102, rfl⟩
abbrev main_v53_13 : Ref sig .tc := ⟨.hbm, 103, rfl⟩
abbrev main_v53_14 : Ref sig .tc := ⟨.hbm, 104, rfl⟩
abbrev main_v53_15 : Ref sig .tc := ⟨.hbm, 105, rfl⟩
abbrev main_while0c_c_29 : Ref sig .tc := ⟨.hbm, 106, rfl⟩
abbrev main_while0c_v64 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_v0 : Ref sig .tc := ⟨.hbm, 110, rfl⟩
abbrev main_while0b_v64 : Ref sig .tc := ⟨.hbm, 111, rfl⟩
abbrev main_while0b_call2_c : Ref sig .tc := ⟨.hbm, 112, rfl⟩
abbrev main_while0b_call2_v0 : Ref sig .tc := ⟨.hbm, 113, rfl⟩
abbrev main_while0b_v65 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_v0 : Ref sig .tc := ⟨.hbm, 117, rfl⟩
abbrev main_while0b_v66 : Ref sig .tc := ⟨.hbm, 118, rfl⟩
abbrev main_while0b_call4_c : Ref sig .tc := ⟨.hbm, 119, rfl⟩
abbrev main_while0b_call4_v0 : Ref sig .tc := ⟨.hbm, 120, rfl⟩
abbrev main_while0b_v67 : Ref sig .tc := ⟨.hbm, 121, rfl⟩
abbrev main_while0b_call5_c : Ref sig .tc := ⟨.hbm, 122, rfl⟩
abbrev main_while0b_call5_v0 : Ref sig .tc := ⟨.hbm, 123, rfl⟩
abbrev main_while0b_v68 : Ref sig .tc := ⟨.hbm, 124, rfl⟩
abbrev main_while0b_call6_c : Ref sig .tc := ⟨.hbm, 125, rfl⟩
abbrev main_while0b_call6_v0 : Ref sig .tc := ⟨.hbm, 126, rfl⟩
abbrev main_while0b_v69 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_v0 : Ref sig .tc := ⟨.hbm, 130, rfl⟩
abbrev main_while0b_v70 : Ref sig .tc := ⟨.hbm, 131, rfl⟩
abbrev main_while0b_call8_c : Ref sig .tc := ⟨.hbm, 132, rfl⟩
abbrev main_while0b_call8_v0 : Ref sig .tc := ⟨.hbm, 133, rfl⟩
abbrev main_while0b_v71 : Ref sig .tc := ⟨.hbm, 134, rfl⟩
abbrev main_while0b_call9_c : Ref sig .tc := ⟨.hbm, 135, rfl⟩
abbrev main_while0b_call9_c_0 : Ref sig .tc := ⟨.hbm, 136, rfl⟩
abbrev main_while0b_call9_v0 : Ref sig .tc := ⟨.hbm, 137, rfl⟩
abbrev main_while0b_v72 : Ref sig .tc := ⟨.hbm, 138, rfl⟩
abbrev main_while0b_call10_c : Ref sig .tc := ⟨.hbm, 139, rfl⟩
abbrev main_while0b_call10_v0 : Ref sig .tc := ⟨.hbm, 140, rfl⟩
abbrev main_while0b_v73 : Ref sig .tc := ⟨.hbm, 141, rfl⟩
abbrev main_while0b_call11_c : Ref sig .tc := ⟨.hbm, 142, rfl⟩
abbrev main_while0b_call11_v0 : Ref sig .tc := ⟨.hbm, 143, rfl⟩
abbrev main_while0b_v74 : Ref sig .tc := ⟨.hbm, 144, rfl⟩
abbrev main_while0b_call12_c : Ref sig .tc := ⟨.hbm, 145, rfl⟩
abbrev main_while0b_call12_v0 : Ref sig .tc := ⟨.hbm, 146, rfl⟩
abbrev main_while0b_v75 : Ref sig .tc := ⟨.hbm, 147, rfl⟩
abbrev main_while0b_v76 : Ref sig .tc := ⟨.hbm, 148, rfl⟩
abbrev main_while0b_v77 : Ref sig .tc := ⟨.hbm, 149, rfl⟩
abbrev main_while0b_v78 : Ref sig .tc := ⟨.hbm, 150, rfl⟩
abbrev main_while0b_v79 : Ref sig .tc := ⟨.hbm, 151, rfl⟩
abbrev main_while0b_v80 : Ref sig .tc := ⟨.hbm, 152, rfl⟩
abbrev main_while0b_v81 : Ref sig .tc := ⟨.hbm, 153, rfl⟩
abbrev main_while0b_v82 : Ref sig .tc := ⟨.hbm, 154, rfl⟩
abbrev main_while0b_v83 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_v89 : Ref sig .tc := ⟨.hbm, 161, rfl⟩
abbrev main_while0b_v90 : Ref sig .tc := ⟨.hbm, 162, rfl⟩
abbrev main_while0b_v91 : Ref sig .tc := ⟨.hbm, 163, rfl⟩
abbrev main_while0b_v92 : Ref sig .tc := ⟨.hbm, 164, rfl⟩
abbrev main_while0b_cst_29 : Ref sig .tc := ⟨.hbm, 165, rfl⟩
abbrev main_while0b_v93 : Ref sig .tc := ⟨.hbm, 166, rfl⟩
abbrev main_while0b_v94 : Ref sig .tc := ⟨.hbm, 167, rfl⟩
abbrev main_while0b_v95 : Ref sig .tc := ⟨.hbm, 168, rfl⟩
abbrev main_while0b_v96 : Ref sig .tc := ⟨.hbm, 169, rfl⟩
abbrev main_while0b_v97 : Ref sig .tc := ⟨.hbm, 170, rfl⟩
abbrev main_while0b_cst_30 : Ref sig .tc := ⟨.hbm, 171, rfl⟩
abbrev main_while0b_v98 : Ref sig .tc := ⟨.hbm, 172, rfl⟩
abbrev main_while0b_v99 : Ref sig .tc := ⟨.hbm, 173, rfl⟩
abbrev main_while0b_cst_31 : Ref sig .tc := ⟨.hbm, 174, rfl⟩
abbrev main_while0b_v100 : Ref sig .tc := ⟨.hbm, 175, rfl⟩
abbrev main_while0b_v101 : Ref sig .tc := ⟨.hbm, 176, rfl⟩
abbrev main_while0b_v102 : Ref sig .tc := ⟨.hbm, 177, rfl⟩
abbrev main_while0b_v103 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_v108 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_cst_32 : Ref sig .tc := ⟨.hbm, 188, rfl⟩
abbrev main_while0b_v113 : Ref sig .tc := ⟨.hbm, 189, rfl⟩
abbrev main_while0b_v114 : Ref sig .tc := ⟨.hbm, 190, rfl⟩
abbrev main_while0b_cst_33 : Ref sig .tc := ⟨.hbm, 191, rfl⟩
abbrev main_while0b_v115 : Ref sig .tc := ⟨.hbm, 192, rfl⟩
abbrev main_while0b_v116 : Ref sig .tc := ⟨.hbm, 193, rfl⟩
abbrev main_while0b_v117 : Ref sig .tc := ⟨.hbm, 194, rfl⟩
abbrev main_while0b_v118 : Ref sig .tc := ⟨.hbm, 195, rfl⟩
abbrev main_while0b_v119 : Ref sig .tc := ⟨.hbm, 196, rfl⟩
abbrev main_while0b_cst_34 : Ref sig .tc := ⟨.hbm, 197, rfl⟩
abbrev main_while0b_v120 : Ref sig .tc := ⟨.hbm, 198, rfl⟩
abbrev main_while0b_v121 : Ref sig .tc := ⟨.hbm, 199, rfl⟩
abbrev main_while0b_cst_35 : Ref sig .tc := ⟨.hbm, 200, rfl⟩
abbrev main_while0b_v122 : Ref sig .tc := ⟨.hbm, 201, rfl⟩
abbrev main_while0b_v123 : Ref sig .tc := ⟨.hbm, 202, rfl⟩
abbrev main_while0b_v124 : Ref sig .tc := ⟨.hbm, 203, rfl⟩
abbrev main_while0b_v125 : Ref sig .tc := ⟨.hbm, 204, rfl⟩
abbrev main_while0b_cst_36 : Ref sig .tc := ⟨.hbm, 205, rfl⟩
abbrev main_while0b_v126 : Ref sig .tc := ⟨.hbm, 206, rfl⟩
abbrev main_while0b_v127 : Ref sig .tc := ⟨.hbm, 207, rfl⟩
abbrev main_while0b_v128 : Ref sig .tc := ⟨.hbm, 208, rfl⟩
abbrev main_while0b_v129 : Ref sig .tc := ⟨.hbm, 209, rfl⟩
abbrev main_while0b_v130 : Ref sig .tc := ⟨.hbm, 210, rfl⟩
abbrev main_while0b_v131 : Ref sig .tc := ⟨.hbm, 211, rfl⟩
abbrev main_while0b_v132 : Ref sig .tc := ⟨.hbm, 212, rfl⟩
abbrev main_while0b_v133 : Ref sig .tc := ⟨.hbm, 213, rfl⟩
abbrev main_while0b_v134 : Ref sig .tc := ⟨.hbm, 214, rfl⟩
abbrev main_while0b_v135 : Ref sig .tc := ⟨.hbm, 215, rfl⟩
abbrev main_while0b_v136 : Ref sig .tc := ⟨.hbm, 216, rfl⟩
abbrev main_while0b_v137 : Ref sig .tc := ⟨.hbm, 217, rfl⟩
abbrev main_while0b_v138 : Ref sig .tc := ⟨.hbm, 218, rfl⟩
abbrev main_while0b_v139 : Ref sig .tc := ⟨.hbm, 219, rfl⟩
abbrev main_while0b_v140 : Ref sig .tc := ⟨.hbm, 220, rfl⟩
abbrev main_while0b_v141 : Ref sig .tc := ⟨.hbm, 221, rfl⟩
abbrev main_while0b_call13_cst : Ref sig .tc := ⟨.hbm, 222, rfl⟩
abbrev main_while0b_call13_v0 : Ref sig .tc := ⟨.hbm, 223, rfl⟩
abbrev main_while0b_v142 : Ref sig .tc := ⟨.hbm, 224, rfl⟩
abbrev main_while0b_v143 : Ref sig .tc := ⟨.hbm, 225, rfl⟩
abbrev main_while0b_v144 : Ref sig .tc := ⟨.hbm, 226, rfl⟩
abbrev main_while0b_v145 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_cst_37 : Ref sig .tc := ⟨.hbm, 231, rfl⟩
abbrev main_while0b_v149 : Ref sig .tc := ⟨.hbm, 232, rfl⟩
abbrev main_while0b_v150 : Ref sig .tc := ⟨.hbm, 233, rfl⟩
abbrev main_while0b_cst_38 : Ref sig .tc := ⟨.hbm, 234, rfl⟩
abbrev main_while0b_v151 : Ref sig .tc := ⟨.hbm, 235, rfl⟩
abbrev main_while0b_v152 : Ref sig .tc := ⟨.hbm, 236, rfl⟩
abbrev main_while0b_v153 : Ref sig .tc := ⟨.hbm, 237, rfl⟩
abbrev main_while0b_v154 : Ref sig .tc := ⟨.hbm, 238, rfl⟩
abbrev main_while0b_v155 : Ref sig .tc := ⟨.hbm, 239, rfl⟩
abbrev main_while0b_cst_39 : Ref sig .tc := ⟨.hbm, 240, rfl⟩
abbrev main_while0b_v156 : Ref sig .tc := ⟨.hbm, 241, rfl⟩
abbrev main_while0b_v157 : Ref sig .tc := ⟨.hbm, 242, rfl⟩
abbrev main_while0b_cst_40 : Ref sig .tc := ⟨.hbm, 243, rfl⟩
abbrev main_while0b_v158 : Ref sig .tc := ⟨.hbm, 244, rfl⟩
abbrev main_while0b_v159 : Ref sig .tc := ⟨.hbm, 245, rfl⟩
abbrev main_while0b_v160 : Ref sig .tc := ⟨.hbm, 246, rfl⟩
abbrev main_while0b_v161 : Ref sig .tc := ⟨.hbm, 247, rfl⟩
abbrev main_while0b_cst_41 : Ref sig .tc := ⟨.hbm, 248, rfl⟩
abbrev main_while0b_v162 : Ref sig .tc := ⟨.hbm, 249, rfl⟩
abbrev main_while0b_v163 : Ref sig .tc := ⟨.hbm, 250, rfl⟩
abbrev main_while0b_v164 : Ref sig .tc := ⟨.hbm, 251, rfl⟩
abbrev main_while0b_v165 : Ref sig .tc := ⟨.hbm, 252, rfl⟩
abbrev main_while0b_v166 : Ref sig .tc := ⟨.hbm, 253, rfl⟩
abbrev main_while0b_v167 : Ref sig .tc := ⟨.hbm, 254, rfl⟩
abbrev main_while0b_v168 : Ref sig .tc := ⟨.hbm, 255, rfl⟩
abbrev main_while0b_v169 : Ref sig .tc := ⟨.hbm, 256, rfl⟩
abbrev main_while0b_v170 : Ref sig .tc := ⟨.hbm, 257, rfl⟩
abbrev main_while0b_v171 : Ref sig .tc := ⟨.hbm, 258, rfl⟩
abbrev main_while0b_v172 : Ref sig .tc := ⟨.hbm, 259, rfl⟩
abbrev main_while0b_c_42 : Ref sig .tc := ⟨.hbm, 260, rfl⟩
abbrev main_while0b_v173 : Ref sig .tc := ⟨.hbm, 261, rfl⟩
abbrev main_v54 : Ref sig .tc := ⟨.hbm, 262, rfl⟩
abbrev main_v55 : Ref sig .tc := ⟨.hbm, 263, rfl⟩
abbrev main_v56 : Ref sig .tc := ⟨.hbm, 264, rfl⟩
abbrev main_v57 : Ref sig .tc := ⟨.hbm, 265, rfl⟩
abbrev main_v58 : Ref sig .tc := ⟨.hbm, 266, rfl⟩
abbrev main_v59 : Ref sig .tc := ⟨.hbm, 267, rfl⟩
abbrev main_v60 : Ref sig .tc := ⟨.hbm, 268, rfl⟩
abbrev main_v61 : Ref sig .tc := ⟨.hbm, 269, rfl⟩
abbrev main_v62 : Ref sig .tc := ⟨.hbm, 270, rfl⟩
abbrev main_v63 : Ref sig .tc := ⟨.hbm, 271, rfl⟩

abbrev nD : Nat := 1
abbrev τ : Topo := Topo.v7x

variable {F : FTy → Type} [FloatOps F]

abbrev main_while0_count : Scf.Loop 32 := ⟨0#32, 6#32, 1#32⟩
-- ==== Proof.Tile.lean ====
module

public import Idealize.ShloMosaic.Lib.Tactic
public import Idealize.ShloMosaic.Lib.WritesUnit

/-!
Rectangles of an array as functions: `at'` makes an index from natural numbers, `tile` cuts the rectangle of given sizes
at given offsets out of an array, and a load of a unit-stride rectangle reads a `tile`.
-/

@[expose] public section

namespace Cert.Proof

open Idealize.ShloMosaic

/-- The index of `s` at the coordinates `o`, each taken modulo its extent (so it is defined for all `o`). -/
def at' (s : Shape) (o : Fin s.rank → ℕ) (hs : ∀ a, 0 < s.size a := by decide) : s.Idx := fun a => ⟨o a % s.size a, Nat.mod_lt _ (hs a)⟩

/-- A coordinate of `at'` below its extent is the given one. -/
theorem at'_val {s : Shape} {o : Fin s.rank → ℕ} {hs : ∀ a, 0 < s.size a} {a : Fin s.rank} (h : o a < s.size a) : (at' s o hs a).val = o a :=
  Nat.mod_eq_of_lt h

/-- `at'` of an index's own coordinates is the index. -/
theorem at'_self {s : Shape} (y : s.Idx) (hs : ∀ a, 0 < s.size a) : at' s (fun a => (y a).val) hs = y :=
  funext fun a => Fin.ext (Nat.mod_eq_of_lt (y a).isLt)

/-- The rectangle of sizes `t` at the offsets `o` of the array `X`. -/
def tile (s : Shape) {α : Type} (t : Fin s.rank → ℕ) (X : s.Idx → α) (o : Fin s.rank → ℕ) (hs : ∀ a, 0 < s.size a := by decide) :
    ((a : Fin s.rank) → Fin (t a)) → α :=
  fun x => X (at' s (fun a => o a + (x a).val) hs)

/-- The rectangle of all of an array's sizes at offsets 0 is the array. -/
theorem tile_full {s : Shape} {α : Type} (X : s.Idx → α) (o : Fin s.rank → ℕ) (hs : ∀ a, 0 < s.size a) (ho : ∀ a, o a = 0) :
    tile s s.size X o hs = X := by
  funext x
  unfold tile
  refine congrArg X (funext fun a => Fin.ext ?_)
  show (o a + (x a).val) % s.size a = (x a).val
  rw [ho a, Nat.zero_add, Nat.mod_eq_of_lt (x a).isLt]

/-- A load of a unit-stride rectangle reads that tile of what the view reads. -/
theorem readAt_tile {sig : RefSig} {κ : Kind} {sp : Space} {s : Shape} {e : EltTy} {Val : EltTy → Type} (v : View sig κ sp s e) (f : v.ty.Contents Val)
    {off off' size : Fin s.rank → ℕ} (inb : ∀ a, off a + size a ≤ s.size a) (hs : ∀ a, 0 < s.size a) (heq : off = off') :
    v.readAt Val (Rect.unit off size inb).toLoadRect f = tile s size (v.read Val f) off' hs := by
  subst heq
  funext x
  rw [View.readAt_apply]
  unfold tile
  refine congrArg _ (funext fun a => Fin.ext ?_)
  have hx : (x a).val < size a := (x a).isLt
  have := inb a
  show off a + 1 * (x a).val = (off a + (x a).val) % s.size a
  rw [Nat.one_mul, Nat.mod_eq_of_lt (by omega)]

end Cert.Proof
end
-- ==== Proof.LayerVals.lean ====
module

public import proofs.«01_k».proof.Proof.Gen.KernelIdeal.Skeleton
public import proofs.«01_k».proof.Proof.Tile

/-!
What one transformer layer's body computes, as functions of the blocks it reads, for any float instance: the packed
queries, keys and values; the causal mask; the attention output; and the layer's output rows.
-/

@[expose] public section

noncomputable section

namespace Cert.Proof.KI

open Cert.KernelIdeal Cert.KernelIdeal.Gen
open Idealize.ShloMosaic

variable {F : FTy → Type} [FloatOps F] [Named F]

/-- One head's attention of 272 query rows over the first 640 positions: mask rows `m`, keys `k`, values `v`, queries `q`. -/
def A640 (m : Vec F S272x640 .f32) (k v : Vec F S640x64 .bf16) (q : Vec F S272x64 .bf16) : Vec F S272x64 .f32 := k1_pay40 v (k1_pay11 m k q)
/-- One head's attention of 272 query rows over all 1088 positions. -/
def A1088 (m : Vec F S272x1088 .f32) (k v : Vec F S1088x64 .bf16) (q : Vec F S272x64 .bf16) : Vec F S272x64 .f32 := k1_pay41 v (k1_pay13 m k q)

theorem pay10_eq (m : Vec F S272x640 .f32) (k v : Vec F S640x64 .bf16) (q : Vec F S272x64 .bf16) : k1_pay10 m k v q = A640 m k v q := rfl
theorem pay12_eq (m : Vec F S272x1088 .f32) (k v : Vec F S1088x64 .bf16) (q : Vec F S272x64 .bf16) : k1_pay12 m k v q = A1088 m k v q := rfl

/-- The packed queries (columns 0 to 767), keys (768 to 1535) and values (1536 to 2303) of the block `X`, one 272-row band at a time. -/
def qkvV (X : S1x1088x768.Idx → Elt F .f32) (W : S2304x768.Idx → Elt F .bf16) (b : S1x2304.Idx → Elt F .f32) : S1088x2304.Idx → Elt F .bf16 := fun y =>
  let x : S272x768.Idx := at' S272x768 ![(y 0).val % 272, (y 1).val % 768]
  let xb : Vec F S1x272x768 .f32 := tile S1x1088x768 S1x272x768.size X ![0, 272 * ((y 0).val / 272), 0]
  if (y 1).val < 768 then k1_pay6 xb (tile S2304x768 S768x768.size W ![0, 0]) (tile S1x2304 S1x768.size b ![0, 0]) x
  else if (y 1).val < 1536 then k1_pay7 xb (tile S2304x768 S768x768.size W ![768, 0]) (tile S1x2304 S1x768.size b ![0, 768]) x
  else k1_pay38 (k1_pay8 xb (tile S2304x768 S768x768.size W ![1536, 0])) (k1_pay9 (tile S1x2304 S1x768.size b ![0, 1536])) x

/-- The mask the body builds, one 272-row band at a time. -/
def maskV : S1088x1088.Idx → Elt F .f32 := fun y =>
  k1_pay39 (F := F) (Scalar.muli (Scf.iv 0#32 1#32 ((y 0).val / 272)) 272#32) (at' S272x1088 ![(y 0).val % 272, (y 1).val])

/-- The attention output: band `b` of 272 rows, head `h` of 64 columns; the first two bands look at 640 positions only. -/
def attV (Q : S1088x2304.Idx → Elt F .bf16) (M : S1088x1088.Idx → Elt F .f32) : S1088x768.Idx → Elt F .f32 := fun y =>
  let b := (y 0).val / 272
  let h := (y 1).val / 64
  let x : S272x64.Idx := at' S272x64 ![(y 0).val % 272, (y 1).val % 64]
  if b < 2 then
    A640 (tile S1088x1088 S272x640.size M ![272 * b, 0]) (tile S1088x2304 S640x64.size Q ![0, 768 + 64 * h]) (tile S1088x2304 S640x64.size Q ![0, 1536 + 64 * h]) (tile S1088x2304 S272x64.size Q ![272 * b, 64 * h]) x
  else
    A1088 (tile S1088x1088 S272x1088.size M ![272 * b, 0]) (tile S1088x2304 S1088x64.size Q ![0, 768 + 64 * h]) (tile S1088x2304 S1088x64.size Q ![0, 1536 + 64 * h]) (tile S1088x2304 S272x64.size Q ![272 * b, 64 * h]) x

/-- The rows the body writes out from 136 rows `a` of attention output and 136 rows `x` of input: projection, residual, layer norm,
    feed-forward, residual, layer norm. -/
def mlp (a : Vec F S136x768 .f32) (x : Vec F S1x136x768 .f32) (wo : Vec F S768x768 .bf16) (bo g1 be1 : Vec F S1x768 .f32) (w1 : Vec F S2048x768 .bf16) (bf1 : Vec F S1x2048 .f32)
    (w2 : Vec F S768x2048 .bf16) (bf2 g2 be2 : Vec F S1x768 .f32) : Vec F S1x136x768 .f32 :=
  k1_pay4 (k1_pay36 (k1_pay34 a wo bo x g1 be1) (k1_pay35 a wo bo x g1 be1) w1 bf1 w2 bf2 g2) (k1_pay37 be2)

/-- The output block from the input block `X` and the attention output `A`. -/
def outV (A : S1088x768.Idx → Elt F .f32) (X : S1x1088x768.Idx → Elt F .f32) (wo : Vec F S768x768 .bf16) (bo g1 be1 : Vec F S1x768 .f32) (w1 : Vec F S2048x768 .bf16)
    (bf1 : Vec F S1x2048 .f32) (w2 : Vec F S768x2048 .bf16) (bf2 g2 be2 : Vec F S1x768 .f32) : S1x1088x768.Idx → Elt F .f32 := fun y =>
  let b := (y 1).val / 136
  mlp (tile S1088x768 S136x768.size A ![136 * b, 0]) (tile S1x1088x768 S1x136x768.size X ![0, 136 * b, 0]) wo bo g1 be1 w1 bf1 w2 bf2 g2 be2
    (at' S1x136x768 ![0, (y 1).val % 136, (y 2).val])

/-- One layer: the output block as a function of the input block and the layer's parameters. -/
def layerV (X : S1x1088x768.Idx → Elt F .f32) (wqkv : S2304x768.Idx → Elt F .bf16) (bqkv : S1x2304.Idx → Elt F .f32) (wo : Vec F S768x768 .bf16) (bo g1 be1 : Vec F S1x768 .f32)
    (w1 : Vec F S2048x768 .bf16) (bf1 : Vec F S1x2048 .f32) (w2 : Vec F S768x2048 .bf16) (bf2 g2 be2 : Vec F S1x768 .f32) : S1x1088x768.Idx → Elt F .f32 :=
  outV (attV (qkvV X wqkv bqkv) maskV) X wo bo g1 be1 w1 bf1 w2 bf2 g2 be2

end Cert.Proof.KI
end
-- ==== Proof.LayerAttn.lean ====
module

public import proofs.«01_k».proof.Proof.LayerVals
public import proofs.«01_k».proof.Proof.Gen.KernelIdeal.Launch
public import Idealize.ShloMosaic.Lib.Updates.Loop

/-!
The attention loops of the layer's body. Every one of the twelve is the same two-trip loop at other offsets: first 272-row
bands 0 and 1 over 640 positions, then bands 2 and 3 over all 1088, for each of six pairs of heads.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost resources of the run: eight rounds of the regions' pipelines (one per run of a region) and the counters. -/
abbrev UU : Type := IProdConst (Fin 8) (UR sig nD τ) × Counters

local notation "𝕄" => MT nD τ sig Unit (Elt F) ℕ UU ℕ

/-- Contents of the buffer a memory reference names on a core. -/
abbrev Bf (c : Dev nD) {sp : Space} {S : Shape} {e : EltTy} (M : Memref sig .tc sp S e) : Type := Buf (Elt F) (M.view.loc (c : Thread nD τ))
/-- The whole of that buffer is held with contents `f`. -/
abbrev pt (c : Dev nD) {sp : Space} {S : Shape} {e : EltTy} (M : Memref sig .tc sp S e) (f : Bf (F := F) c M) : sProp 𝕄 :=
  M.view.loc (c : Thread nD τ) ↦{fullShare} f

/-- All head pairs before `hp`, and of pair `hp` the bands before `n`, hold their attention output. -/
def Done (Q : S1088x2304.Idx → Elt F .bf16) (M : S1088x1088.Idx → Elt F .f32) (hp n : ℕ) (A : S1088x768.Idx → Elt F .f32) : Prop :=
  ∀ y, ((y 1).val / 128 < hp ∨ ((y 1).val / 128 = hp ∧ (y 0).val < 272 * n)) → A y = attV Q M y

/-- The next pair starts where the last band of this one ends. -/
theorem Done.next {Q : S1088x2304.Idx → Elt F .bf16} {M : S1088x1088.Idx → Elt F .f32} {hp : ℕ} {A : S1088x768.Idx → Elt F .f32} (h : Done Q M hp 4 A) :
    Done Q M (hp + 1) 0 A := fun y hy => h y (by have : (y 0).val < 1088 := (y 0).isLt; omega)

/-- The buffers of the attention loops, with what they have completed. -/
def attHeld (a15 : Memref sig .tc .vmem S1088x2304 .bf16) (a16 : Memref sig .tc .vmem S1088x768 .f32) (a17 : Memref sig .tc .vmem S1088x1088 .f32)
    (c : Dev nD) (f15 : Bf (F := F) c a15) (f17 : Bf (F := F) c a17) (R : sProp 𝕄) (hp n : ℕ) : sProp 𝕄 :=
  Updates.heldWith (fun f16 : Bf (F := F) c a16 => iprop(R ∗ pt c a15 f15 ∗ pt c a17 f17 ∗ pt c a16 f16))
    (fun f16 => Done (a15.view.read (Elt F) f15) (a17.view.read (Elt F) f17) hp n (a16.view.read (Elt F) f16))

/-- One trip of an attention loop over 640 positions, its rectangles' offsets as parameters: load the mask rows; for each of two heads
    load keys, values and queries and store the head's attention. -/
def trip640 (a15 : Memref sig .tc .vmem S1088x2304 .bf16) (a16 : Memref sig .tc .vmem S1088x768 .f32) (a17 : Memref sig .tc .vmem S1088x1088 .f32)
    (oM oQ0 oA0 oQ1 oA1 oK0 oV0 oK1 oV1 : Fin 2 → ℕ)
    (hM : ∀ a, oM a + S272x640.size a ≤ S1088x1088.size a)
    (hQ0 : ∀ a, oQ0 a + S272x64.size a ≤ S1088x2304.size a) (hA0 : ∀ a, oA0 a + S272x64.size a ≤ S1088x768.size a)
    (hQ1 : ∀ a, oQ1 a + S272x64.size a ≤ S1088x2304.size a) (hA1 : ∀ a, oA1 a + S272x64.size a ≤ S1088x768.size a)
    (hK0 : ∀ a, oK0 a + S640x64.size a ≤ S1088x2304.size a) (hV0 : ∀ a, oV0 a + S640x64.size a ≤ S1088x2304.size a)
    (hK1 : ∀ a, oK1 a + S640x64.size a ≤ S1088x2304.size a) (hV1 : ∀ a, oV1 a + S640x64.size a ≤ S1088x2304.size a) :
    Prog (TpuEff nD τ sig (Elt F) Λ₀ .tc) Unit := do
  let m : Vec F S272x640 .f32 ← Prog.lift (.load a17 (Rect.unit (s := S1088x1088) oM S272x640.size hM).toLoadRect (View.loadsAt_vmem h_S272x640))
  let k0 : Vec F S640x64 .bf16 ← Prog.lift (.load a15 (Rect.unit (s := S1088x2304) oK0 S640x64.size hK0).toLoadRect (View.loadsAt_vmem h_S640x64))
  let v0 : Vec F S640x64 .bf16 ← Prog.lift (.load a15 (Rect.unit (s := S1088x2304) oV0 S640x64.size hV0).toLoadRect (View.loadsAt_vmem h_S640x64))
  let q0 : Vec F S272x64 .bf16 ← Prog.lift (.load a15 (Rect.unit (s := S1088x2304) oQ0 S272x64.size hQ0).toLoadRect (View.loadsAt_vmem h_S272x64))
  let _ : Vec F S272x64 .f32 ← Prog.lift (.load a16 (Rect.unit (s := S1088x768) oA0 S272x64.size hA0).toLoadRect (View.loadsAt_vmem h_S272x64))
  Prog.lift (.store a16 (Rect.unit (s := S1088x768) oA0 S272x64.size hA0) (A640 m k0 v0 q0) Finset.univ (View.stores_vmem_bits_univ h_S272x64 rfl) (.inl rfl))
  let k1 : Vec F S640x64 .bf16 ← Prog.lift (.load a15 (Rect.unit (s := S1088x2304) oK1 S640x64.size hK1).toLoadRect (View.loadsAt_vmem h_S640x64))
  let v1 : Vec F S640x64 .bf16 ← Prog.lift (.load a15 (Rect.unit (s := S1088x2304) oV1 S640x64.size hV1).toLoadRect (View.loadsAt_vmem h_S640x64))
  let q1 : Vec F S272x64 .bf16 ← Prog.lift (.load a15 (Rect.unit (s := S1088x2304) oQ1 S272x64.size hQ1).toLoadRect (View.loadsAt_vmem h_S272x64))
  let _ : Vec F S272x64 .f32 ← Prog.lift (.load a16 (Rect.unit (s := S1088x768) oA1 S272x64.size hA1).toLoadRect (View.loadsAt_vmem h_S272x64))
  Prog.lift (.store a16 (Rect.unit (s := S1088x768) oA1 S272x64.size hA1) (A640 m k1 v1 q1) Finset.univ (View.stores_vmem_bits_univ h_S272x64 rfl) (.inl rfl))
  pure ⟨⟩

/-- One trip of an attention loop over 1088 positions, its rectangles' offsets as parameters: load the mask rows; for each of two heads
    load keys, values and queries and store the head's attention. -/
def trip1088 (a15 : Memref sig .tc .vmem S1088x2304 .bf16) (a16 : Memref sig .tc .vmem S1088x768 .f32) (a17 : Memref sig .tc .vmem S1088x1088 .f32)
    (oM oQ0 oA0 oQ1 oA1 oK0 oV0 oK1 oV1 : Fin 2 → ℕ)
    (hM : ∀ a, oM a + S272x1088.size a ≤ S1088x1088.size a)
    (hQ0 : ∀ a, oQ0 a + S272x64.size a ≤ S1088x2304.size a) (hA0 : ∀ a, oA0 a + S272x64.size a ≤ S1088x768.size a)
    (hQ1 : ∀ a, oQ1 a + S272x64.size a ≤ S1088x2304.size a) (hA1 : ∀ a, oA1 a + S272x64.size a ≤ S1088x768.size a)
    (hK0 : ∀ a, oK0 a + S1088x64.size a ≤ S1088x2304.size a) (hV0 : ∀ a, oV0 a + S1088x64.size a ≤ S1088x2304.size a)
    (hK1 : ∀ a, oK1 a + S1088x64.size a ≤ S1088x2304.size a) (hV1 : ∀ a, oV1 a + S1088x64.size a ≤ S1088x2304.size a) :
    Prog (TpuEff nD τ sig (Elt F) Λ₀ .tc) Unit := do
  let m : Vec F S272x1088 .f32 ← Prog.lift (.load a17 (Rect.unit (s := S1088x1088) oM S272x1088.size hM).toLoadRect (View.loadsAt_vmem h_S272x1088))
  let k0 : Vec F S1088x64 .bf16 ← Prog.lift (.load a15 (Rect.unit (s := S1088x2304) oK0 S1088x64.size hK0).toLoadRect (View.loadsAt_vmem h_S1088x64))
  let v0 : Vec F S1088x64 .bf16 ← Prog.lift (.load a15 (Rect.unit (s := S1088x2304) oV0 S1088x64.size hV0).toLoadRect (View.loadsAt_vmem h_S1088x64))
  let q0 : Vec F S272x64 .bf16 ← Prog.lift (.load a15 (Rect.unit (s := S1088x2304) oQ0 S272x64.size hQ0).toLoadRect (View.loadsAt_vmem h_S272x64))
  let _ : Vec F S272x64 .f32 ← Prog.lift (.load a16 (Rect.unit (s := S1088x768) oA0 S272x64.size hA0).toLoadRect (View.loadsAt_vmem h_S272x64))
  Prog.lift (.store a16 (Rect.unit (s := S1088x768) oA0 S272x64.size hA0) (A1088 m k0 v0 q0) Finset.univ (View.stores_vmem_bits_univ h_S272x64 rfl) (.inl rfl))
  let k1 : Vec F S1088x64 .bf16 ← Prog.lift (.load a15 (Rect.unit (s := S1088x2304) oK1 S1088x64.size hK1).toLoadRect (View.loadsAt_vmem h_S1088x64))
  let v1 : Vec F S1088x64 .bf16 ← Prog.lift (.load a15 (Rect.unit (s := S1088x2304) oV1 S1088x64.size hV1).toLoadRect (View.loadsAt_vmem h_S1088x64))
  let q1 : Vec F S272x64 .bf16 ← Prog.lift (.load a15 (Rect.unit (s := S1088x2304) oQ1 S272x64.size hQ1).toLoadRect (View.loadsAt_vmem h_S272x64))
  let _ : Vec F S272x64 .f32 ← Prog.lift (.load a16 (Rect.unit (s := S1088x768) oA1 S272x64.size hA1).toLoadRect (View.loadsAt_vmem h_S272x64))
  Prog.lift (.store a16 (Rect.unit (s := S1088x768) oA1 S272x64.size hA1) (A1088 m k1 v1 q1) Finset.univ (View.stores_vmem_bits_univ h_S272x64 rfl) (.inl rfl))
  pure ⟨⟩

section
variable (a15 : Memref sig .tc .vmem S1088x2304 .bf16) (a16 : Memref sig .tc .vmem S1088x768 .f32) (a17 : Memref sig .tc .vmem S1088x1088 .f32)
    (oM oQ0 oA0 oQ1 oA1 oK0 oV0 oK1 oV1 : Fin 2 → ℕ)
    (hM : ∀ a, oM a + S272x640.size a ≤ S1088x1088.size a)
    (hQ0 : ∀ a, oQ0 a + S272x64.size a ≤ S1088x2304.size a) (hA0 : ∀ a, oA0 a + S272x64.size a ≤ S1088x768.size a)
    (hQ1 : ∀ a, oQ1 a + S272x64.size a ≤ S1088x2304.size a) (hA1 : ∀ a, oA1 a + S272x64.size a ≤ S1088x768.size a)
    (hK0 : ∀ a, oK0 a + S640x64.size a ≤ S1088x2304.size a) (hV0 : ∀ a, oV0 a + S640x64.size a ≤ S1088x2304.size a)
    (hK1 : ∀ a, oK1 a + S640x64.size a ≤ S1088x2304.size a) (hV1 : ∀ a, oV1 a + S640x64.size a ≤ S1088x2304.size a)

/-- The trip's run, from any contents of the three buffers; the attention buffer's final contents are found by the run. -/
def run640 (c : Dev nD) (f15 : Bf (F := F) c a15) (f17 : Bf (F := F) c a17) (f16 : Bf (F := F) c a16) :
    { W : Bf (F := F) c a16 // ∀ (E : Set ℕ) (bd : Option Variants.none.V) (Q : Unit → sProp 𝕄),
        iprop(pt c a15 f15 ∗ pt c a17 f17 ∗ pt c a16 f16 ∗ (iprop(pt c a15 f15 ∗ pt c a17 f17 ∗ pt c a16 W) -∗ Q ⟨⟩))
          ⊢ wp frame (wpE (defs₀ (F := F)) Variants.none c bd) E (trip640 a15 a16 a17 oM oQ0 oA0 oQ1 oA1 oK0 oV0 oK1 oV1 hM hQ0 hA0 hQ1 hA1 hK0 hV0 hK1 hV1) Q } := by
  refine ⟨?_, fun E bd Q => ?run⟩
  case run =>
    unfold trip640
    iintro ⟨H0, H1, H2, Hk⟩
    sl_exec!
    sl_step
    iapply Hk
    isplitl [H0]; · iexact H0
    isplitl [H1]; · iexact H1
    iexact H2

/-- A trip over 640 positions at band `n` of head pair `hp` completes that band of that pair. -/
theorem done640 (c : Dev nD) (f15 : Bf (F := F) c a15) (f17 : Bf (F := F) c a17) (f16 : Bf (F := F) c a16) (hp n r : ℕ) (hr : r = 272 * n) (hn : n < 2)
    (eM : oM = ![r, 0]) (eQ0 : oQ0 = ![r, 64 * (2 * hp)]) (eA0 : oA0 = ![r, 64 * (2 * hp)]) (eQ1 : oQ1 = ![r, 64 * (2 * hp + 1)]) (eA1 : oA1 = ![r, 64 * (2 * hp + 1)])
    (eK0 : oK0 = ![0, 768 + 64 * (2 * hp)]) (eV0 : oV0 = ![0, 1536 + 64 * (2 * hp)]) (eK1 : oK1 = ![0, 768 + 64 * (2 * hp + 1)]) (eV1 : oV1 = ![0, 1536 + 64 * (2 * hp + 1)])
    (hd : Done (a15.view.read (Elt F) f15) (a17.view.read (Elt F) f17) hp n (a16.view.read (Elt F) f16)) :
    Done (a15.view.read (Elt F) f15) (a17.view.read (Elt F) f17) hp (n + 1)
      (a16.view.read (Elt F) (run640 a15 a16 a17 oM oQ0 oA0 oQ1 oA1 oK0 oV0 oK1 oV1 hM hQ0 hA0 hQ1 hA1 hK0 hV0 hK1 hV1 c f15 f17 f16).1) := by
  intro y hy
  subst hr
  have h0 : (y 0).val < 1088 := (y 0).isLt
  have h1 : (y 1).val < 768 := (y 1).isLt
  dsimp only [run640]
  rw [readAt_tile (s := S1088x1088) (off := oM) (size := ![272, 640]) a17.view f17 hM (by decide) eM, readAt_tile (s := S1088x2304) (off := oQ0) (size := ![272, 64]) a15.view f15 hQ0 (by decide) eQ0, readAt_tile (s := S1088x2304) (off := oQ1) (size := ![272, 64]) a15.view f15 hQ1 (by decide) eQ1, readAt_tile (s := S1088x2304) (off := oK0) (size := ![640, 64]) a15.view f15 hK0 (by decide) eK0,
    readAt_tile (s := S1088x2304) (off := oK1) (size := ![640, 64]) a15.view f15 hK1 (by decide) eK1, readAt_tile (s := S1088x2304) (off := oV0) (size := ![640, 64]) a15.view f15 hV0 (by decide) eV0, readAt_tile (s := S1088x2304) (off := oV1) (size := ![640, 64]) a15.view f15 hV1 (by decide) eV1]
  by_cases hrow : 272 * n ≤ (y 0).val ∧ (y 0).val < 272 * n + 272
  · have hb : (y 0).val / 272 = n := by omega
    by_cases hc1 : (y 1).val / 64 = 2 * hp + 1
    · rw [View.read_writes_cons_unit_of_mem a16.view f16 hA1 _ _ y (at' S272x64 ![(y 0).val % 272, (y 1).val % 64]) eA1 (Fin.forall_fin_two.mpr
        ⟨by show (y 0).val = 272 * n + (y 0).val % 272 % 272; omega, by show (y 1).val = 64 * (2 * hp + 1) + (y 1).val % 64 % 64; omega⟩)]
      unfold attV
      simp only [hb, hc1]
      exact (if_pos (show n < 2 by omega)).symm
    · rw [View.read_writes_cons_unit_of_not_mem a16.view f16 hA1 _ _ y eA1 1 (by
        show (y 1).val < 64 * (2 * hp + 1) ∨ 64 * (2 * hp + 1) + 64 ≤ (y 1).val; omega)]
      by_cases hc0 : (y 1).val / 64 = 2 * hp
      · rw [View.read_writes_cons_unit_of_mem a16.view f16 hA0 _ _ y (at' S272x64 ![(y 0).val % 272, (y 1).val % 64]) eA0 (Fin.forall_fin_two.mpr
          ⟨by show (y 0).val = 272 * n + (y 0).val % 272 % 272; omega, by show (y 1).val = 64 * (2 * hp) + (y 1).val % 64 % 64; omega⟩)]
        unfold attV
        simp only [hb, hc0]
        exact (if_pos (show n < 2 by omega)).symm
      · rw [View.read_writes_cons_unit_of_not_mem a16.view f16 hA0 _ _ y eA0 1 (by
          show (y 1).val < 64 * (2 * hp) ∨ 64 * (2 * hp) + 64 ≤ (y 1).val; omega)]
        exact hd y (by omega)
  · rw [View.read_writes_cons_unit_of_not_mem a16.view f16 hA1 _ _ y eA1 0 (by show (y 0).val < 272 * n ∨ 272 * n + 272 ≤ (y 0).val; omega),
      View.read_writes_cons_unit_of_not_mem a16.view f16 hA0 _ _ y eA0 0 (by show (y 0).val < 272 * n ∨ 272 * n + 272 ≤ (y 0).val; omega)]
    exact hd y (by omega)
end

/-- The loop of two such trips completes bands 0 and 1 of the head pair. -/
theorem loop640 (a15 : Memref sig .tc .vmem S1088x2304 .bf16) (a16 : Memref sig .tc .vmem S1088x768 .f32) (a17 : Memref sig .tc .vmem S1088x1088 .f32)
    (c : Dev nD) (f15 : Bf (F := F) c a15) (f17 : Bf (F := F) c a17) (E : Set ℕ) (bd : Option Variants.none.V) (R : sProp 𝕄) (hp : ℕ)
    (L : Scf.Loop 32) (ok : L.OK) (ht : L.trips = 2)
    (oM oQ0 oA0 oQ1 oA1 : Fin L.trips → Fin 2 → ℕ) (oK0 oV0 oK1 oV1 : Fin 2 → ℕ)
    (hM : ∀ k, ∀ a, oM k a + S272x640.size a ≤ S1088x1088.size a)
    (hQ0 : ∀ k, ∀ a, oQ0 k a + S272x64.size a ≤ S1088x2304.size a) (hA0 : ∀ k, ∀ a, oA0 k a + S272x64.size a ≤ S1088x768.size a)
    (hQ1 : ∀ k, ∀ a, oQ1 k a + S272x64.size a ≤ S1088x2304.size a) (hA1 : ∀ k, ∀ a, oA1 k a + S272x64.size a ≤ S1088x768.size a)
    (hK0 : ∀ a, oK0 a + S640x64.size a ≤ S1088x2304.size a) (hV0 : ∀ a, oV0 a + S640x64.size a ≤ S1088x2304.size a)
    (hK1 : ∀ a, oK1 a + S640x64.size a ≤ S1088x2304.size a) (hV1 : ∀ a, oV1 a + S640x64.size a ≤ S1088x2304.size a)
    (eM : ∀ k, oM k = ![272 * k.val + 0, 0]) (eQ0 : ∀ k, oQ0 k = ![272 * k.val + 0, 64 * (2 * hp)]) (eA0 : ∀ k, oA0 k = ![272 * k.val + 0, 64 * (2 * hp)])
    (eQ1 : ∀ k, oQ1 k = ![272 * k.val + 0, 64 * (2 * hp + 1)]) (eA1 : ∀ k, oA1 k = ![272 * k.val + 0, 64 * (2 * hp + 1)])
    (eK0 : oK0 = ![0, 768 + 64 * (2 * hp)]) (eV0 : oV0 = ![0, 1536 + 64 * (2 * hp)]) (eK1 : oK1 = ![0, 768 + 64 * (2 * hp + 1)]) (eV1 : oV1 = ![0, 1536 + 64 * (2 * hp + 1)])
    (body : Fin L.trips → Unit → Prog (TpuEff nD τ sig (Elt F) Λ₀ .tc) Unit)
    (hbody : body = (fun k _ => trip640 a15 a16 a17 (oM k) (oQ0 k) (oA0 k) (oQ1 k) (oA1 k) oK0 oV0 oK1 oV1 (hM k) (hQ0 k) (hA0 k) (hQ1 k) (hA1 k) hK0 hV0 hK1 hV1)) :
    attHeld a15 a16 a17 c f15 f17 R hp 0 ⊢ wp frame (wpE (defs₀ (F := F)) Variants.none c bd) E
      (Scf.Loop.for L ok ⟨⟩ body)
      (fun _ => attHeld a15 a16 a17 c f15 f17 R hp 2) := by
  subst hbody
  have key := Updates.fold_inv frame (wpE (defs₀ (F := F)) Variants.none c bd) E L.lb L.ub L.st ok
    (fun k _ => trip640 a15 a16 a17 (oM k) (oQ0 k) (oA0 k) (oQ1 k) (oA1 k) oK0 oV0 oK1 oV1 (hM k) (hQ0 k) (hA0 k) (hQ1 k) (hA1 k) hK0 hV0 hK1 hV1)
    (fun f16 : Bf (F := F) c a16 => iprop(R ∗ pt c a15 f15 ∗ pt c a17 f17 ∗ pt c a16 f16))
    (fun n f16 => Done (a15.view.read (Elt F) f15) (a17.view.read (Elt F) f17) hp (n + 0) (a16.view.read (Elt F) f16))
    (fun k f16 hinv => by
      have hk : k.val < 2 := lt_of_lt_of_eq k.isLt ht
      iintro ⟨HR, H15, H17, H16⟩
      iapply ((run640 a15 a16 a17 (oM k) (oQ0 k) (oA0 k) (oQ1 k) (oA1 k) oK0 oV0 oK1 oV1 (hM k) (hQ0 k) (hA0 k) (hQ1 k) (hA1 k) hK0 hV0 hK1 hV1 c f15 f17 f16).2 E bd)
      isplitl [H15]; · iexact H15
      isplitl [H17]; · iexact H17
      isplitl [H16]; · iexact H16
      iintro ⟨H15, H17, H16⟩
      unfold Updates.heldWith
      iexists (run640 a15 a16 a17 (oM k) (oQ0 k) (oA0 k) (oQ1 k) (oA1 k) oK0 oV0 oK1 oV1 (hM k) (hQ0 k) (hA0 k) (hQ1 k) (hA1 k) hK0 hV0 hK1 hV1 c f15 f17 f16).1
      isplitl [HR H15 H17 H16]
      · isplitl [HR]; · iexact HR
        isplitl [H15]; · iexact H15
        isplitl [H17]; · iexact H17
        iexact H16
      · ipureintro
        have := done640 a15 a16 a17 (oM k) (oQ0 k) (oA0 k) (oQ1 k) (oA1 k) oK0 oV0 oK1 oV1 (hM k) (hQ0 k) (hA0 k) (hQ1 k) (hA1 k) hK0 hV0 hK1 hV1 c f15 f17 f16 hp
          (k.val + 0) (272 * k.val + 0) (by omega) (by omega) (eM k) (eQ0 k) (eA0 k) (eQ1 k) (eA1 k) eK0 eV0 eK1 eV1 hinv
        rwa [Nat.add_right_comm] at this)
  have fin : ∀ N, N = L.trips + 0 → (attHeld a15 a16 a17 c f15 f17 R hp 0 ⊢ wp frame (wpE (defs₀ (F := F)) Variants.none c bd) E
      (Scf.Loop.for L ok ⟨⟩ (fun k _ => trip640 a15 a16 a17 (oM k) (oQ0 k) (oA0 k) (oQ1 k) (oA1 k) oK0 oV0 oK1 oV1 (hM k) (hQ0 k) (hA0 k) (hQ1 k) (hA1 k) hK0 hV0 hK1 hV1))
      (fun _ => attHeld a15 a16 a17 c f15 f17 R hp N)) := by
    rintro _ rfl
    exact key
  exact fin 2 (by rw [ht])

section
variable (a15 : Memref sig .tc .vmem S1088x2304 .bf16) (a16 : Memref sig .tc .vmem S1088x768 .f32) (a17 : Memref sig .tc .vmem S1088x1088 .f32)
    (oM oQ0 oA0 oQ1 oA1 oK0 oV0 oK1 oV1 : Fin 2 → ℕ)
    (hM : ∀ a, oM a + S272x1088.size a ≤ S1088x1088.size a)
    (hQ0 : ∀ a, oQ0 a + S272x64.size a ≤ S1088x2304.size a) (hA0 : ∀ a, oA0 a + S272x64.size a ≤ S1088x768.size a)
    (hQ1 : ∀ a, oQ1 a + S272x64.size a ≤ S1088x2304.size a) (hA1 : ∀ a, oA1 a + S272x64.size a ≤ S1088x768.size a)
    (hK0 : ∀ a, oK0 a + S1088x64.size a ≤ S1088x2304.size a) (hV0 : ∀ a, oV0 a + S1088x64.size a ≤ S1088x2304.size a)
    (hK1 : ∀ a, oK1 a + S1088x64.size a ≤ S1088x2304.size a) (hV1 : ∀ a, oV1 a + S1088x64.size a ≤ S1088x2304.size a)

/-- The trip's run, from any contents of the three buffers; the attention buffer's final contents are found by the run. -/
def run1088 (c : Dev nD) (f15 : Bf (F := F) c a15) (f17 : Bf (F := F) c a17) (f16 : Bf (F := F) c a16) :
    { W : Bf (F := F) c a16 // ∀ (E : Set ℕ) (bd : Option Variants.none.V) (Q : Unit → sProp 𝕄),
        iprop(pt c a15 f15 ∗ pt c a17 f17 ∗ pt c a16 f16 ∗ (iprop(pt c a15 f15 ∗ pt c a17 f17 ∗ pt c a16 W) -∗ Q ⟨⟩))
          ⊢ wp frame (wpE (defs₀ (F := F)) Variants.none c bd) E (trip1088 a15 a16 a17 oM oQ0 oA0 oQ1 oA1 oK0 oV0 oK1 oV1 hM hQ0 hA0 hQ1 hA1 hK0 hV0 hK1 hV1) Q } := by
  refine ⟨?_, fun E bd Q => ?run⟩
  case run =>
    unfold trip1088
    iintro ⟨H0, H1, H2, Hk⟩
    sl_exec!
    sl_step
    iapply Hk
    isplitl [H0]; · iexact H0
    isplitl [H1]; · iexact H1
    iexact H2

/-- A trip over 1088 positions at band `n` of head pair `hp` completes that band of that pair. -/
theorem done1088 (c : Dev nD) (f15 : Bf (F := F) c a15) (f17 : Bf (F := F) c a17) (f16 : Bf (F := F) c a16) (hp n r : ℕ) (hr : r = 272 * n) (hn : 2 ≤ n)
    (eM : oM = ![r, 0]) (eQ0 : oQ0 = ![r, 64 * (2 * hp)]) (eA0 : oA0 = ![r, 64 * (2 * hp)]) (eQ1 : oQ1 = ![r, 64 * (2 * hp + 1)]) (eA1 : oA1 = ![r, 64 * (2 * hp + 1)])
    (eK0 : oK0 = ![0, 768 + 64 * (2 * hp)]) (eV0 : oV0 = ![0, 1536 + 64 * (2 * hp)]) (eK1 : oK1 = ![0, 768 + 64 * (2 * hp + 1)]) (eV1 : oV1 = ![0, 1536 + 64 * (2 * hp + 1)])
    (hd : Done (a15.view.read (Elt F) f15) (a17.view.read (Elt F) f17) hp n (a16.view.read (Elt F) f16)) :
    Done (a15.view.read (Elt F) f15) (a17.view.read (Elt F) f17) hp (n + 1)
      (a16.view.read (Elt F) (run1088 a15 a16 a17 oM oQ0 oA0 oQ1 oA1 oK0 oV0 oK1 oV1 hM hQ0 hA0 hQ1 hA1 hK0 hV0 hK1 hV1 c f15 f17 f16).1) := by
  intro y hy
  subst hr
  have h0 : (y 0).val < 1088 := (y 0).isLt
  have h1 : (y 1).val < 768 := (y 1).isLt
  dsimp only [run1088]
  rw [readAt_tile (s := S1088x1088) (off := oM) (size := ![272, 1088]) a17.view f17 hM (by decide) eM, readAt_tile (s := S1088x2304) (off := oQ0) (size := ![272, 64]) a15.view f15 hQ0 (by decide) eQ0, readAt_tile (s := S1088x2304) (off := oQ1) (size := ![272, 64]) a15.view f15 hQ1 (by decide) eQ1, readAt_tile (s := S1088x2304) (off := oK0) (size := ![1088, 64]) a15.view f15 hK0 (by decide) eK0,
    readAt_tile (s := S1088x2304) (off := oK1) (size := ![1088, 64]) a15.view f15 hK1 (by decide) eK1, readAt_tile (s := S1088x2304) (off := oV0) (size := ![1088, 64]) a15.view f15 hV0 (by decide) eV0, readAt_tile (s := S1088x2304) (off := oV1) (size := ![1088, 64]) a15.view f15 hV1 (by decide) eV1]
  by_cases hrow : 272 * n ≤ (y 0).val ∧ (y 0).val < 272 * n + 272
  · have hb : (y 0).val / 272 = n := by omega
    by_cases hc1 : (y 1).val / 64 = 2 * hp + 1
    · rw [View.read_writes_cons_unit_of_mem a16.view f16 hA1 _ _ y (at' S272x64 ![(y 0).val % 272, (y 1).val % 64]) eA1 (Fin.forall_fin_two.mpr
        ⟨by show (y 0).val = 272 * n + (y 0).val % 272 % 272; omega, by show (y 1).val = 64 * (2 * hp + 1) + (y 1).val % 64 % 64; omega⟩)]
      unfold attV
      simp only [hb, hc1]
      exact (if_neg (show ¬ n < 2 by omega)).symm
    · rw [View.read_writes_cons_unit_of_not_mem a16.view f16 hA1 _ _ y eA1 1 (by
        show (y 1).val < 64 * (2 * hp + 1) ∨ 64 * (2 * hp + 1) + 64 ≤ (y 1).val; omega)]
      by_cases hc0 : (y 1).val / 64 = 2 * hp
      · rw [View.read_writes_cons_unit_of_mem a16.view f16 hA0 _ _ y (at' S272x64 ![(y 0).val % 272, (y 1).val % 64]) eA0 (Fin.forall_fin_two.mpr
          ⟨by show (y 0).val = 272 * n + (y 0).val % 272 % 272; omega, by show (y 1).val = 64 * (2 * hp) + (y 1).val % 64 % 64; omega⟩)]
        unfold attV
        simp only [hb, hc0]
        exact (if_neg (show ¬ n < 2 by omega)).symm
      · rw [View.read_writes_cons_unit_of_not_mem a16.view f16 hA0 _ _ y eA0 1 (by
          show (y 1).val < 64 * (2 * hp) ∨ 64 * (2 * hp) + 64 ≤ (y 1).val; omega)]
        exact hd y (by omega)
  · rw [View.read_writes_cons_unit_of_not_mem a16.view f16 hA1 _ _ y eA1 0 (by show (y 0).val < 272 * n ∨ 272 * n + 272 ≤ (y 0).val; omega),
      View.read_writes_cons_unit_of_not_mem a16.view f16 hA0 _ _ y eA0 0 (by show (y 0).val < 272 * n ∨ 272 * n + 272 ≤ (y 0).val; omega)]
    exact hd y (by omega)
end

/-- The loop of two such trips completes bands 2 and 3 of the head pair. -/
theorem loop1088 (a15 : Memref sig .tc .vmem S1088x2304 .bf16) (a16 : Memref sig .tc .vmem S1088x768 .f32) (a17 : Memref sig .tc .vmem S1088x1088 .f32)
    (c : Dev nD) (f15 : Bf (F := F) c a15) (f17 : Bf (F := F) c a17) (E : Set ℕ) (bd : Option Variants.none.V) (R : sProp 𝕄) (hp : ℕ)
    (L : Scf.Loop 32) (ok : L.OK) (ht : L.trips = 2)
    (oM oQ0 oA0 oQ1 oA1 : Fin L.trips → Fin 2 → ℕ) (oK0 oV0 oK1 oV1 : Fin 2 → ℕ)
    (hM : ∀ k, ∀ a, oM k a + S272x1088.size a ≤ S1088x1088.size a)
    (hQ0 : ∀ k, ∀ a, oQ0 k a + S272x64.size a ≤ S1088x2304.size a) (hA0 : ∀ k, ∀ a, oA0 k a + S272x64.size a ≤ S1088x768.size a)
    (hQ1 : ∀ k, ∀ a, oQ1 k a + S272x64.size a ≤ S1088x2304.size a) (hA1 : ∀ k, ∀ a, oA1 k a + S272x64.size a ≤ S1088x768.size a)
    (hK0 : ∀ a, oK0 a + S1088x64.size a ≤ S1088x2304.size a) (hV0 : ∀ a, oV0 a + S1088x64.size a ≤ S1088x2304.size a)
    (hK1 : ∀ a, oK1 a + S1088x64.size a ≤ S1088x2304.size a) (hV1 : ∀ a, oV1 a + S1088x64.size a ≤ S1088x2304.size a)
    (eM : ∀ k, oM k = ![272 * k.val + 544, 0]) (eQ0 : ∀ k, oQ0 k = ![272 * k.val + 544, 64 * (2 * hp)]) (eA0 : ∀ k, oA0 k = ![272 * k.val + 544, 64 * (2 * hp)])
    (eQ1 : ∀ k, oQ1 k = ![272 * k.val + 544, 64 * (2 * hp + 1)]) (eA1 : ∀ k, oA1 k = ![272 * k.val + 544, 64 * (2 * hp + 1)])
    (eK0 : oK0 = ![0, 768 + 64 * (2 * hp)]) (eV0 : oV0 = ![0, 1536 + 64 * (2 * hp)]) (eK1 : oK1 = ![0, 768 + 64 * (2 * hp + 1)]) (eV1 : oV1 = ![0, 1536 + 64 * (2 * hp + 1)])
    (body : Fin L.trips → Unit → Prog (TpuEff nD τ sig (Elt F) Λ₀ .tc) Unit)
    (hbody : body = (fun k _ => trip1088 a15 a16 a17 (oM k) (oQ0 k) (oA0 k) (oQ1 k) (oA1 k) oK0 oV0 oK1 oV1 (hM k) (hQ0 k) (hA0 k) (hQ1 k) (hA1 k) hK0 hV0 hK1 hV1)) :
    attHeld a15 a16 a17 c f15 f17 R hp 2 ⊢ wp frame (wpE (defs₀ (F := F)) Variants.none c bd) E
      (Scf.Loop.for L ok ⟨⟩ body)
      (fun _ => attHeld a15 a16 a17 c f15 f17 R hp 4) := by
  subst hbody
  have key := Updates.fold_inv frame (wpE (defs₀ (F := F)) Variants.none c bd) E L.lb L.ub L.st ok
    (fun k _ => trip1088 a15 a16 a17 (oM k) (oQ0 k) (oA0 k) (oQ1 k) (oA1 k) oK0 oV0 oK1 oV1 (hM k) (hQ0 k) (hA0 k) (hQ1 k) (hA1 k) hK0 hV0 hK1 hV1)
    (fun f16 : Bf (F := F) c a16 => iprop(R ∗ pt c a15 f15 ∗ pt c a17 f17 ∗ pt c a16 f16))
    (fun n f16 => Done (a15.view.read (Elt F) f15) (a17.view.read (Elt F) f17) hp (n + 2) (a16.view.read (Elt F) f16))
    (fun k f16 hinv => by
      have hk : k.val < 2 := lt_of_lt_of_eq k.isLt ht
      iintro ⟨HR, H15, H17, H16⟩
      iapply ((run1088 a15 a16 a17 (oM k) (oQ0 k) (oA0 k) (oQ1 k) (oA1 k) oK0 oV0 oK1 oV1 (hM k) (hQ0 k) (hA0 k) (hQ1 k) (hA1 k) hK0 hV0 hK1 hV1 c f15 f17 f16).2 E bd)
      isplitl [H15]; · iexact H15
      isplitl [H17]; · iexact H17
      isplitl [H16]; · iexact H16
      iintro ⟨H15, H17, H16⟩
      unfold Updates.heldWith
      iexists (run1088 a15 a16 a17 (oM k) (oQ0 k) (oA0 k) (oQ1 k) (oA1 k) oK0 oV0 oK1 oV1 (hM k) (hQ0 k) (hA0 k) (hQ1 k) (hA1 k) hK0 hV0 hK1 hV1 c f15 f17 f16).1
      isplitl [HR H15 H17 H16]
      · isplitl [HR]; · iexact HR
        isplitl [H15]; · iexact H15
        isplitl [H17]; · iexact H17
        iexact H16
      · ipureintro
        have := done1088 a15 a16 a17 (oM k) (oQ0 k) (oA0 k) (oQ1 k) (oA1 k) oK0 oV0 oK1 oV1 (hM k) (hQ0 k) (hA0 k) (hQ1 k) (hA1 k) hK0 hV0 hK1 hV1 c f15 f17 f16 hp
          (k.val + 2) (272 * k.val + 544) (by omega) (by omega) (eM k) (eQ0 k) (eA0 k) (eQ1 k) (eA1 k) eK0 eV0 eK1 eV1 hinv
        rwa [Nat.add_right_comm] at this)
  have fin : ∀ N, N = L.trips + 2 → (attHeld a15 a16 a17 c f15 f17 R hp 2 ⊢ wp frame (wpE (defs₀ (F := F)) Variants.none c bd) E
      (Scf.Loop.for L ok ⟨⟩ (fun k _ => trip1088 a15 a16 a17 (oM k) (oQ0 k) (oA0 k) (oQ1 k) (oA1 k) oK0 oV0 oK1 oV1 (hM k) (hQ0 k) (hA0 k) (hQ1 k) (hA1 k) hK0 hV0 hK1 hV1))
      (fun _ => attHeld a15 a16 a17 c f15 f17 R hp N)) := by
    rintro _ rfl
    exact key
  exact fin 4 (by rw [ht])

end Cert.Proof.KI
end
-- ==== Proof.LayerQkv.lean ====
module

public import proofs.«01_k».proof.Proof.LayerAttn

/-!
The first loop of the layer's body: four trips, each computing 272 rows of queries, keys and values and of the mask.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (i : grid1.Coords)
  (arg1 : Memref sig .tc .vmem S1x1088x768 .f32) (harg1 : arg1.IsWhole)
  (arg2 : Memref sig .tc .vmem S2304x768 .bf16) (harg2 : arg2.IsWhole)
  (arg3 : Memref sig .tc .vmem S1x2304 .f32) (harg3 : arg3.IsWhole)
  (arg4 : Memref sig .tc .vmem S768x768 .bf16) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S1x768 .f32) (harg7 : arg7.IsWhole)
  (arg8 : Memref sig .tc .vmem S2048x768 .bf16) (harg8 : arg8.IsWhole)
  (arg9 : Memref sig .tc .vmem S1x2048 .f32) (harg9 : arg9.IsWhole)
  (arg10 : Memref sig .tc .vmem S768x2048 .bf16) (harg10 : arg10.IsWhole)
  (arg11 : Memref sig .tc .vmem S1x768 .f32) (harg11 : arg11.IsWhole)
  (arg12 : Memref sig .tc .vmem S1x768 .f32) (harg12 : arg12.IsWhole)
  (arg13 : Memref sig .tc .vmem S1x768 .f32) (harg13 : arg13.IsWhole)
  (arg14 : Memref sig .tc .vmem S1x1088x768 .f32) (harg14 : arg14.IsWhole)
  (arg15 : Memref sig .tc .vmem S1088x2304 .bf16) (harg15 : arg15.IsWhole)
  (arg16 : Memref sig .tc .vmem S1088x768 .f32) (harg16 : arg16.IsWhole)
  (arg17 : Memref sig .tc .vmem S1088x1088 .f32) (harg17 : arg17.IsWhole)

/-- One trip's run, from any contents; the two scratch buffers' final contents are found by the run. -/
def runQkv (c : Dev nD) (k : Fin k1_t1_loop.trips) (f1 : Bf (F := F) c arg1) (f2 : Bf (F := F) c arg2) (f3 : Bf (F := F) c arg3) (f15 : Bf (F := F) c arg15) (f17 : Bf (F := F) c arg17) :
    { W : Bf (F := F) c arg15 × Bf (F := F) c arg17 // ∀ (E : Set ℕ) (bd : Option Variants.none.V) (Q : Unit → sProp 𝕄),
        iprop(pt c arg1 f1 ∗ pt c arg2 f2 ∗ pt c arg3 f3 ∗ pt c arg15 f15 ∗ pt c arg17 f17
            ∗ (iprop(pt c arg1 f1 ∗ pt c arg2 f2 ∗ pt c arg3 f3 ∗ pt c arg15 W.1 ∗ pt c arg17 W.2) -∗ Q ⟨⟩))
          ⊢ wp frame (wpE (defs₀ (F := F)) Variants.none c bd) E (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ⟨⟩) Q } := by
  refine ⟨⟨?_, ?_⟩, fun E bd Q => ?run⟩
  case run =>
    unfold k1_t1_body
    rw [k1_part1_eq_skeleton]
    unfold k1_part1_skel
    iintro ⟨H1, H2, H3, H15, H17, Hk⟩
    sl_exec!
    sl_step
    iapply Hk
    isplitl [H1]; · iexact H1
    isplitl [H2]; · iexact H2
    isplitl [H3]; · iexact H3
    isplitl [H15]; · iexact H15
    iexact H17

/-- The bands before `n` hold the packed queries, keys and values. -/
def QkvDone (X : S1x1088x768.Idx → Elt F .f32) (W : S2304x768.Idx → Elt F .bf16) (b : S1x2304.Idx → Elt F .f32) (n : ℕ) (Q : S1088x2304.Idx → Elt F .bf16) : Prop :=
  ∀ y, (y 0).val < 272 * n → Q y = qkvV X W b y
/-- The bands before `n` hold the mask. -/
def MaskDone (n : ℕ) (M : S1088x1088.Idx → Elt F .f32) : Prop := ∀ y, (y 0).val < 272 * n → M y = maskV y

theorem doneQkv (c : Dev nD) (k : Fin k1_t1_loop.trips) (f1 : Bf (F := F) c arg1) (f2 : Bf (F := F) c arg2) (f3 : Bf (F := F) c arg3) (f15 : Bf (F := F) c arg15) (f17 : Bf (F := F) c arg17)
    (hd : QkvDone (arg1.view.read (Elt F) f1) (arg2.view.read (Elt F) f2) (arg3.view.read (Elt F) f3) k.val (arg15.view.read (Elt F) f15)) :
    QkvDone (arg1.view.read (Elt F) f1) (arg2.view.read (Elt F) f2) (arg3.view.read (Elt F) f3) (k.val + 1)
      (arg15.view.read (Elt F) (runQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f15 f17).1.1) := by
  intro y hy
  have h0 : (y 0).val < 1088 := (y 0).isLt
  have h1 : (y 1).val < 2304 := (y 1).isLt
  dsimp only [runQkv]
  rw [readAt_tile (s := S1x1088x768) (off := k1_off1 k) (size := ![1, 272, 768]) arg1.view f1 (k1_off1_inb k) (by decide) (k1_off1_eq k),
    readAt_tile (s := S2304x768) (off := ![0, 0]) (size := ![768, 768]) arg2.view f2 inb_S2304x768_S768x768_0_0 (by decide) rfl,
    readAt_tile (s := S2304x768) (off := ![768, 0]) (size := ![768, 768]) arg2.view f2 inb_S2304x768_S768x768_768_0 (by decide) rfl,
    readAt_tile (s := S2304x768) (off := ![1536, 0]) (size := ![768, 768]) arg2.view f2 inb_S2304x768_S768x768_1536_0 (by decide) rfl,
    readAt_tile (s := S1x2304) (off := ![0, 0]) (size := ![1, 768]) arg3.view f3 inb_S1x2304_S1x768_0_0 (by decide) rfl,
    readAt_tile (s := S1x2304) (off := ![0, 768]) (size := ![1, 768]) arg3.view f3 inb_S1x2304_S1x768_0_768 (by decide) rfl,
    readAt_tile (s := S1x2304) (off := ![0, 1536]) (size := ![1, 768]) arg3.view f3 inb_S1x2304_S1x768_0_1536 (by decide) rfl]
  by_cases hrow : 272 * k.val ≤ (y 0).val
  · have hb : (y 0).val / 272 = k.val := by omega
    have hx : ∀ o, o + 768 > (y 1).val → o ≤ (y 1).val → o % 768 = 0 → ∀ a, (y a).val = (![272 * k.val, o] : Fin 2 → ℕ) a + (at' S272x768 ![(y 0).val % 272, (y 1).val % 768] (by decide) a).val :=
      fun o h1 h2 h3 => Fin.forall_fin_two.mpr
        ⟨by show (y 0).val = 272 * k.val + (y 0).val % 272 % 272; omega, by show (y 1).val = o + (y 1).val % 768 % 768; omega⟩
    by_cases hc2 : 1536 ≤ (y 1).val
    · rw [View.read_writes_cons_unit_of_mem arg15.view f15 (k1_off4_inb k) _ _ y (at' S272x768 ![(y 0).val % 272, (y 1).val % 768]) (k1_off4_eq k) (hx 1536 (by omega) hc2 rfl)]
      unfold qkvV
      simp only [hb]
      exact ((if_neg (show ¬ (y 1).val < 768 by omega)).trans (if_neg (show ¬ (y 1).val < 1536 by omega))).symm
    · rw [View.read_writes_cons_unit_of_not_mem arg15.view f15 (k1_off4_inb k) _ _ y (k1_off4_eq k) 1 (.inl (by show (y 1).val < 1536; omega))]
      by_cases hc1 : 768 ≤ (y 1).val
      · rw [View.read_writes_cons_unit_of_mem arg15.view f15 (k1_off3_inb k) _ _ y (at' S272x768 ![(y 0).val % 272, (y 1).val % 768]) (k1_off3_eq k) (hx 768 (by omega) hc1 rfl)]
        unfold qkvV
        simp only [hb]
        exact ((if_neg (show ¬ (y 1).val < 768 by omega)).trans (if_pos (show (y 1).val < 1536 by omega))).symm
      · rw [View.read_writes_cons_unit_of_not_mem arg15.view f15 (k1_off3_inb k) _ _ y (k1_off3_eq k) 1 (.inl (by show (y 1).val < 768; omega)),
          View.read_writes_cons_unit_of_mem arg15.view f15 (k1_off2_inb k) _ _ y (at' S272x768 ![(y 0).val % 272, (y 1).val % 768]) (k1_off2_eq k) (hx 0 (by omega) (by omega) rfl)]
        unfold qkvV
        simp only [hb]
        exact (if_pos (show (y 1).val < 768 by omega)).symm
  · rw [View.read_writes_cons_unit_of_not_mem arg15.view f15 (k1_off4_inb k) _ _ y (k1_off4_eq k) 0 (.inl (by show (y 0).val < 272 * k.val; omega)),
      View.read_writes_cons_unit_of_not_mem arg15.view f15 (k1_off3_inb k) _ _ y (k1_off3_eq k) 0 (.inl (by show (y 0).val < 272 * k.val; omega)),
      View.read_writes_cons_unit_of_not_mem arg15.view f15 (k1_off2_inb k) _ _ y (k1_off2_eq k) 0 (.inl (by show (y 0).val < 272 * k.val; omega))]
    exact hd y (by omega)

theorem doneMask (c : Dev nD) (k : Fin k1_t1_loop.trips) (f1 : Bf (F := F) c arg1) (f2 : Bf (F := F) c arg2) (f3 : Bf (F := F) c arg3) (f15 : Bf (F := F) c arg15) (f17 : Bf (F := F) c arg17)
    (hd : MaskDone k.val (arg17.view.read (Elt F) f17)) :
    MaskDone (k.val + 1) (arg17.view.read (Elt F) (runQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f15 f17).1.2) := by
  intro y hy
  have h0 : (y 0).val < 1088 := (y 0).isLt
  have h1 : (y 1).val < 1088 := (y 1).isLt
  dsimp only [runQkv]
  by_cases hrow : 272 * k.val ≤ (y 0).val
  · have hb : (y 0).val / 272 = k.val := by omega
    rw [View.read_writes_cons_unit_of_mem arg17.view f17 (k1_off5_inb k) _ _ y (at' S272x1088 ![(y 0).val % 272, (y 1).val]) (k1_off5_eq k) (Fin.forall_fin_two.mpr
      ⟨by show (y 0).val = 272 * k.val + (y 0).val % 272 % 272; omega, by show (y 1).val = 0 + (y 1).val % 1088; omega⟩)]
    unfold maskV
    simp only [hb]
    rfl
  · rw [View.read_writes_cons_unit_of_not_mem arg17.view f17 (k1_off5_inb k) _ _ y (k1_off5_eq k) 0 (.inl (by show (y 0).val < 272 * k.val; omega))]
    exact hd y (by omega)

/-- The buffers of the loop, with what it has completed. -/
def qkvHeld (c : Dev nD) (f1 : Bf (F := F) c arg1) (f2 : Bf (F := F) c arg2) (f3 : Bf (F := F) c arg3) (n : ℕ) : sProp 𝕄 :=
  Updates.heldWith (fun f : Bf (F := F) c arg15 × Bf (F := F) c arg17 => iprop(pt c arg1 f1 ∗ pt c arg2 f2 ∗ pt c arg3 f3 ∗ pt c arg15 f.1 ∗ pt c arg17 f.2))
    (fun f => QkvDone (arg1.view.read (Elt F) f1) (arg2.view.read (Elt F) f2) (arg3.view.read (Elt F) f3) n (arg15.view.read (Elt F) f.1) ∧ MaskDone n (arg17.view.read (Elt F) f.2))

/-- The loop completes all four bands. -/
theorem loopQkv (c : Dev nD) (E : Set ℕ) (bd : Option Variants.none.V) (f1 : Bf (F := F) c arg1) (f2 : Bf (F := F) c arg2) (f3 : Bf (F := F) c arg3) :
    qkvHeld arg1 arg2 arg3 arg15 arg17 c f1 f2 f3 0 ⊢ wp frame (wpE (defs₀ (F := F)) Variants.none c bd) E
      (Scf.Loop.for k1_t1_loop k1_t1_ok ⟨⟩ (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => qkvHeld arg1 arg2 arg3 arg15 arg17 c f1 f2 f3 k1_t1_loop.trips) :=
  Updates.fold_inv frame (wpE (defs₀ (F := F)) Variants.none c bd) E _ _ _ k1_t1_ok (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) _ (fun n (f : Bf (F := F) c arg15 × Bf (F := F) c arg17) =>
      QkvDone (arg1.view.read (Elt F) f1) (arg2.view.read (Elt F) f2) (arg3.view.read (Elt F) f3) n (arg15.view.read (Elt F) f.1) ∧ MaskDone n (arg17.view.read (Elt F) f.2))
    (fun k f hinv => by
      iintro ⟨H1, H2, H3, H15, H17⟩
      iapply ((runQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f.1 f.2).2 E bd)
      isplitl [H1]; · iexact H1
      isplitl [H2]; · iexact H2
      isplitl [H3]; · iexact H3
      isplitl [H15]; · iexact H15
      isplitl [H17]; · iexact H17
      iintro ⟨H1, H2, H3, H15, H17⟩
      unfold Updates.heldWith
      iexists (runQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f.1 f.2).1
      isplitl [H1 H2 H3 H15 H17]
      · isplitl [H1]; · iexact H1
        isplitl [H2]; · iexact H2
        isplitl [H3]; · iexact H3
        isplitl [H15]; · iexact H15
        iexact H17
      · ipureintro
        exact ⟨doneQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f.1 f.2 hinv.1, doneMask i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f2 f3 f.1 f.2 hinv.2⟩)

end Cert.Proof.KI
end
-- ==== Proof.LayerMlp.lean ====
module

public import proofs.«01_k».proof.Proof.LayerAttn

/-!
The last loop of the layer's body: eight trips, each writing 136 rows of the layer's output.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- `mlp` of equal arguments. -/
theorem mlp_congr {a a' : Vec F S136x768 .f32} {x x' : Vec F S1x136x768 .f32} {wo wo' : Vec F S768x768 .bf16} {bo bo' : Vec F S1x768 .f32} {g1 g1' : Vec F S1x768 .f32} {be1 be1' : Vec F S1x768 .f32} {w1 w1' : Vec F S2048x768 .bf16} {bf1 bf1' : Vec F S1x2048 .f32} {w2 w2' : Vec F S768x2048 .bf16} {bf2 bf2' : Vec F S1x768 .f32} {g2 g2' : Vec F S1x768 .f32} {be2 be2' : Vec F S1x768 .f32}
    (ha : a = a') (hx : x = x') (hwo : wo = wo') (hbo : bo = bo') (hg1 : g1 = g1') (hbe1 : be1 = be1') (hw1 : w1 = w1') (hbf1 : bf1 = bf1') (hw2 : w2 = w2') (hbf2 : bf2 = bf2') (hg2 : g2 = g2') (hbe2 : be2 = be2') :
    mlp a x wo bo g1 be1 w1 bf1 w2 bf2 g2 be2 = mlp a' x' wo' bo' g1' be1' w1' bf1' w2' bf2' g2' be2' := by
  subst ha hx hwo hbo hg1 hbe1 hw1 hbf1 hw2 hbf2 hg2 hbe2; rfl

variable (i : grid1.Coords)
  (arg1 : Memref sig .tc .vmem S1x1088x768 .f32) (harg1 : arg1.IsWhole)
  (arg2 : Memref sig .tc .vmem S2304x768 .bf16) (harg2 : arg2.IsWhole)
  (arg3 : Memref sig .tc .vmem S1x2304 .f32) (harg3 : arg3.IsWhole)
  (arg4 : Memref sig .tc .vmem S768x768 .bf16) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S1x768 .f32) (harg7 : arg7.IsWhole)
  (arg8 : Memref sig .tc .vmem S2048x768 .bf16) (harg8 : arg8.IsWhole)
  (arg9 : Memref sig .tc .vmem S1x2048 .f32) (harg9 : arg9.IsWhole)
  (arg10 : Memref sig .tc .vmem S768x2048 .bf16) (harg10 : arg10.IsWhole)
  (arg11 : Memref sig .tc .vmem S1x768 .f32) (harg11 : arg11.IsWhole)
  (arg12 : Memref sig .tc .vmem S1x768 .f32) (harg12 : arg12.IsWhole)
  (arg13 : Memref sig .tc .vmem S1x768 .f32) (harg13 : arg13.IsWhole)
  (arg14 : Memref sig .tc .vmem S1x1088x768 .f32) (harg14 : arg14.IsWhole)
  (arg15 : Memref sig .tc .vmem S1088x2304 .bf16) (harg15 : arg15.IsWhole)
  (arg16 : Memref sig .tc .vmem S1088x768 .f32) (harg16 : arg16.IsWhole)
  (arg17 : Memref sig .tc .vmem S1088x1088 .f32) (harg17 : arg17.IsWhole)

/-- One trip's run, from any contents; the output block's final contents are found by the run. -/
def runMlp (c : Dev nD) (k : Fin k1_t14_loop.trips) (f1 : Bf (F := F) c arg1) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f16 : Bf (F := F) c arg16) (f14 : Bf (F := F) c arg14) :
    { W : Bf (F := F) c arg14 // ∀ (E : Set ℕ) (bd : Option Variants.none.V) (Q : Unit → sProp 𝕄),
        iprop(pt c arg1 f1 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg16 f16 ∗ pt c arg14 f14
            ∗ (iprop(pt c arg1 f1 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg16 f16 ∗ pt c arg14 W) -∗ Q ⟨⟩))
          ⊢ wp frame (wpE (defs₀ (F := F)) Variants.none c bd) E (k1_t14_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ⟨⟩) Q } := by
  refine ⟨?_, fun E bd Q => ?run⟩
  case run =>
    unfold k1_t14_body
    rw [k1_part14_eq_skeleton]
    unfold k1_part14_skel
    simp only [k1_part15_eq_skeleton]
    unfold k1_part15_skel
    iintro ⟨H1, H4, H5, H6, H7, H8, H9, H10, H11, H12, H13, H16, H14, Hk⟩
    sl_exec!
    sl_step
    iapply Hk
    isplitl [H1]; · iexact H1
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H16]; · iexact H16
    iexact H14

/-- The output rows of the bands before `n` are written. -/
def OutDone (O : S1x1088x768.Idx → Elt F .f32) (n : ℕ) (Y : S1x1088x768.Idx → Elt F .f32) : Prop := ∀ y, (y 1).val < 136 * n → Y y = O y

theorem doneMlp (c : Dev nD) (k : Fin k1_t14_loop.trips) (f1 : Bf (F := F) c arg1) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f16 : Bf (F := F) c arg16) (f14 : Bf (F := F) c arg14)
    (hd : OutDone (outV (arg16.view.read (Elt F) f16) (arg1.view.read (Elt F) f1) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)) k.val (arg14.view.read (Elt F) f14)) :
    OutDone (outV (arg16.view.read (Elt F) f16) (arg1.view.read (Elt F) f1) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)) (k.val + 1)
      (arg14.view.read (Elt F) (runMlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f4 f5 f6 f7 f8 f9 f10 f11 f12 f13 f16 f14).1) := by
  intro y hy
  have h0 : (y 0).val < 1 := (y 0).isLt
  have h1 : (y 1).val < 1088 := (y 1).isLt
  have h2 : (y 2).val < 768 := (y 2).isLt
  dsimp only [runMlp]
  by_cases hrow : 136 * k.val ≤ (y 1).val
  · have hb : (y 1).val / 136 = k.val := by omega
    rw [View.read_writes_cons_unit_of_mem arg14.view f14 (k1_off67_inb k) _ _ y (at' S1x136x768 ![0, (y 1).val % 136, (y 2).val]) (k1_off67_eq k) (fun a => by
      fin_cases a
      · show (y 0).val = 0 + 0 % 1; omega
      · show (y 1).val = 136 * k.val + (y 1).val % 136 % 136; omega
      · show (y 2).val = 0 + (y 2).val % 768; omega)]
    have e16 := readAt_tile (s := S1088x768) (off := k1_off66 k) (size := ![136, 768]) arg16.view f16 (k1_off66_inb k) (by decide) (k1_off66_eq k)
    have e1 := readAt_tile (s := S1x1088x768) (off := k1_off67 k) (size := ![1, 136, 768]) arg1.view f1 (k1_off67_inb k) (by decide) (k1_off67_eq k)
    have e4 := (readAt_tile (s := S768x768) (off := ![0, 0]) (size := ![768, 768]) arg4.view f4 inb_S768x768_S768x768_0_0 (by decide) rfl).trans (tile_full (s := S768x768) _ _ (by decide) (by decide))
    have e5 := (readAt_tile (s := S1x768) (off := ![0, 0]) (size := ![1, 768]) arg5.view f5 inb_S1x768_S1x768_0_0 (by decide) rfl).trans (tile_full (s := S1x768) _ _ (by decide) (by decide))
    have e6 := (readAt_tile (s := S1x768) (off := ![0, 0]) (size := ![1, 768]) arg6.view f6 inb_S1x768_S1x768_0_0 (by decide) rfl).trans (tile_full (s := S1x768) _ _ (by decide) (by decide))
    have e7 := (readAt_tile (s := S1x768) (off := ![0, 0]) (size := ![1, 768]) arg7.view f7 inb_S1x768_S1x768_0_0 (by decide) rfl).trans (tile_full (s := S1x768) _ _ (by decide) (by decide))
    have e8 := (readAt_tile (s := S2048x768) (off := ![0, 0]) (size := ![2048, 768]) arg8.view f8 inb_S2048x768_S2048x768_0_0 (by decide) rfl).trans (tile_full (s := S2048x768) _ _ (by decide) (by decide))
    have e9 := (readAt_tile (s := S1x2048) (off := ![0, 0]) (size := ![1, 2048]) arg9.view f9 inb_S1x2048_S1x2048_0_0 (by decide) rfl).trans (tile_full (s := S1x2048) _ _ (by decide) (by decide))
    have e10 := (readAt_tile (s := S768x2048) (off := ![0, 0]) (size := ![768, 2048]) arg10.view f10 inb_S768x2048_S768x2048_0_0 (by decide) rfl).trans (tile_full (s := S768x2048) _ _ (by decide) (by decide))
    have e11 := (readAt_tile (s := S1x768) (off := ![0, 0]) (size := ![1, 768]) arg11.view f11 inb_S1x768_S1x768_0_0 (by decide) rfl).trans (tile_full (s := S1x768) _ _ (by decide) (by decide))
    have e12 := (readAt_tile (s := S1x768) (off := ![0, 0]) (size := ![1, 768]) arg12.view f12 inb_S1x768_S1x768_0_0 (by decide) rfl).trans (tile_full (s := S1x768) _ _ (by decide) (by decide))
    have e13 := (readAt_tile (s := S1x768) (off := ![0, 0]) (size := ![1, 768]) arg13.view f13 inb_S1x768_S1x768_0_0 (by decide) rfl).trans (tile_full (s := S1x768) _ _ (by decide) (by decide))
    unfold outV
    rw [hb]
    show mlp _ _ _ _ _ _ _ _ _ _ _ _ _ = mlp _ _ _ _ _ _ _ _ _ _ _ _ _
    exact congrFun (mlp_congr e16 e1 e4 e5 e6 e7 e8 e9 e10 e11 e12 e13) _
  · rw [View.read_writes_cons_unit_of_not_mem arg14.view f14 (k1_off67_inb k) _ _ y (k1_off67_eq k) 1 (.inl (by show (y 1).val < 136 * k.val; omega))]
    exact hd y (by omega)

/-- The buffers of the loop, with what it has completed. -/
def mlpHeld (c : Dev nD) (f1 : Bf (F := F) c arg1) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f16 : Bf (F := F) c arg16) (R : sProp 𝕄) (n : ℕ) : sProp 𝕄 :=
  Updates.heldWith (fun f : Bf (F := F) c arg14 => iprop(R ∗ pt c arg1 f1 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg16 f16 ∗ pt c arg14 f))
    (fun f => OutDone (outV (arg16.view.read (Elt F) f16) (arg1.view.read (Elt F) f1) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)) n (arg14.view.read (Elt F) f))

/-- The loop writes all rows. -/
theorem loopMlp (c : Dev nD) (E : Set ℕ) (bd : Option Variants.none.V) (f1 : Bf (F := F) c arg1) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f16 : Bf (F := F) c arg16) (R : sProp 𝕄) :
    mlpHeld arg1 arg4 arg5 arg6 arg7 arg8 arg9 arg10 arg11 arg12 arg13 arg14 arg16 c f1 f4 f5 f6 f7 f8 f9 f10 f11 f12 f13 f16 R 0 ⊢ wp frame (wpE (defs₀ (F := F)) Variants.none c bd) E
      (Scf.Loop.for k1_t14_loop k1_t14_ok ⟨⟩ (k1_t14_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => mlpHeld arg1 arg4 arg5 arg6 arg7 arg8 arg9 arg10 arg11 arg12 arg13 arg14 arg16 c f1 f4 f5 f6 f7 f8 f9 f10 f11 f12 f13 f16 R k1_t14_loop.trips) :=
  Updates.fold_inv frame (wpE (defs₀ (F := F)) Variants.none c bd) E _ _ _ k1_t14_ok (k1_t14_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) _ (fun n (f : Bf (F := F) c arg14) =>
      OutDone (outV (arg16.view.read (Elt F) f16) (arg1.view.read (Elt F) f1) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)) n (arg14.view.read (Elt F) f))
    (fun k f hinv => by
      iintro ⟨HR, H1, H4, H5, H6, H7, H8, H9, H10, H11, H12, H13, H16, H14⟩
      iapply ((runMlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f4 f5 f6 f7 f8 f9 f10 f11 f12 f13 f16 f).2 E bd)
      isplitl [H1]; · iexact H1
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H16]; · iexact H16
      isplitl [H14]; · iexact H14
      iintro ⟨H1, H4, H5, H6, H7, H8, H9, H10, H11, H12, H13, H16, H14⟩
      unfold Updates.heldWith
      iexists (runMlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f4 f5 f6 f7 f8 f9 f10 f11 f12 f13 f16 f).1
      isplitl [HR H1 H4 H5 H6 H7 H8 H9 H10 H11 H12 H13 H16 H14]
      · isplitl [HR]; · iexact HR
        isplitl [H1]; · iexact H1
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H16]; · iexact H16
        iexact H14
      · ipureintro
        exact doneMlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c k f1 f4 f5 f6 f7 f8 f9 f10 f11 f12 f13 f16 f hinv)

end Cert.Proof.KI
end
-- ==== Proof.LayerRun.lean ====
module

public import proofs.«01_k».proof.Proof.LayerQkv
public import proofs.«01_k».proof.Proof.LayerMlp

/-!
The layer's body: from any contents of its buffers it runs and leaves the layer's output block in the output buffer.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (i : grid1.Coords)
  (arg1 : Memref sig .tc .vmem S1x1088x768 .f32) (harg1 : arg1.IsWhole)
  (arg2 : Memref sig .tc .vmem S2304x768 .bf16) (harg2 : arg2.IsWhole)
  (arg3 : Memref sig .tc .vmem S1x2304 .f32) (harg3 : arg3.IsWhole)
  (arg4 : Memref sig .tc .vmem S768x768 .bf16) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S1x768 .f32) (harg7 : arg7.IsWhole)
  (arg8 : Memref sig .tc .vmem S2048x768 .bf16) (harg8 : arg8.IsWhole)
  (arg9 : Memref sig .tc .vmem S1x2048 .f32) (harg9 : arg9.IsWhole)
  (arg10 : Memref sig .tc .vmem S768x2048 .bf16) (harg10 : arg10.IsWhole)
  (arg11 : Memref sig .tc .vmem S1x768 .f32) (harg11 : arg11.IsWhole)
  (arg12 : Memref sig .tc .vmem S1x768 .f32) (harg12 : arg12.IsWhole)
  (arg13 : Memref sig .tc .vmem S1x768 .f32) (harg13 : arg13.IsWhole)
  (arg14 : Memref sig .tc .vmem S1x1088x768 .f32) (harg14 : arg14.IsWhole)
  (arg15 : Memref sig .tc .vmem S1088x2304 .bf16) (harg15 : arg15.IsWhole)
  (arg16 : Memref sig .tc .vmem S1088x768 .f32) (harg16 : arg16.IsWhole)
  (arg17 : Memref sig .tc .vmem S1088x1088 .f32) (harg17 : arg17.IsWhole)

/-- Loop 2 of the body. -/
theorem step2 (c : Dev nD) (f15 : Bf (F := F) c arg15) (f17 : Bf (F := F) c arg17) (E : Set ℕ) (bd : Option Variants.none.V) (R : sProp 𝕄) :
    attHeld arg15 arg16 arg17 c f15 f17 R 0 0 ⊢ wp frame (wpE (defs₀ (F := F)) Variants.none c bd) E
      (Scf.Loop.for k1_t2_loop k1_t2_ok ⟨⟩ (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 0 2) :=
  loop640 arg15 arg16 arg17 c f15 f17 E bd R 0 k1_t2_loop k1_t2_ok (by decide) k1_off6 k1_off7 k1_off8 k1_off9 k1_off10 _ _ _ _
    k1_off6_inb k1_off7_inb k1_off8_inb k1_off9_inb k1_off10_inb
    inb_S1088x2304_S640x64_0_768 inb_S1088x2304_S640x64_0_1536 inb_S1088x2304_S640x64_0_832 inb_S1088x2304_S640x64_0_1600
    k1_off6_eq k1_off7_eq k1_off8_eq k1_off9_eq k1_off10_eq rfl rfl rfl rfl _ (by unfold k1_t2_body; rw [k1_part2_eq_skeleton]; rfl)

/-- Loop 3 of the body. -/
theorem step3 (c : Dev nD) (f15 : Bf (F := F) c arg15) (f17 : Bf (F := F) c arg17) (E : Set ℕ) (bd : Option Variants.none.V) (R : sProp 𝕄) :
    attHeld arg15 arg16 arg17 c f15 f17 R 0 2 ⊢ wp frame (wpE (defs₀ (F := F)) Variants.none c bd) E
      (Scf.Loop.for k1_t3_loop k1_t3_ok ⟨⟩ (k1_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 0 4) :=
  loop1088 arg15 arg16 arg17 c f15 f17 E bd R 0 k1_t3_loop k1_t3_ok (by decide) k1_off11 k1_off12 k1_off13 k1_off14 k1_off15 _ _ _ _
    k1_off11_inb k1_off12_inb k1_off13_inb k1_off14_inb k1_off15_inb
    inb_S1088x2304_S1088x64_0_768 inb_S1088x2304_S1088x64_0_1536 inb_S1088x2304_S1088x64_0_832 inb_S1088x2304_S1088x64_0_1600
    k1_off11_eq k1_off12_eq k1_off13_eq k1_off14_eq k1_off15_eq rfl rfl rfl rfl _ (by unfold k1_t3_body; rw [k1_part3_eq_skeleton]; rfl)

/-- Loop 4 of the body. -/
theorem step4 (c : Dev nD) (f15 : Bf (F := F) c arg15) (f17 : Bf (F := F) c arg17) (E : Set ℕ) (bd : Option Variants.none.V) (R : sProp 𝕄) :
    attHeld arg15 arg16 arg17 c f15 f17 R 1 0 ⊢ wp frame (wpE (defs₀ (F := F)) Variants.none c bd) E
      (Scf.Loop.for k1_t4_loop k1_t4_ok ⟨⟩ (k1_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 1 2) :=
  loop640 arg15 arg16 arg17 c f15 f17 E bd R 1 k1_t4_loop k1_t4_ok (by decide) k1_off16 k1_off17 k1_off18 k1_off19 k1_off20 _ _ _ _
    k1_off16_inb k1_off17_inb k1_off18_inb k1_off19_inb k1_off20_inb
    inb_S1088x2304_S640x64_0_896 inb_S1088x2304_S640x64_0_1664 inb_S1088x2304_S640x64_0_960 inb_S1088x2304_S640x64_0_1728
    k1_off16_eq k1_off17_eq k1_off18_eq k1_off19_eq k1_off20_eq rfl rfl rfl rfl _ (by unfold k1_t4_body; rw [k1_part4_eq_skeleton]; rfl)

/-- Loop 5 of the body. -/
theorem step5 (c : Dev nD) (f15 : Bf (F := F) c arg15) (f17 : Bf (F := F) c arg17) (E : Set ℕ) (bd : Option Variants.none.V) (R : sProp 𝕄) :
    attHeld arg15 arg16 arg17 c f15 f17 R 1 2 ⊢ wp frame (wpE (defs₀ (F := F)) Variants.none c bd) E
      (Scf.Loop.for k1_t5_loop k1_t5_ok ⟨⟩ (k1_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 1 4) :=
  loop1088 arg15 arg16 arg17 c f15 f17 E bd R 1 k1_t5_loop k1_t5_ok (by decide) k1_off21 k1_off22 k1_off23 k1_off24 k1_off25 _ _ _ _
    k1_off21_inb k1_off22_inb k1_off23_inb k1_off24_inb k1_off25_inb
    inb_S1088x2304_S1088x64_0_896 inb_S1088x2304_S1088x64_0_1664 inb_S1088x2304_S1088x64_0_960 inb_S1088x2304_S1088x64_0_1728
    k1_off21_eq k1_off22_eq k1_off23_eq k1_off24_eq k1_off25_eq rfl rfl rfl rfl _ (by unfold k1_t5_body; rw [k1_part5_eq_skeleton]; rfl)

/-- Loop 6 of the body. -/
theorem step6 (c : Dev nD) (f15 : Bf (F := F) c arg15) (f17 : Bf (F := F) c arg17) (E : Set ℕ) (bd : Option Variants.none.V) (R : sProp 𝕄) :
    attHeld arg15 arg16 arg17 c f15 f17 R 2 0 ⊢ wp frame (wpE (defs₀ (F := F)) Variants.none c bd) E
      (Scf.Loop.for k1_t6_loop k1_t6_ok ⟨⟩ (k1_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 2 2) :=
  loop640 arg15 arg16 arg17 c f15 f17 E bd R 2 k1_t6_loop k1_t6_ok (by decide) k1_off26 k1_off27 k1_off28 k1_off29 k1_off30 _ _ _ _
    k1_off26_inb k1_off27_inb k1_off28_inb k1_off29_inb k1_off30_inb
    inb_S1088x2304_S640x64_0_1024 inb_S1088x2304_S640x64_0_1792 inb_S1088x2304_S640x64_0_1088 inb_S1088x2304_S640x64_0_1856
    k1_off26_eq k1_off27_eq k1_off28_eq k1_off29_eq k1_off30_eq rfl rfl rfl rfl _ (by unfold k1_t6_body; rw [k1_part6_eq_skeleton]; rfl)

/-- Loop 7 of the body. -/
theorem step7 (c : Dev nD) (f15 : Bf (F := F) c arg15) (f17 : Bf (F := F) c arg17) (E : Set ℕ) (bd : Option Variants.none.V) (R : sProp 𝕄) :
    attHeld arg15 arg16 arg17 c f15 f17 R 2 2 ⊢ wp frame (wpE (defs₀ (F := F)) Variants.none c bd) E
      (Scf.Loop.for k1_t7_loop k1_t7_ok ⟨⟩ (k1_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 2 4) :=
  loop1088 arg15 arg16 arg17 c f15 f17 E bd R 2 k1_t7_loop k1_t7_ok (by decide) k1_off31 k1_off32 k1_off33 k1_off34 k1_off35 _ _ _ _
    k1_off31_inb k1_off32_inb k1_off33_inb k1_off34_inb k1_off35_inb
    inb_S1088x2304_S1088x64_0_1024 inb_S1088x2304_S1088x64_0_1792 inb_S1088x2304_S1088x64_0_1088 inb_S1088x2304_S1088x64_0_1856
    k1_off31_eq k1_off32_eq k1_off33_eq k1_off34_eq k1_off35_eq rfl rfl rfl rfl _ (by unfold k1_t7_body; rw [k1_part7_eq_skeleton]; rfl)

/-- Loop 8 of the body. -/
theorem step8 (c : Dev nD) (f15 : Bf (F := F) c arg15) (f17 : Bf (F := F) c arg17) (E : Set ℕ) (bd : Option Variants.none.V) (R : sProp 𝕄) :
    attHeld arg15 arg16 arg17 c f15 f17 R 3 0 ⊢ wp frame (wpE (defs₀ (F := F)) Variants.none c bd) E
      (Scf.Loop.for k1_t8_loop k1_t8_ok ⟨⟩ (k1_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 3 2) :=
  loop640 arg15 arg16 arg17 c f15 f17 E bd R 3 k1_t8_loop k1_t8_ok (by decide) k1_off36 k1_off37 k1_off38 k1_off39 k1_off40 _ _ _ _
    k1_off36_inb k1_off37_inb k1_off38_inb k1_off39_inb k1_off40_inb
    inb_S1088x2304_S640x64_0_1152 inb_S1088x2304_S640x64_0_1920 inb_S1088x2304_S640x64_0_1216 inb_S1088x2304_S640x64_0_1984
    k1_off36_eq k1_off37_eq k1_off38_eq k1_off39_eq k1_off40_eq rfl rfl rfl rfl _ (by unfold k1_t8_body; rw [k1_part8_eq_skeleton]; rfl)

/-- Loop 9 of the body. -/
theorem step9 (c : Dev nD) (f15 : Bf (F := F) c arg15) (f17 : Bf (F := F) c arg17) (E : Set ℕ) (bd : Option Variants.none.V) (R : sProp 𝕄) :
    attHeld arg15 arg16 arg17 c f15 f17 R 3 2 ⊢ wp frame (wpE (defs₀ (F := F)) Variants.none c bd) E
      (Scf.Loop.for k1_t9_loop k1_t9_ok ⟨⟩ (k1_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 3 4) :=
  loop1088 arg15 arg16 arg17 c f15 f17 E bd R 3 k1_t9_loop k1_t9_ok (by decide) k1_off41 k1_off42 k1_off43 k1_off44 k1_off45 _ _ _ _
    k1_off41_inb k1_off42_inb k1_off43_inb k1_off44_inb k1_off45_inb
    inb_S1088x2304_S1088x64_0_1152 inb_S1088x2304_S1088x64_0_1920 inb_S1088x2304_S1088x64_0_1216 inb_S1088x2304_S1088x64_0_1984
    k1_off41_eq k1_off42_eq k1_off43_eq k1_off44_eq k1_off45_eq rfl rfl rfl rfl _ (by unfold k1_t9_body; rw [k1_part9_eq_skeleton]; rfl)

/-- Loop 10 of the body. -/
theorem step10 (c : Dev nD) (f15 : Bf (F := F) c arg15) (f17 : Bf (F := F) c arg17) (E : Set ℕ) (bd : Option Variants.none.V) (R : sProp 𝕄) :
    attHeld arg15 arg16 arg17 c f15 f17 R 4 0 ⊢ wp frame (wpE (defs₀ (F := F)) Variants.none c bd) E
      (Scf.Loop.for k1_t10_loop k1_t10_ok ⟨⟩ (k1_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 4 2) :=
  loop640 arg15 arg16 arg17 c f15 f17 E bd R 4 k1_t10_loop k1_t10_ok (by decide) k1_off46 k1_off47 k1_off48 k1_off49 k1_off50 _ _ _ _
    k1_off46_inb k1_off47_inb k1_off48_inb k1_off49_inb k1_off50_inb
    inb_S1088x2304_S640x64_0_1280 inb_S1088x2304_S640x64_0_2048 inb_S1088x2304_S640x64_0_1344 inb_S1088x2304_S640x64_0_2112
    k1_off46_eq k1_off47_eq k1_off48_eq k1_off49_eq k1_off50_eq rfl rfl rfl rfl _ (by unfold k1_t10_body; rw [k1_part10_eq_skeleton]; rfl)

/-- Loop 11 of the body. -/
theorem step11 (c : Dev nD) (f15 : Bf (F := F) c arg15) (f17 : Bf (F := F) c arg17) (E : Set ℕ) (bd : Option Variants.none.V) (R : sProp 𝕄) :
    attHeld arg15 arg16 arg17 c f15 f17 R 4 2 ⊢ wp frame (wpE (defs₀ (F := F)) Variants.none c bd) E
      (Scf.Loop.for k1_t11_loop k1_t11_ok ⟨⟩ (k1_t11_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 4 4) :=
  loop1088 arg15 arg16 arg17 c f15 f17 E bd R 4 k1_t11_loop k1_t11_ok (by decide) k1_off51 k1_off52 k1_off53 k1_off54 k1_off55 _ _ _ _
    k1_off51_inb k1_off52_inb k1_off53_inb k1_off54_inb k1_off55_inb
    inb_S1088x2304_S1088x64_0_1280 inb_S1088x2304_S1088x64_0_2048 inb_S1088x2304_S1088x64_0_1344 inb_S1088x2304_S1088x64_0_2112
    k1_off51_eq k1_off52_eq k1_off53_eq k1_off54_eq k1_off55_eq rfl rfl rfl rfl _ (by unfold k1_t11_body; rw [k1_part11_eq_skeleton]; rfl)

/-- Loop 12 of the body. -/
theorem step12 (c : Dev nD) (f15 : Bf (F := F) c arg15) (f17 : Bf (F := F) c arg17) (E : Set ℕ) (bd : Option Variants.none.V) (R : sProp 𝕄) :
    attHeld arg15 arg16 arg17 c f15 f17 R 5 0 ⊢ wp frame (wpE (defs₀ (F := F)) Variants.none c bd) E
      (Scf.Loop.for k1_t12_loop k1_t12_ok ⟨⟩ (k1_t12_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 5 2) :=
  loop640 arg15 arg16 arg17 c f15 f17 E bd R 5 k1_t12_loop k1_t12_ok (by decide) k1_off56 k1_off57 k1_off58 k1_off59 k1_off60 _ _ _ _
    k1_off56_inb k1_off57_inb k1_off58_inb k1_off59_inb k1_off60_inb
    inb_S1088x2304_S640x64_0_1408 inb_S1088x2304_S640x64_0_2176 inb_S1088x2304_S640x64_0_1472 inb_S1088x2304_S640x64_0_2240
    k1_off56_eq k1_off57_eq k1_off58_eq k1_off59_eq k1_off60_eq rfl rfl rfl rfl _ (by unfold k1_t12_body; rw [k1_part12_eq_skeleton]; rfl)

/-- Loop 13 of the body. -/
theorem step13 (c : Dev nD) (f15 : Bf (F := F) c arg15) (f17 : Bf (F := F) c arg17) (E : Set ℕ) (bd : Option Variants.none.V) (R : sProp 𝕄) :
    attHeld arg15 arg16 arg17 c f15 f17 R 5 2 ⊢ wp frame (wpE (defs₀ (F := F)) Variants.none c bd) E
      (Scf.Loop.for k1_t13_loop k1_t13_ok ⟨⟩ (k1_t13_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (fun _ => attHeld arg15 arg16 arg17 c f15 f17 R 5 4) :=
  loop1088 arg15 arg16 arg17 c f15 f17 E bd R 5 k1_t13_loop k1_t13_ok (by decide) k1_off61 k1_off62 k1_off63 k1_off64 k1_off65 _ _ _ _
    k1_off61_inb k1_off62_inb k1_off63_inb k1_off64_inb k1_off65_inb
    inb_S1088x2304_S1088x64_0_1408 inb_S1088x2304_S1088x64_0_2176 inb_S1088x2304_S1088x64_0_1472 inb_S1088x2304_S1088x64_0_2240
    k1_off61_eq k1_off62_eq k1_off63_eq k1_off64_eq k1_off65_eq rfl rfl rfl rfl _ (by unfold k1_t13_body; rw [k1_part13_eq_skeleton]; rfl)

/-- From one pair of heads to the next. -/
theorem att_next (c : Dev nD) (f15 : Bf (F := F) c arg15) (f17 : Bf (F := F) c arg17) (R : sProp 𝕄) (hp : ℕ) :
    attHeld arg15 arg16 arg17 c f15 f17 R hp 4 ⊢ attHeld arg15 arg16 arg17 c f15 f17 R (hp + 1) 0 := by
  unfold attHeld Updates.heldWith
  iintro ⟨%f, H, %hf⟩
  iexists f
  isplitl [H]; · iexact H
  ipureintro
  exact hf.next

/-- Two existentials and a side fact, eliminated. -/
theorem elim_two {α β : Type} {Φ : α → β → sProp 𝕄} {X : α → β → Prop} {Q : sProp 𝕄} (h : ∀ a b, X a b → Φ a b ⊢ Q) :
    iprop(∃ a b, Φ a b ∗ ⌜X a b⌝) ⊢ Q := by
  iintro ⟨%a, %b, H, %hx⟩
  iapply (h a b hx)
  iexact H

set_option maxHeartbeats 2000000 in
/-- The layer's body. -/
theorem layer_run (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13)
    (f14 : Bf (F := F) c arg14) (f15 : Bf (F := F) c arg15) (f16 : Bf (F := F) c arg16) (f17 : Bf (F := F) c arg17) (E : Set ℕ) (bd : Option Variants.none.V) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17
        ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩))
      ⊢ wp frame (wpE (defs₀ (F := F)) Variants.none c bd) E (cc1__layer_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [cc1__layer_body_eq_skeleton]
  unfold cc1__layer_body_skel
  rw [k1_part16_eq_skeleton]
  unfold k1_part16_skel
  simp only [wp_bind]
  have hin : iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩))
      ⊢ iprop(qkvHeld arg1 arg2 arg3 arg15 arg17 c f1 f2 f3 0 ∗ (pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg16 f16 ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩))) := by
    iintro ⟨H1, H2, H3, H4, H5, H6, H7, H8, H9, H10, H11, H12, H13, H14, H15, H16, H17, Hk⟩
    isplitl [H1 H2 H3 H15 H17]
    · unfold qkvHeld Updates.heldWith
      iexists (f15, f17)
      isplitl [H1 H2 H3 H15 H17]
      · isplitl [H1]; · iexact H1
        isplitl [H2]; · iexact H2
        isplitl [H3]; · iexact H3
        isplitl [H15]; · iexact H15
        iexact H17
      · ipureintro
        exact ⟨fun y hy => absurd hy (by omega), fun y hy => absurd hy (by omega)⟩
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    iexact Hk

  have hmid : iprop(qkvHeld arg1 arg2 arg3 arg15 arg17 c f1 f2 f3 k1_t1_loop.trips ∗ (pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg16 f16 ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩)))
      ⊢ iprop(∃ f15' f17', attHeld arg15 arg16 arg17 c f15' f17' iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩)) 0 0
          ∗ ⌜arg15.view.read (Elt F) f15' = qkvV (arg1.view.read (Elt F) f1) (arg2.view.read (Elt F) f2) (arg3.view.read (Elt F) f3) ∧ arg17.view.read (Elt F) f17' = maskV⌝) := by
    unfold qkvHeld attHeld Updates.heldWith
    iintro ⟨⟨%f, ⟨H1, H2, H3, H15, H17⟩, %hf⟩, H4, H5, H6, H7, H8, H9, H10, H11, H12, H13, H14, H16, Hk⟩
    iexists f.1
    iexists f.2
    isplitl [H1 H2 H3 H4 H5 H6 H7 H8 H9 H10 H11 H12 H13 H14 H15 H16 H17 Hk]
    · iexists f16
      isplitl [H1 H2 H3 H4 H5 H6 H7 H8 H9 H10 H11 H12 H13 H14 H15 H16 H17 Hk]
      · isplitl [H1 H2 H3 H4 H5 H6 H7 H8 H9 H10 H11 H12 H13 H14 Hk]
        · isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact Hk
        isplitl [H15]; · iexact H15
        isplitl [H17]; · iexact H17
        iexact H16
      · ipureintro
        exact fun y hy => absurd hy (by omega)
    · ipureintro
      exact ⟨funext fun y => hf.1 y (lt_of_lt_of_eq (y 0).isLt (by decide)), funext fun y => hf.2 y (lt_of_lt_of_eq (y 0).isLt (by decide))⟩
  refine hin.trans (((sep_mono_l (loopQkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E bd f1 f2 f3)).trans (wp_frame_r _ _ _)).trans (wp_mono _ _ _ fun _ => ?_))
  refine hmid.trans (elim_two fun f15' f17' hqm => ?_)
  refine (step2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (step3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (att_next arg15 arg16 arg17 c f15' f17' _ _).trans ?_
  refine (step4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (step5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (att_next arg15 arg16 arg17 c f15' f17' _ _).trans ?_
  refine (step6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (step7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (att_next arg15 arg16 arg17 c f15' f17' _ _).trans ?_
  refine (step8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (step9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (att_next arg15 arg16 arg17 c f15' f17' _ _).trans ?_
  refine (step10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine BIBase.Entails.trans ?_ (le_wp_ret _ _ _ _ _)
  refine (step11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (att_next arg15 arg16 arg17 c f15' f17' _ _).trans ?_
  refine (step12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  refine (step13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c f15' f17' E bd _).trans (wp_mono _ _ _ fun _ => ?_)
  have hlast : attHeld arg15 arg16 arg17 c f15' f17' iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩)) 5 4
      ⊢ iprop(∃ f16' : Bf (F := F) c arg16, ∃ _ : Unit, mlpHeld arg1 arg4 arg5 arg6 arg7 arg8 arg9 arg10 arg11 arg12 arg13 arg14 arg16 c f1 f4 f5 f6 f7 f8 f9 f10 f11 f12 f13 f16' iprop(pt c arg2 f2 ∗ pt c arg3 f3 ∗ pt c arg15 f15' ∗ pt c arg17 f17' ∗ (∀ f14' f15' f16' f17', iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14' ∗ pt c arg15 f15' ∗ pt c arg16 f16' ∗ pt c arg17 f17')
            ∗ ⌜arg14.view.read (Elt F) f14' = layerV (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13)⌝) -∗ Q ⟨⟩)) 0
          ∗ ⌜arg16.view.read (Elt F) f16' = attV (qkvV (arg1.view.read (Elt F) f1) (arg2.view.read (Elt F) f2) (arg3.view.read (Elt F) f3)) maskV⌝) := by
    unfold attHeld mlpHeld Updates.heldWith
    iintro ⟨%f, ⟨⟨H1, H2, H3, H4, H5, H6, H7, H8, H9, H10, H11, H12, H13, H14, Hk⟩, H15, H17, H16⟩, %hf⟩
    iexists f
    iexists ()
    isplitl [H1 H2 H3 H4 H5 H6 H7 H8 H9 H10 H11 H12 H13 H14 H15 H16 H17 Hk]
    · iexists f14
      isplitl [H1 H2 H3 H4 H5 H6 H7 H8 H9 H10 H11 H12 H13 H14 H15 H16 H17 Hk]
      · isplitl [H2 H3 H15 H17 Hk]
        · isplitl [H2]; · iexact H2
          isplitl [H3]; · iexact H3
          isplitl [H15]; · iexact H15
          isplitl [H17]; · iexact H17
          iexact Hk
        isplitl [H1]; · iexact H1
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H16]; · iexact H16
        iexact H14
      · ipureintro
        exact fun y hy => absurd hy (by omega)
    · ipureintro
      rw [← hqm.1, ← hqm.2]
      exact funext fun y => hf y (by have : (y 0).val < 1088 := (y 0).isLt; have : (y 1).val < 768 := (y 1).isLt; omega)
  refine hlast.trans (elim_two fun f16' _ ha => ?_)
  refine (loopMlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E bd f1 f4 f5 f6 f7 f8 f9 f10 f11 f12 f13 f16' _).trans (wp_mono _ _ _ fun _ => ?_)
  refine BIBase.Entails.trans ?_ (le_wp_ret _ _ _ _ _)
  unfold mlpHeld Updates.heldWith
  iintro ⟨%f, ⟨⟨H2, H3, H15, H17, Hk⟩, H1, H4, H5, H6, H7, H8, H9, H10, H11, H12, H13, H16, H14⟩, %hf⟩
  ispecialize Hk $$ %f %f15' %f16' %f17'
  iapply Hk
  isplitl [H1 H2 H3 H4 H5 H6 H7 H8 H9 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · ipureintro
    rw [ha] at hf
    exact funext fun y => hf y (lt_of_lt_of_eq (y 1).isLt (by decide))

end Cert.Proof.KI
end
-- ==== Proof.EmbedHead.lean ====
module

public import proofs.«01_k».proof.Proof.LayerAttn

/-!
The first and the last kernel body: the embedding of one batch row's tokens, and the three heads' logits of one batch row.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The embedded block: value, time and node embeddings side by side in the first 1024 rows, the prediction token in the last 64. -/
def embedV (A1 : Vec F S1x1x1024 .i32) (A2 : Vec F S1x1x1024 .f32) (A3 : Vec F S1x1x1024 .i32) (A4 : Vec F S64x128 .f32) (A5 : Vec F S360x384 .f32) (A6 : Vec F S1x768 .f32) :
    S1x1088x768.Idx → Elt F .f32 := fun y =>
  if (y 1).val < 1024 then
    if (y 2).val < 128 then k0_pay4 A1 A4 (at' S1x1024x128 ![0, (y 1).val, (y 2).val])
    else if (y 2).val < 384 then
      k0_pay1 (k0_pay5 A2) k0_pay6 (Scalar.ofBits .f32 0x00000000#32) k0_pay7 (at' S1x1024x256 ![0, (y 1).val, (y 2).val - 128])
    else k0_pay2 A3 A5 (at' S1x1024x384 ![0, (y 1).val, (y 2).val - 384])
  else k0_pay3 A6 (at' S1x64x768 ![0, (y 1).val - 1024, (y 2).val])

section
variable (i : grid0.Coords)
  (arg1 : Memref sig .tc .vmem S1x1x1024 .i32) (harg1 : arg1.IsWhole)
  (arg2 : Memref sig .tc .vmem S1x1x1024 .f32) (harg2 : arg2.IsWhole)
  (arg3 : Memref sig .tc .vmem S1x1x1024 .i32) (harg3 : arg3.IsWhole)
  (arg4 : Memref sig .tc .vmem S64x128 .f32) (harg4 : arg4.IsWhole)
  (arg5 : Memref sig .tc .vmem S360x384 .f32) (harg5 : arg5.IsWhole)
  (arg6 : Memref sig .tc .vmem S1x768 .f32) (harg6 : arg6.IsWhole)
  (arg7 : Memref sig .tc .vmem S1x1088x768 .f32) (harg7 : arg7.IsWhole)

/-- The embedding body's run, from any contents. -/
def runEmbed (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    { W : Bf (F := F) c arg7 // ∀ (E : Set ℕ) (bd : Option Variants.none.V) (Q : PUnit → sProp 𝕄),
        iprop(pt c arg1 f1 ∗ pt c arg2 f2 ∗ pt c arg3 f3 ∗ pt c arg4 f4 ∗ pt c arg5 f5 ∗ pt c arg6 f6 ∗ pt c arg7 f7 ∗ (iprop(pt c arg1 f1 ∗ pt c arg2 f2 ∗ pt c arg3 f3 ∗ pt c arg4 f4 ∗ pt c arg5 f5 ∗ pt c arg6 f6 ∗ pt c arg7 W) -∗ Q ⟨⟩))
          ⊢ wp frame (wpE (defs₀ (F := F)) Variants.none c bd) E (cc0__embed_body i arg1 harg1 arg2 harg2 arg3 harg3 arg4 harg4 arg5 harg5 arg6 harg6 arg7 harg7) Q } := by
  refine ⟨?_, fun E bd Q => ?run⟩
  case run =>
    rw [cc0__embed_body_eq_skeleton]
    unfold cc0__embed_body_skel
    rw [k0_part1_eq_skeleton]
    unfold k0_part1_skel
    iintro ⟨H1, H2, H3, H4, H5, H6, H7, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

/-- It leaves the embedded block in the output buffer. -/
theorem embed_val (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    arg7.view.read (Elt F) (runEmbed i arg1 harg1 arg2 harg2 arg3 harg3 arg4 harg4 arg5 harg5 arg6 harg6 arg7 harg7 c f1 f2 f3 f4 f5 f6 f7).1 = embedV (arg1.view.read (Elt F) f1) (arg2.view.read (Elt F) f2) (arg3.view.read (Elt F) f3) (arg4.view.read (Elt F) f4) (arg5.view.read (Elt F) f5) (arg6.view.read (Elt F) f6) := by
  funext y
  have h0 : (y 0).val < 1 := (y 0).isLt
  have h1 : (y 1).val < 1088 := (y 1).isLt
  have h2 : (y 2).val < 768 := (y 2).isLt
  dsimp only [runEmbed, runEmbed.sl.H7_4]
  unfold embedV
  have e1 := (readAt_tile (s := S1x1x1024) (off := ![0, 0, 0]) (size := ![1, 1, 1024]) arg1.view f1 inb_S1x1x1024_S1x1x1024_0_0_0 (by decide) rfl).trans (tile_full (s := S1x1x1024) _ _ (by decide) (by decide))
  have e2 := (readAt_tile (s := S1x1x1024) (off := ![0, 0, 0]) (size := ![1, 1, 1024]) arg2.view f2 inb_S1x1x1024_S1x1x1024_0_0_0 (by decide) rfl).trans (tile_full (s := S1x1x1024) _ _ (by decide) (by decide))
  have e3 := (readAt_tile (s := S1x1x1024) (off := ![0, 0, 0]) (size := ![1, 1, 1024]) arg3.view f3 inb_S1x1x1024_S1x1x1024_0_0_0 (by decide) rfl).trans (tile_full (s := S1x1x1024) _ _ (by decide) (by decide))
  have e4 := (readAt_tile (s := S64x128) (off := ![0, 0]) (size := ![64, 128]) arg4.view f4 inb_S64x128_S64x128_0_0 (by decide) rfl).trans (tile_full (s := S64x128) _ _ (by decide) (by decide))
  have e5 := (readAt_tile (s := S360x384) (off := ![0, 0]) (size := ![360, 384]) arg5.view f5 inb_S360x384_S360x384_0_0 (by decide) rfl).trans (tile_full (s := S360x384) _ _ (by decide) (by decide))
  have e6 := (readAt_tile (s := S1x768) (off := ![0, 0]) (size := ![1, 768]) arg6.view f6 inb_S1x768_S1x768_0_0 (by decide) rfl).trans (tile_full (s := S1x768) _ _ (by decide) (by decide))
  by_cases hp : (y 1).val < 1024
  · rw [View.read_writes_cons_unit_of_not_mem arg7.view _ inb_S1x1088x768_S1x64x768_0_1024_0 _ _ y rfl 1 (.inl hp), if_pos hp]
    by_cases ht : (y 2).val < 384
    · rw [View.read_writes_cons_unit_of_not_mem arg7.view _ inb_S1x1088x768_S1x1024x384_0_0_384 _ _ y rfl 2 (.inl ht)]
      by_cases hv : (y 2).val < 128
      · rw [View.read_writes_cons_unit_of_not_mem arg7.view _ inb_S1x1088x768_S1x1024x256_0_0_128 _ _ y rfl 2 (.inl hv), if_pos hv]
        rw [View.read_writes_cons_unit_of_mem arg7.view _ inb_S1x1088x768_S1x1024x128_0_0_0 _ _ y (at' S1x1024x128 ![0, (y 1).val, (y 2).val]) rfl (fun a => by
          fin_cases a
          · show (y 0).val = 0 + 0 % 1; omega
          · show (y 1).val = 0 + (y 1).val % 1024; omega
          · show (y 2).val = 0 + (y 2).val % 128; omega)]
        exact congrFun (congrArg₂ k0_pay4 e1 e4) _
      · rw [if_neg hv, if_pos ht]
        rw [View.read_writes_cons_unit_of_mem arg7.view _ inb_S1x1088x768_S1x1024x256_0_0_128 _ _ y (at' S1x1024x256 ![0, (y 1).val, (y 2).val - 128]) rfl (fun a => by
          fin_cases a
          · show (y 0).val = 0 + 0 % 1; omega
          · show (y 1).val = 0 + (y 1).val % 1024; omega
          · show (y 2).val = 128 + ((y 2).val - 128) % 256; omega)]
        exact congrFun (congrArg (fun z => k0_pay1 (k0_pay5 z) k0_pay6 (Scalar.ofBits .f32 0x00000000#32) k0_pay7) e2) _
    · rw [if_neg (by omega : ¬ (y 2).val < 128), if_neg ht]
      rw [View.read_writes_cons_unit_of_mem arg7.view _ inb_S1x1088x768_S1x1024x384_0_0_384 _ _ y (at' S1x1024x384 ![0, (y 1).val, (y 2).val - 384]) rfl (fun a => by
          fin_cases a
          · show (y 0).val = 0 + 0 % 1; omega
          · show (y 1).val = 0 + (y 1).val % 1024; omega
          · show (y 2).val = 384 + ((y 2).val - 384) % 384; omega)]
      exact congrFun (congrArg₂ k0_pay2 e3 e5) _
  · rw [if_neg hp]
    rw [View.read_writes_cons_unit_of_mem arg7.view _ inb_S1x1088x768_S1x64x768_0_1024_0 _ _ y (at' S1x64x768 ![0, (y 1).val - 1024, (y 2).val]) rfl (fun a => by
          fin_cases a
          · show (y 0).val = 0 + 0 % 1; omega
          · show (y 1).val = 1024 + ((y 1).val - 1024) % 64; omega
          · show (y 2).val = 0 + (y 2).val % 768; omega)]
    exact congrFun (congrArg k0_pay3 e6) _
end

section
variable (i : grid2.Coords)
  (arg1 : Memref sig .tc .vmem S1x64x768 .f32) (harg1 : arg1.IsWhole)
  (arg2 : Memref sig .tc .vmem S64x128 .f32) (harg2 : arg2.IsWhole)
  (arg3 : Memref sig .tc .vmem S601x256 .f32) (harg3 : arg3.IsWhole)
  (arg4 : Memref sig .tc .vmem S360x384 .f32) (harg4 : arg4.IsWhole)
  (arg5 : Memref sig .tc .vmem S1x64x64 .f32) (harg5 : arg5.IsWhole)
  (arg6 : Memref sig .tc .vmem S1x64x601 .f32) (harg6 : arg6.IsWhole)
  (arg7 : Memref sig .tc .vmem S1x64x360 .f32) (harg7 : arg7.IsWhole)

/-- The head body's run, from any contents. -/
def runHead (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    { W : Bf (F := F) c arg5 × Bf (F := F) c arg6 × Bf (F := F) c arg7 // ∀ (E : Set ℕ) (bd : Option Variants.none.V) (Q : PUnit → sProp 𝕄),
        iprop(pt c arg1 f1 ∗ pt c arg2 f2 ∗ pt c arg3 f3 ∗ pt c arg4 f4 ∗ pt c arg5 f5 ∗ pt c arg6 f6 ∗ pt c arg7 f7 ∗ (iprop(pt c arg1 f1 ∗ pt c arg2 f2 ∗ pt c arg3 f3 ∗ pt c arg4 f4 ∗ pt c arg5 W.1 ∗ pt c arg6 W.2.1 ∗ pt c arg7 W.2.2) -∗ Q ⟨⟩))
          ⊢ wp frame (wpE (defs₀ (F := F)) Variants.none c bd) E (cc2__head_body i arg1 harg1 arg2 harg2 arg3 harg3 arg4 harg4 arg5 harg5 arg6 harg6 arg7 harg7) Q } := by
  refine ⟨⟨?_, ?_, ?_⟩, fun E bd Q => ?run⟩
  case run =>
    rw [cc2__head_body_eq_skeleton]
    unfold cc2__head_body_skel
    iintro ⟨H1, H2, H3, H4, H5, H6, H7, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

/-- It leaves the logits of table 1 in output buffer 5. -/
theorem head_val5 (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    arg5.view.read (Elt F) (runHead i arg1 harg1 arg2 harg2 arg3 harg3 arg4 harg4 arg5 harg5 arg6 harg6 arg7 harg7 c f1 f2 f3 f4 f5 f6 f7).1.1 = k2_pay2 (arg1.view.read (Elt F) f1) (arg2.view.read (Elt F) f2) := by
  funext y
  dsimp only [runHead, runHead.sl.H5_1]
  have e1 := (readAt_tile (s := S1x64x768) (off := ![0, 0, 0]) (size := ![1, 64, 768]) arg1.view f1 inb_S1x64x768_S1x64x768_0_0_0 (by decide) rfl).trans (tile_full (s := S1x64x768) _ _ (by decide) (by decide))
  have ea := (readAt_tile (s := S64x128) (off := ![0, 0]) (size := ![64, 128]) arg2.view f2 inb_S64x128_S64x128_0_0 (by decide) rfl).trans (tile_full (s := S64x128) _ _ (by decide) (by decide))
  rw [View.read_writes_cons_unit_of_mem arg5.view _ inb_S1x64x64_S1x64x64_0_0_0 _ _ y y rfl (fun a => by fin_cases a <;> exact (Nat.zero_add _).symm)]
  exact congrFun (congrArg₂ k2_pay2 e1 ea) _

/-- It leaves the logits of table 2 in output buffer 6. -/
theorem head_val6 (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    arg6.view.read (Elt F) (runHead i arg1 harg1 arg2 harg2 arg3 harg3 arg4 harg4 arg5 harg5 arg6 harg6 arg7 harg7 c f1 f2 f3 f4 f5 f6 f7).1.2.1 = k2_pay3 (arg1.view.read (Elt F) f1) (arg3.view.read (Elt F) f3) := by
  funext y
  dsimp only [runHead, runHead.sl.H6_1]
  have e1 := (readAt_tile (s := S1x64x768) (off := ![0, 0, 0]) (size := ![1, 64, 768]) arg1.view f1 inb_S1x64x768_S1x64x768_0_0_0 (by decide) rfl).trans (tile_full (s := S1x64x768) _ _ (by decide) (by decide))
  have ea := (readAt_tile (s := S601x256) (off := ![0, 0]) (size := ![601, 256]) arg3.view f3 inb_S601x256_S601x256_0_0 (by decide) rfl).trans (tile_full (s := S601x256) _ _ (by decide) (by decide))
  rw [View.read_writes_cons_unit_of_mem arg6.view _ inb_S1x64x601_S1x64x601_0_0_0 _ _ y y rfl (fun a => by fin_cases a <;> exact (Nat.zero_add _).symm)]
  exact congrFun (congrArg₂ k2_pay3 e1 ea) _

/-- It leaves the logits of table 3 in output buffer 7. -/
theorem head_val7 (c : Dev nD) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) :
    arg7.view.read (Elt F) (runHead i arg1 harg1 arg2 harg2 arg3 harg3 arg4 harg4 arg5 harg5 arg6 harg6 arg7 harg7 c f1 f2 f3 f4 f5 f6 f7).1.2.2 = k2_pay4 (arg1.view.read (Elt F) f1) (arg4.view.read (Elt F) f4) := by
  funext y
  dsimp only [runHead, runHead.sl.H7_1]
  have e1 := (readAt_tile (s := S1x64x768) (off := ![0, 0, 0]) (size := ![1, 64, 768]) arg1.view f1 inb_S1x64x768_S1x64x768_0_0_0 (by decide) rfl).trans (tile_full (s := S1x64x768) _ _ (by decide) (by decide))
  have ea := (readAt_tile (s := S360x384) (off := ![0, 0]) (size := ![360, 384]) arg4.view f4 inb_S360x384_S360x384_0_0 (by decide) rfl).trans (tile_full (s := S360x384) _ _ (by decide) (by decide))
  rw [View.read_writes_cons_unit_of_mem arg7.view _ inb_S1x64x360_S1x64x360_0_0_0 _ _ y y rfl (fun a => by fin_cases a <;> exact (Nat.zero_add _).symm)]
  exact congrFun (congrArg₂ k2_pay4 e1 ea) _

end

end Cert.Proof.KI
end
-- ==== Proof.Launches.lean ====
module

public import proofs.«01_k».proof.Proof.LayerRun
public import proofs.«01_k».proof.Proof.EmbedHead
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody
public import Idealize.ShloMosaic.Lib.Pipeline.Launch

/-!
The three launches: what each leaves in its output windows at every grid point, and that its body does so. All are entered
from any contents of the buffers.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

omit [FloatOps F] [Named F] in
/-- Owning a whole memory reference at contents `X` is holding its buffer with contents that read as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, h⟩ := h
  cases h
  exact owns_whole_eq ..

/-! ## The embedding launch -/

/-- Window `w`'s block at point `t`, read off the contents `V`. -/
abbrev blk0 (V : Valuation τ sig (Elt F)) (w : Fin 7) (t : Fin cfg0.N) : ((cfg0.win w).xblock (cfg0.grid.coords t)).Idx → Elt F (cfg0.win w).elt :=
  ((cfg0.win w).blk t).view.read (Elt F) (V (Pipeline.arrRef spec0 w))

/-- The launch entered from contents `V`: inputs are left as found, the outputs hold the body's values. -/
def dat0 (V : Valuation τ sig (Elt F)) (c : Dev nD) : Dat τ (Elt F) Unit ℕ UU ℕ cfg0 c where
  A w := V (Pipeline.arrRef spec0 w)
  after w t := match w with
    | ⟨0, _⟩ => blk0 V 0 t
    | ⟨1, _⟩ => blk0 V 1 t
    | ⟨2, _⟩ => blk0 V 2 t
    | ⟨3, _⟩ => blk0 V 3 t
    | ⟨4, _⟩ => blk0 V 4 t
    | ⟨5, _⟩ => blk0 V 5 t
    | ⟨6, _⟩ => embedV (blk0 V 0 t) (blk0 V 1 t) (blk0 V 2 t) (blk0 V 3 t) (blk0 V 4 t) (blk0 V 5 t)
  Φ _ := Pipeline.scopedRest (Ix := Unit) (Name := ℕ) (U := UU) (Lvl := ℕ) (Val := Elt F) spec0 c
  q _ := fullShare
  owed _ := 0

set_option maxHeartbeats 1000000 in
/-- An input window's staging buffer holds its block when the body runs, fetched at this point or an earlier one. -/
theorem before0 (V : Valuation τ sig (Elt F)) (c : Dev nD) : ∀ (w : Fin 7), (cfg0.win w).isOut = false → ∀ t d, (dat0 V c).before w t d = (dat0 V c).after w t := by
  intro w hw t d
  fin_cases w
  · exact (dat0 V c).before_in_eq_fetched 0 rfl (fun _ => rfl) (fun _ _ _ => rfl) (fun _ => rfl) t d
  · exact (dat0 V c).before_in_eq_fetched 1 rfl (fun _ => rfl) (fun _ _ _ => rfl) (fun _ => rfl) t d
  · exact (dat0 V c).before_in_eq_fetched 2 rfl (fun _ => rfl) (fun _ _ _ => rfl) (fun _ => rfl) t d
  · exact (dat0 V c).before_in_eq_fetched 3 rfl (fun _ => rfl) (fun _ _ _ => rfl) (fun _ => rfl) t d
  · exact (dat0 V c).before_in_eq_fetched 4 rfl (fun _ => rfl) (fun _ _ _ => rfl) (fun _ => rfl) t d
  · exact (dat0 V c).before_in_eq_fetched 5 rfl (fun _ => rfl) (fun _ _ _ => rfl) (fun _ => rfl) t d
  · cases hw

set_option maxHeartbeats 1000000 in
/-- The body at a grid point: from the input blocks it leaves the output windows at `dat0`'s values. -/
theorem body0 (V : Valuation τ sig (Elt F)) (c : Dev nD) : BodyObligation (dat0 V c) (defs₀ (F := F)) Variants.none () Set.univ := fun t => by
  rw [bigSep_W0, bigSep_W0]
  simp only [fun j X => owns_pt (F := F) c (hstage0_0 j) X, fun j X => owns_pt (F := F) c (hstage0_1 j) X, fun j X => owns_pt (F := F) c (hstage0_2 j) X, fun j X => owns_pt (F := F) c (hstage0_3 j) X, fun j X => owns_pt (F := F) c (hstage0_4 j) X, fun j X => owns_pt (F := F) c (hstage0_5 j) X, fun j X => owns_pt (F := F) c (hstage0_6 j) X]
  rw [show (dat0 V c).owesAt () t.succ = (dat0 V c).owesAt () t.castSucc from rfl,
    show (defs₀ (F := F)) .tc cfg0.body (cfg0.bodyArgs t (cfg0.slots t)) = bodyAt0 t from rfl]
  rw [show (dat0 V c).Φ t.castSucc = Pipeline.scopedRest spec0 c from rfl, show (dat0 V c).Φ t.succ = Pipeline.scopedRest spec0 c from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩⟩
  rw [before0 V c 0 rfl] at h0
  rw [before0 V c 1 rfl] at h1
  rw [before0 V c 2 rfl] at h2
  rw [before0 V c 3 rfl] at h3
  rw [before0 V c 4 rfl] at h4
  rw [before0 V c 5 rfl] at h5
  iapply ((runEmbed (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) c f0 f1 f2 f3 f4 f5 f6).2 Set.univ none _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  iexists _; isplitr; swap; (· iexact H6); ipureintro; exact (embed_val (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) c f0 f1 f2 f3 f4 f5 f6).trans (by rw [h0, h1, h2, h3, h4, h5]; rfl)

/-! ## The layer launch -/

/-- Window `w`'s block at point `t`, read off the contents `V`. -/
abbrev blk1 (V : Valuation τ sig (Elt F)) (w : Fin 14) (t : Fin cfg1.N) : ((cfg1.win w).xblock (cfg1.grid.coords t)).Idx → Elt F (cfg1.win w).elt :=
  ((cfg1.win w).blk t).view.read (Elt F) (V (Pipeline.arrRef spec1 w))

/-- The launch entered from contents `V`: inputs are left as found, the outputs hold the body's values. -/
def dat1 (V : Valuation τ sig (Elt F)) (c : Dev nD) : Dat τ (Elt F) Unit ℕ UU ℕ cfg1 c where
  A w := V (Pipeline.arrRef spec1 w)
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => blk1 V 5 t
    | ⟨6, _⟩ => blk1 V 6 t
    | ⟨7, _⟩ => blk1 V 7 t
    | ⟨8, _⟩ => blk1 V 8 t
    | ⟨9, _⟩ => blk1 V 9 t
    | ⟨10, _⟩ => blk1 V 10 t
    | ⟨11, _⟩ => blk1 V 11 t
    | ⟨12, _⟩ => blk1 V 12 t
    | ⟨13, _⟩ => layerV (blk1 V 0 t) (blk1 V 1 t) (blk1 V 2 t) (blk1 V 3 t) (blk1 V 4 t) (blk1 V 5 t) (blk1 V 6 t) (blk1 V 7 t) (blk1 V 8 t) (blk1 V 9 t) (blk1 V 10 t) (blk1 V 11 t) (blk1 V 12 t)
  Φ _ := Pipeline.scopedRest (Ix := Unit) (Name := ℕ) (U := UU) (Lvl := ℕ) (Val := Elt F) spec1 c
  q _ := fullShare
  owed _ := 0

set_option maxHeartbeats 1000000 in
/-- An input window's staging buffer holds its block when the body runs, fetched at this point or an earlier one. -/
theorem before1 (V : Valuation τ sig (Elt F)) (c : Dev nD) : ∀ (w : Fin 14), (cfg1.win w).isOut = false → ∀ t d, (dat1 V c).before w t d = (dat1 V c).after w t := by
  intro w hw t d
  fin_cases w
  · exact (dat1 V c).before_in_eq_fetched 0 rfl (fun _ => rfl) (fun _ _ _ => rfl) (fun _ => rfl) t d
  · exact (dat1 V c).before_in_eq_fetched 1 rfl (fun _ => rfl) (fun _ _ _ => rfl) (fun _ => rfl) t d
  · exact (dat1 V c).before_in_eq_fetched 2 rfl (fun _ => rfl) (fun _ _ _ => rfl) (fun _ => rfl) t d
  · exact (dat1 V c).before_in_eq_fetched 3 rfl (fun _ => rfl) (fun _ _ _ => rfl) (fun _ => rfl) t d
  · exact (dat1 V c).before_in_eq_fetched 4 rfl (fun _ => rfl) (fun _ _ _ => rfl) (fun _ => rfl) t d
  · exact (dat1 V c).before_in_eq_fetched 5 rfl (fun _ => rfl) (fun _ _ _ => rfl) (fun _ => rfl) t d
  · exact (dat1 V c).before_in_eq_fetched 6 rfl (fun _ => rfl) (fun _ _ _ => rfl) (fun _ => rfl) t d
  · exact (dat1 V c).before_in_eq_fetched 7 rfl (fun _ => rfl) (fun _ _ _ => rfl) (fun _ => rfl) t d
  · exact (dat1 V c).before_in_eq_fetched 8 rfl (fun _ => rfl) (fun _ _ _ => rfl) (fun _ => rfl) t d
  · exact (dat1 V c).before_in_eq_fetched 9 rfl (fun _ => rfl) (fun _ _ _ => rfl) (fun _ => rfl) t d
  · exact (dat1 V c).before_in_eq_fetched 10 rfl (fun _ => rfl) (fun _ _ _ => rfl) (fun _ => rfl) t d
  · exact (dat1 V c).before_in_eq_fetched 11 rfl (fun _ => rfl) (fun _ _ _ => rfl) (fun _ => rfl) t d
  · exact (dat1 V c).before_in_eq_fetched 12 rfl (fun _ => rfl) (fun _ _ _ => rfl) (fun _ => rfl) t d
  · cases hw

set_option maxHeartbeats 1000000 in
/-- The body at a grid point: from the input blocks it leaves the output windows at `dat1`'s values. -/
theorem body1 (V : Valuation τ sig (Elt F)) (c : Dev nD) : BodyObligation (dat1 V c) (defs₀ (F := F)) Variants.none () Set.univ := fun t => by
  rw [bigSep_W1, bigSep_W1]
  simp only [fun j X => owns_pt (F := F) c (hstage1_0 j) X, fun j X => owns_pt (F := F) c (hstage1_1 j) X, fun j X => owns_pt (F := F) c (hstage1_2 j) X, fun j X => owns_pt (F := F) c (hstage1_3 j) X, fun j X => owns_pt (F := F) c (hstage1_4 j) X, fun j X => owns_pt (F := F) c (hstage1_5 j) X, fun j X => owns_pt (F := F) c (hstage1_6 j) X, fun j X => owns_pt (F := F) c (hstage1_7 j) X, fun j X => owns_pt (F := F) c (hstage1_8 j) X, fun j X => owns_pt (F := F) c (hstage1_9 j) X, fun j X => owns_pt (F := F) c (hstage1_10 j) X, fun j X => owns_pt (F := F) c (hstage1_11 j) X, fun j X => owns_pt (F := F) c (hstage1_12 j) X, fun j X => owns_pt (F := F) c (hstage1_13 j) X]
  rw [show (dat1 V c).owesAt () t.succ = (dat1 V c).owesAt () t.castSucc from rfl,
    show (defs₀ (F := F)) .tc cfg1.body (cfg1.bodyArgs t (cfg1.slots t)) = bodyAt1 t from rfl]
  rw [show (dat1 V c).Φ t.castSucc = Pipeline.scopedRest spec1 c from rfl, show (dat1 V c).Φ t.succ = Pipeline.scopedRest spec1 c from rfl, scopedRest1_split]
  iintro ⟨⟨⟨⟨%g0, S0⟩, ⟨%g1, S1⟩, ⟨%g2, S2⟩⟩, Hr⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, -, H13⟩⟩
  rw [before1 V c 0 rfl] at h0
  rw [before1 V c 1 rfl] at h1
  rw [before1 V c 2 rfl] at h2
  rw [before1 V c 3 rfl] at h3
  rw [before1 V c 4 rfl] at h4
  rw [before1 V c 5 rfl] at h5
  rw [before1 V c 6 rfl] at h6
  rw [before1 V c 7 rfl] at h7
  rw [before1 V c 8 rfl] at h8
  rw [before1 V c 9 rfl] at h9
  rw [before1 V c 10 rfl] at h10
  rw [before1 V c 11 rfl] at h11
  rw [before1 V c 12 rfl] at h12
  iapply (layer_run (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (Memref.whole cc1_scratch1) (Memref.isWhole_whole _) (Memref.whole cc1_scratch2) (Memref.isWhole_whole _) c f0 f1 f2 f3 f4 f5 f6 f7 f8 f9 f10 f11 f12 f13 g0 g1 g2 Set.univ none _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  iintro %f13' %g0' %g1' %g2' ⟨⟨H0, H1, H2, H3, H4, H5, H6, H7, H8, H9, H10, H11, H12, H13, S0, S1, S2⟩, %hv⟩
  isplitl [S0 S1 S2 Hr]
  · isplitl [S0 S1 S2]
    · isplitl [S0]; · iexists _; iexact S0
      isplitl [S1]; · iexists _; iexact S1
      iexists _; iexact S2
    iexact Hr
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  isplitl [H9]; · iexists _; isplitr; swap; (· iexact H9); ipureintro; exact h9
  isplitl [H10]; · iexists _; isplitr; swap; (· iexact H10); ipureintro; exact h10
  isplitl [H11]; · iexists _; isplitr; swap; (· iexact H11); ipureintro; exact h11
  isplitl [H12]; · iexists _; isplitr; swap; (· iexact H12); ipureintro; exact h12
  iexists _; isplitr; swap; (· iexact H13); ipureintro; exact hv.trans (by rw [h0, h1, h2, h3, h4, h5, h6, h7, h8, h9, h10, h11, h12]; rfl)

/-! ## The heads' launch -/

/-- Window `w`'s block at point `t`, read off the contents `V`. -/
abbrev blk2 (V : Valuation τ sig (Elt F)) (w : Fin 7) (t : Fin cfg2.N) : ((cfg2.win w).xblock (cfg2.grid.coords t)).Idx → Elt F (cfg2.win w).elt :=
  ((cfg2.win w).blk t).view.read (Elt F) (V (Pipeline.arrRef spec2 w))

/-- The launch entered from contents `V`: inputs are left as found, the outputs hold the body's values. -/
def dat2 (V : Valuation τ sig (Elt F)) (c : Dev nD) : Dat τ (Elt F) Unit ℕ UU ℕ cfg2 c where
  A w := V (Pipeline.arrRef spec2 w)
  after w t := match w with
    | ⟨0, _⟩ => blk2 V 0 t
    | ⟨1, _⟩ => blk2 V 1 t
    | ⟨2, _⟩ => blk2 V 2 t
    | ⟨3, _⟩ => blk2 V 3 t
    | ⟨4, _⟩ => k2_pay2 (blk2 V 0 t) (blk2 V 1 t)
    | ⟨5, _⟩ => k2_pay3 (blk2 V 0 t) (blk2 V 2 t)
    | ⟨6, _⟩ => k2_pay4 (blk2 V 0 t) (blk2 V 3 t)
  Φ _ := Pipeline.scopedRest (Ix := Unit) (Name := ℕ) (U := UU) (Lvl := ℕ) (Val := Elt F) spec2 c
  q _ := fullShare
  owed _ := 0

set_option maxHeartbeats 1000000 in
/-- An input window's staging buffer holds its block when the body runs, fetched at this point or an earlier one. -/
theorem before2 (V : Valuation τ sig (Elt F)) (c : Dev nD) : ∀ (w : Fin 7), (cfg2.win w).isOut = false → ∀ t d, (dat2 V c).before w t d = (dat2 V c).after w t := by
  intro w hw t d
  fin_cases w
  · exact (dat2 V c).before_in_eq_fetched 0 rfl (fun _ => rfl) (fun _ _ _ => rfl) (fun _ => rfl) t d
  · exact (dat2 V c).before_in_eq_fetched 1 rfl (fun _ => rfl) (fun _ _ _ => rfl) (fun _ => rfl) t d
  · exact (dat2 V c).before_in_eq_fetched 2 rfl (fun _ => rfl) (fun _ _ _ => rfl) (fun _ => rfl) t d
  · exact (dat2 V c).before_in_eq_fetched 3 rfl (fun _ => rfl) (fun _ _ _ => rfl) (fun _ => rfl) t d
  · cases hw
  · cases hw
  · cases hw

set_option maxHeartbeats 1000000 in
/-- The body at a grid point: from the input blocks it leaves the output windows at `dat2`'s values. -/
theorem body2 (V : Valuation τ sig (Elt F)) (c : Dev nD) : BodyObligation (dat2 V c) (defs₀ (F := F)) Variants.none () Set.univ := fun t => by
  rw [bigSep_W2, bigSep_W2]
  simp only [fun j X => owns_pt (F := F) c (hstage2_0 j) X, fun j X => owns_pt (F := F) c (hstage2_1 j) X, fun j X => owns_pt (F := F) c (hstage2_2 j) X, fun j X => owns_pt (F := F) c (hstage2_3 j) X, fun j X => owns_pt (F := F) c (hstage2_4 j) X, fun j X => owns_pt (F := F) c (hstage2_5 j) X, fun j X => owns_pt (F := F) c (hstage2_6 j) X]
  rw [show (dat2 V c).owesAt () t.succ = (dat2 V c).owesAt () t.castSucc from rfl,
    show (defs₀ (F := F)) .tc cfg2.body (cfg2.bodyArgs t (cfg2.slots t)) = bodyAt2 t from rfl]
  rw [show (dat2 V c).Φ t.castSucc = Pipeline.scopedRest spec2 c from rfl, show (dat2 V c).Φ t.succ = Pipeline.scopedRest spec2 c from rfl]
  iintro ⟨HΦ, Howes, ⟨%d0, %f0, %h0, H0⟩, ⟨%d1, %f1, %h1, H1⟩, ⟨%d2, %f2, %h2, H2⟩, ⟨%d3, %f3, %h3, H3⟩, ⟨%d4, %f4, -, H4⟩, ⟨%d5, %f5, -, H5⟩, ⟨%d6, %f6, -, H6⟩⟩
  rw [before2 V c 0 rfl] at h0
  rw [before2 V c 1 rfl] at h1
  rw [before2 V c 2 rfl] at h2
  rw [before2 V c 3 rfl] at h3
  iapply ((runHead (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) c f0 f1 f2 f3 f4 f5 f6).2 Set.univ none _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact (head_val5 (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) c f0 f1 f2 f3 f4 f5 f6).trans (by rw [h0, h1]; rfl)
  isplitl [H5]; · iexists _; isplitr; swap; (· iexact H5); ipureintro; exact (head_val6 (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) c f0 f1 f2 f3 f4 f5 f6).trans (by rw [h0, h2]; rfl)
  iexists _; isplitr; swap; (· iexact H6); ipureintro; exact (head_val7 (F := F) (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) c f0 f1 f2 f3 f4 f5 f6).trans (by rw [h0, h3]; rfl)

end Cert.Proof.KI
end
-- ==== Proof.Run.lean ====
module

public import proofs.«01_k».proof.Proof.Launches
public import Idealize.ShloMosaic.Lib.Pipeline.RegionsLoop
public import Idealize.ShloMosaic.Lib.Pipeline.RegionsOwned
public import Idealize.ShloMosaic.Lib.StableHlo.RunLoopItems
public import Idealize.ShloMosaic.Lib.Scf.ExitTest
public import Idealize.ShloMosaic.Lib.Scf.Counter

/-!
The run of the whole program: a host stretch, the embedding launch, a second host stretch, the loop over the six layers with
its launch, the heads' launch. Every buffer is held at a named valuation throughout, so the last theorem gives the contents
of every buffer at the end.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf CSeg ucRefs sub_ucRefs afterRegion)

variable {F : FTy → Type} [FloatOps F] [Named F]

local notation "𝕄" => MT nD τ sig Unit (Elt F) ℕ UU ℕ

/-- The valuations of all cores. -/
abbrev Vals (F : FTy → Type) : Type := Dev nD → Valuation τ sig (Elt F)

/-! ## Levels, tickets, proof data -/

/-- Every TensorCore cell has the one index, at level 0. -/
abbrev Lv : GSem nD τ sig → Finset Unit := fun g => if g.1.2 = .tc then {()} else ∅
abbrev lv0 : GSem nD τ sig → Unit → ℕ := fun _ _ => 0
theorem Lv_off (g : GSem nD τ sig) (h : g.1.2 ≠ .tc) : Lv g = ∅ := if_neg h

/-- The three launches' proof data, each entered from `V`. -/
def pds (V : Vals F) : (p : Fin 3) → (c : Dev nD) → Dat τ (Elt F) Unit ℕ UU ℕ (Pipeline.pin (pcfgs (F := F)) Cond.adm p) c
  | 0 => fun c => dat0 (V c) c
  | 1 => fun c => dat1 (V c) c
  | 2 => fun c => dat2 (V c) c

/-- Ticket `j`'s copy of the pipeline library's algebra. -/
abbrev EPj (j : Fin 8) : Emb (URounds (GSem nD τ sig) Unit) (MT nD τ sig Unit (Elt F) ℕ UU ℕ) := embAt j

variable (m : (ℓ : Loc nD τ sig) → Buf (Elt F) ℓ)

/-- Every buffer as it stands at launch. -/
abbrev U0 : Vals F := fun c b => m ((c : Dev nD), b)

abbrev tks : Fin 8 → Pipeline.Ticket (Ix := Unit) (Name := ℕ) (U := UU) (Lvl := ℕ) (nD := nD) (τ := τ) (pcfgs (F := F)) Cond.adm :=
  Cond.tk (F := F) (fun _ => pds (U0 m)) (EPj (F := F))

/-- What rides along beside the buffers: the core owes nothing. -/
abbrev Rid (c : Dev nD) : sProp 𝕄 := iprop((∃ W, owes (c : Thread nD τ) (0 : CellTallies nD τ sig Unit) W) ∗ emp ∗ emp)

abbrev K : Type 1 := CSeg (Ix := Unit) (Name := ℕ) (U := UU) (Lvl := ℕ) (pcfgs (F := F)) Cond.adm defs₀ Variants.none Lv lv0 loops (tks m)

/-! ## The launches' records -/

theorem cut (p : Fin 3) : Pipeline.LevelCut (pcfgs (F := F)) Cond.adm () Lv lv0 p (fun _ => (0 : CellTallies nD τ sig Unit)) fun _ => 0 where
  hι _ _ _ := by show () ∈ (if _ then _ else _); rw [if_pos rfl]; exact Finset.mem_singleton_self _
  hιb _ _ _ := le_rfl
  hD _ _ _ h := absurd h (lt_irrefl _)

/-- A launch takes and leaves its scoped buffers alone. -/
theorem rest_in (P : sProp 𝕄) : iprop(P ∗ emp) ⊢ P := by iintro ⟨H, -⟩; iexact H
theorem rest_out (P : sProp 𝕄) : P ⊢ iprop(P ∗ emp) := by
  iintro H
  isplitl [H]; · iexact H
  iempintro

theorem pds_body (V : Vals F) : ∀ (p : Fin 3) (c : Dev nD), Pipeline.BodyObligationLoose (pds V p c) (defs₀ (F := F)) Variants.none () Set.univ
  | 0 => fun c => (body0 (V c) c).loose
  | 1 => fun c => (body1 (V c) c).loose
  | 2 => fun c => (body2 (V c) c).loose
theorem pds_owed (V : Vals F) : ∀ (p : Fin 3) (c : Dev nD) (t), (pds V p c).owed t = 0
  | 0 => fun _ _ => rfl
  | 1 => fun _ _ => rfl
  | 2 => fun _ _ => rfl
theorem pds_recorded (V : Vals F) : ∀ (p : Fin 3) (c : Dev nD), (pds V p c).recorded 0 = Set.univ
  | 0 => fun _ => rfl
  | 1 => fun _ => rfl
  | 2 => fun _ => rfl
theorem pds_share (V : Vals F) : ∀ (p : Fin 3) (c : Dev nD) (w), (pds V p c).share w = fullShare
  | 0 => fun c => (dat0 (V c) c).share_full fun _ => rfl
  | 1 => fun c => (dat1 (V c) c).share_full fun _ => rfl
  | 2 => fun c => (dat2 (V c) c).share_full fun _ => rfl
theorem dat0_rest (V : Valuation τ sig (Elt F)) (c : Dev nD) (t) : (dat0 V c).Φ t = Pipeline.scopedRest spec0 c := rfl
theorem dat1_rest (V : Valuation τ sig (Elt F)) (c : Dev nD) (t) : (dat1 V c).Φ t = Pipeline.scopedRest spec1 c := rfl
theorem dat2_rest (V : Valuation τ sig (Elt F)) (c : Dev nD) (t) : (dat2 V c).Φ t = Pipeline.scopedRest spec2 c := rfl
theorem pds_rest (V : Vals F) : ∀ (p : Fin 3) (c : Dev nD) (t), (pds V p c).Φ t = Pipeline.scopedRest (Pipeline.pin (pcfgs (F := F)) Cond.adm p).spec c
  | 0 => fun c t => dat0_rest (V c) c t
  | 1 => fun c t => dat1_rest (V c) c t
  | 2 => fun c t => dat2_rest (V c) c t
theorem pds_entry (V : Vals F) : ∀ (p : Fin 3) (c : Dev nD) (w),
    (pds V p c).arrAt w 0 = V c (Proc.devRef .tc (Pipeline.arrRef (Pipeline.pin (pcfgs (F := F)) Cond.adm p).spec w))
  | 0 => fun _ _ => rfl
  | 1 => fun _ _ => rfl
  | 2 => fun _ _ => rfl
theorem kits : ∀ p : Fin 3, Pipeline.PLaunchFacts (nD := nD) (τ := τ) (pcfgs (F := F)) p
  | 0 => Pipeline.LaunchFacts.toP launch0
  | 1 => Pipeline.LaunchFacts.toP launch1
  | 2 => Pipeline.LaunchFacts.toP launch2
theorem no_table : ∀ p : Fin 3, (pcfgs (F := F) p).pre.K = 0
  | 0 => rfl
  | 1 => rfl
  | 2 => rfl
/-- No window's array is scoped. -/
theorem arr_sub : ∀ p : Fin 3, Pipeline.arrRefs (τ := τ) (pcfgs (F := F) p).spec ⊆ ucRefs τ sig
  | 0 => Pipeline.arrRefs_sub_ucRefs _ (show ∀ w, (Pipeline.arrRef spec0 w).isScoped = false by decide +kernel)
  | 1 => Pipeline.arrRefs_sub_ucRefs _ (show ∀ w, (Pipeline.arrRef spec1 w).isScoped = false by decide +kernel)
  | 2 => Pipeline.arrRefs_sub_ucRefs _ (show ∀ w, (Pipeline.arrRef spec2 w).isScoped = false by decide +kernel)

/-- Launch `p` entered from `V`, every buffer held. -/
def reg (p : Fin 3) (V : Vals F) : Pipeline.RegionSeg (pcfgs (F := F)) Cond.adm (pds V) () defs₀ Variants.none Lv lv0 p :=
  Pipeline.RegionSeg.ofHeldIn _ _ _ _ _ _ _ _ _ (fun _ => 0) (ucRefs τ sig) (fun _ => iprop(emp)) (fun _ => iprop(emp)) (kits p) (no_table p)
    (pds_body V p) (pds_owed V p) (pds_recorded V p) (pds_share V p)
    (fun c => by rw [pds_rest]; exact rest_in _) (fun c => by rw [pds_rest]; exact rest_out _) (fun _ => 0) (cut p) (fun _ => iprop(emp)) V (pds_entry V p)

/-- The contents after launch `p`. -/
abbrev nx (p : Fin 3) (V : Vals F) : Vals F := fun c => afterRegion (pds V p c) (V c)

theorem reg_pre (p : Fin 3) (V : Vals F) (c : Dev nD) : (iprop(StableHlo.held (c : Thread nD τ) (ucRefs τ sig) (V c) ∗ Rid c) : sProp 𝕄) ⊢ (reg p V).pre c := by
  unfold reg; exact Pipeline.RegionSeg.ofHeldIn_pre (pcs := pcfgs (F := F)) (a := Cond.adm) (pdats := pds V) (ι := ()) (defs₀ := defs₀) (𝒱₀ := Variants.none) (L := Lv) (lv := lv0) (p := p)
    (D := fun _ => 0) (S := ucRefs τ sig) (X := fun _ => iprop(emp)) (Y := fun _ => iprop(emp)) (kit := kits p) (hK := no_table p) (R := fun _ => iprop(emp)) (W := V) (arr_sub p) c
theorem reg_post (p : Fin 3) (V : Vals F) (c : Dev nD) : (reg p V).post c ⊢ (iprop(StableHlo.held (c : Thread nD τ) (ucRefs τ sig) (nx p V c) ∗ Rid c) : sProp 𝕄) := by
  unfold reg; exact Pipeline.RegionSeg.ofHeldIn_post (pcs := pcfgs (F := F)) (a := Cond.adm) (pdats := pds V) (ι := ()) (defs₀ := defs₀) (𝒱₀ := Variants.none) (L := Lv) (lv := lv0) (p := p)
    (D := fun _ => 0) (S := ucRefs τ sig) (X := fun _ => iprop(emp)) (Y := fun _ => iprop(emp)) (kit := kits p) (hK := no_table p) (R := fun _ => iprop(emp)) (W := V) (arr_sub p) c

end Cert.Proof.KI

end
-- ==== Proof.Loop.lean ====
module

public import proofs.«01_k».proof.Proof.Run
public import Idealize.ShloMosaic.Lib.StableHlo.RunRead

/-!
The loop over the layers as one segment of the run: its body's stretches and its launch, the counter, the condition.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf CSeg ucRefs sub_ucRefs afterRegion)

variable {F : FTy → Type} [FloatOps F] [Named F]

local notation "𝕄" => MT nD τ sig Unit (Elt F) ℕ UU ℕ

variable (m : (ℓ : Loc nD τ sig) → Buf (Elt F) ℓ)

/-! ## The body's items -/

section
open Idealize.ShloMosaic.StableHlo

/-- The loop's condition: its bound, and the counter compared with it. -/
abbrev condOps : List (HloOp τ sig (Elt F)) :=
  [ StableHlo.nullary main_while0c_c_13 (constantI S_ 32 6#32),
    StableHlo.binary main_v17_12 main_while0c_c_13 main_while0c_v19 (cmpi .slt) ]
abbrev condOps_W : List (Ref sig .tc) := [main_while0c_c_13, main_while0c_v19]
theorem condOps_writes : (condOps : List (HloOp τ sig (Elt F))).Forall fun op => op.writes ⊆ (condOps_W.map (Proc.devRef (τ := τ) .tc)).toFinset :=
  StableHlo.forall_writes_sub_of_map rfl

abbrev Item : Type 1 := LoopItem (Ix := Unit) (Name := ℕ) (U := UU) (Lvl := ℕ) (pcfgs (F := F)) Cond.adm defs₀ Variants.none Lv lv0 loops (tks m) (ucRefs τ sig) Rid

/-- A stretch of host operations of the body. -/
def stretch (ops : List (HloOp τ sig (Elt F))) (hs : ops.Forall fun op => op.bufs ⊆ StableHlo.tcRefs τ sig) (hf : ops.Forall fun op => op.fresh = ∅) : Item m :=
  LoopItem.ofOps _ _ _ _ _ _ _ _ _ _ ops (fun op h => sub_ucRefs op ((List.forall_iff_forall_mem.mp hs) op h)) (fun op h => (List.forall_iff_forall_mem.mp hf) op h)

/-- The ticket of trip `k`. -/
abbrev tkAt (k : ℕ) : Fin 8 := ⟨k % 6 + 2, by omega⟩
theorem tkAt_p (k : ℕ) : (tks m (tkAt k)).p = 1 := by
  exact (by decide : ∀ j : Fin 6, Cond.tkP ⟨j.1 + 2, by omega⟩ = 1) ⟨k % 6, Nat.mod_lt _ (by decide)⟩

/-- The layer's launch, as an item of the body. -/
def layerItem : Item m :=
  LoopItem.region _ _ _ _ _ _ _ _ _ _ () cellOf_inj 1 tkAt (tkAt_p m) pds (reg 1) (nx 1) (fun _ => True) (fun V _ c => reg_pre 1 V c) (fun V c => reg_post 1 V c)
theorem while0Ops0_fresh : (while0Ops0 : List (HloOp τ sig (Elt F))).Forall fun op => op.fresh = ∅ := by
  simp only [List.Forall]; repeat' constructor
theorem while0Ops0_1_fresh : (while0Ops0_1 : List (HloOp τ sig (Elt F))).Forall fun op => op.fresh = ∅ := by
  simp only [List.Forall]; repeat' constructor
theorem while0Ops0_2_fresh : (while0Ops0_2 : List (HloOp τ sig (Elt F))).Forall fun op => op.fresh = ∅ := by
  simp only [List.Forall]; repeat' constructor
theorem while0Ops0_3_fresh : (while0Ops0_3 : List (HloOp τ sig (Elt F))).Forall fun op => op.fresh = ∅ := by
  simp only [List.Forall]; repeat' constructor
theorem while0Ops0_4_fresh : (while0Ops0_4 : List (HloOp τ sig (Elt F))).Forall fun op => op.fresh = ∅ := by
  simp only [List.Forall]; repeat' constructor
theorem while0Ops0_5_fresh : (while0Ops0_5 : List (HloOp τ sig (Elt F))).Forall fun op => op.fresh = ∅ := by
  simp only [List.Forall]; repeat' constructor
theorem while0Ops0_6_fresh : (while0Ops0_6 : List (HloOp τ sig (Elt F))).Forall fun op => op.fresh = ∅ := by
  simp only [List.Forall]; repeat' constructor
theorem while0Ops0_7_fresh : (while0Ops0_7 : List (HloOp τ sig (Elt F))).Forall fun op => op.fresh = ∅ := by
  simp only [List.Forall]; repeat' constructor
theorem while0Ops0_8_fresh : (while0Ops0_8 : List (HloOp τ sig (Elt F))).Forall fun op => op.fresh = ∅ := by
  simp only [List.Forall]; repeat' constructor
theorem while0Ops0_9_fresh : (while0Ops0_9 : List (HloOp τ sig (Elt F))).Forall fun op => op.fresh = ∅ := by
  simp only [List.Forall]; repeat' constructor
theorem while0Ops0_10_fresh : (while0Ops0_10 : List (HloOp τ sig (Elt F))).Forall fun op => op.fresh = ∅ := by
  simp only [List.Forall]; repeat' constructor
theorem while0Ops0_11_fresh : (while0Ops0_11 : List (HloOp τ sig (Elt F))).Forall fun op => op.fresh = ∅ := by
  simp only [List.Forall]; repeat' constructor
theorem while0Ops1_fresh : (while0Ops1 : List (HloOp τ sig (Elt F))).Forall fun op => op.fresh = ∅ := by
  simp only [List.Forall]; repeat' constructor

/-- The body's items, in order. -/
abbrev items : List (Item m) :=
  [ stretch m while0Ops0 while0Ops0_sub while0Ops0_fresh,
    stretch m while0Ops0_1 while0Ops0_1_sub while0Ops0_1_fresh,
    stretch m while0Ops0_2 while0Ops0_2_sub while0Ops0_2_fresh,
    stretch m while0Ops0_3 while0Ops0_3_sub while0Ops0_3_fresh,
    stretch m while0Ops0_4 while0Ops0_4_sub while0Ops0_4_fresh,
    stretch m while0Ops0_5 while0Ops0_5_sub while0Ops0_5_fresh,
    stretch m while0Ops0_6 while0Ops0_6_sub while0Ops0_6_fresh,
    stretch m while0Ops0_7 while0Ops0_7_sub while0Ops0_7_fresh,
    stretch m while0Ops0_8 while0Ops0_8_sub while0Ops0_8_fresh,
    stretch m while0Ops0_9 while0Ops0_9_sub while0Ops0_9_fresh,
    stretch m while0Ops0_10 while0Ops0_10_sub while0Ops0_10_fresh,
    stretch m while0Ops0_11 while0Ops0_11_sub while0Ops0_11_fresh,
    layerItem m,
    stretch m while0Ops1 while0Ops1_sub while0Ops1_fresh ]

/-- A trip's slices of the weights, stretch by stretch and as one line. -/
abbrev slices : List (List (HloOp τ sig (Elt F))) :=
  [while0Ops0, while0Ops0_1, while0Ops0_2, while0Ops0_3, while0Ops0_4, while0Ops0_5, while0Ops0_6, while0Ops0_7, while0Ops0_8, while0Ops0_9, while0Ops0_10, while0Ops0_11]
abbrev sliceOps : List (HloOp τ sig (Elt F)) := slices.flatten
/-- The contents with which the layer's launch of a trip is entered, and those that the trip leaves. -/
def sliced (V : Valuation τ sig (Elt F)) : Valuation τ sig (Elt F) := afterL slices V
def trip (V : Vals F) : Vals F := fun c => after while0Ops1 (nx 1 (fun c => sliced (V c)) c)

theorem stretch_next (ops : List (HloOp τ sig (Elt F))) (hs hf) (V : Vals F) : (stretch m ops hs hf).next V = fun c => after ops (V c) := rfl
theorem layerItem_next (V : Vals F) : (layerItem m).next V = nx 1 V := rfl
theorem trip_fold (V : Vals F) : (fun c => after while0Ops1 (nx 1 (fun c => after while0Ops0_11 (after while0Ops0_10 (after while0Ops0_9 (after while0Ops0_8 (after while0Ops0_7
    (after while0Ops0_6 (after while0Ops0_5 (after while0Ops0_4 (after while0Ops0_3 (after while0Ops0_2 (after while0Ops0_1 (after while0Ops0 (V c))))))))))))) c)) = trip V := by
  funext c
  simp only [trip, sliced, slices, afterL_cons, afterL_nil]
theorem trip_eq (V : Vals F) : nextL (items m) V = trip V := by
  rw [nextL_cons, nextL_cons, nextL_cons, nextL_cons, nextL_cons, nextL_cons, nextL_cons, nextL_cons, nextL_cons, nextL_cons, nextL_cons, nextL_cons, nextL_cons, nextL_cons, nextL_nil]
  simp only [stretch_next, layerItem_next]
  exact trip_fold V

/-- Stretches in turn are one line. -/
theorem afterL_flatten (l : List (List (HloOp τ sig (Elt F)))) (V : Valuation τ sig (Elt F)) : afterL l V = after l.flatten V := by
  induction l generalizing V with
  | nil => rfl
  | cons ops rest ih =>
    rw [afterL_cons, ih, List.flatten_cons]
    clear ih
    induction ops generalizing V with
    | nil => rfl
    | cons op l ih => exact ih _
theorem sliced_eq (V : Valuation τ sig (Elt F)) : sliced V = after sliceOps V := afterL_flatten slices V

/-- The contents when the loop is entered; before the `k`-th run of the condition; when the loop is left. -/
abbrev U1 : Vals F := fun c => after hostOps0 (U0 m c)
abbrev U2 : Vals F := nx 0 (U1 m)
abbrev U3 : Vals F := fun c => after hostOps1 (U2 m c)
def Uk (k : ℕ) : Vals F := atTripI condOps (items m) (U3 m) k
theorem Uk_zero : Uk m 0 = U3 m := rfl
theorem Uk_succ (k : ℕ) : Uk m (k + 1) = trip fun c => after condOps (Uk m k c) :=
  (atTripI_succ condOps (items m) (U3 m) k).trans (trip_eq m _)
abbrev U4 : Vals F := fun c => after condOps (Uk m 6 c)
abbrev U5 : Vals F := nx 2 (U4 m)

/-! ## What the body keeps -/

/-- What the slices of a trip write; what its last stretch writes. -/
abbrev slice_W : List (Ref sig .tc) := [main_while0b_call0_c, main_while0b_call0_c_0, main_while0b_call0_v0, main_while0b_v19, main_while0b_call1_c, main_while0b_call1_c_0, main_while0b_call1_v0, main_while0b_v20, main_while0b_call2_c, main_while0b_call2_c_0, main_while0b_call2_v0, main_while0b_v21, main_while0b_call3_c, main_while0b_call3_c_0, main_while0b_call3_v0, main_while0b_v22, main_while0b_call4_c, main_while0b_call4_c_0, main_while0b_call4_v0, main_while0b_v23, main_while0b_call5_c, main_while0b_call5_c_0, main_while0b_call5_v0, main_while0b_v24, main_while0b_call6_c, main_while0b_call6_c_0, main_while0b_call6_v0, main_while0b_v25, main_while0b_call7_c, main_while0b_call7_c_0, main_while0b_call7_v0, main_while0b_v26, main_while0b_call8_c, main_while0b_call8_c_0, main_while0b_call8_v0, main_while0b_v27, main_while0b_call9_c, main_while0b_call9_c_0, main_while0b_call9_v0, main_while0b_v28, main_while0b_call10_c, main_while0b_call10_c_0, main_while0b_call10_v0, main_while0b_v29, main_while0b_call11_c, main_while0b_call11_c_0, main_while0b_call11_v0, main_while0b_v30]
theorem slice_writes : (sliceOps : List (HloOp τ sig (Elt F))).Forall fun op => op.writes ⊆ (slice_W.map (Proc.devRef (τ := τ) .tc)).toFinset :=
  StableHlo.forall_writes_sub_of_map rfl
abbrev last_W : List (Ref sig .tc) := [main_while0b_c_13, main_while0b_v32, main_v17_12, main_v17_13]
theorem last_writes : (while0Ops1 : List (HloOp τ sig (Elt F))).Forall fun op => op.writes ⊆ (last_W.map (Proc.devRef (τ := τ) .tc)).toFinset :=
  StableHlo.forall_writes_sub_of_map rfl

theorem sliced_of (V : Valuation τ sig (Elt F)) (r : Ref sig .tc) (h : r ∉ slice_W) : sliced V r = V r :=
  (congrFun (sliced_eq V) _).trans <| after_of_writes_sub sliceOps V slice_writes h
theorem cond_of (V : Valuation τ sig (Elt F)) (r : Ref sig .tc) (h : r ∉ condOps_W) : after condOps V r = V r :=
  after_of_writes_sub condOps V condOps_writes h
theorem last_of (V : Valuation τ sig (Elt F)) (r : Ref sig .tc) (h : r ∉ last_W) : after while0Ops1 V r = V r :=
  after_of_writes_sub while0Ops1 V last_writes h

/-- A launch changes its output arrays alone. -/
theorem nx0_of (V : Vals F) (c : Dev nD) (r : Ref sig .tc) (h : r ≠ main_v4) : nx 0 V c r = V c r :=
  Pipeline.afterRegion_keeps (dat0 (V c) c) (V c) launch0.win.arr_inj (fun _ => rfl) r
    (show ∀ w, Pipeline.arrRef spec0 w = r → (win0 w).isOut = false from fun w hw => by
      subst hw; revert w; decide +kernel)
theorem nx1_of (V : Vals F) (c : Dev nD) (r : Ref sig .tc) (h : r ≠ main_while0b_v31) : nx 1 V c r = V c r :=
  Pipeline.afterRegion_keeps (dat1 (V c) c) (V c) launch1.win.arr_inj (fun _ => rfl) r
    (show ∀ w, Pipeline.arrRef spec1 w = r → (win1 w).isOut = false from fun w hw => by
      subst hw; revert w; decide +kernel)
theorem nx2_of (V : Vals F) (c : Dev nD) (r : Ref sig .tc) (h : r ∉ [main_v18_0, main_v18_1, main_v18_2]) : nx 2 V c r = V c r :=
  Pipeline.afterRegion_keeps (dat2 (V c) c) (V c) launch2.win.arr_inj (fun _ => rfl) r
    (show ∀ w, Pipeline.arrRef spec2 w = r → (win2 w).isOut = false from fun w hw => by
      subst hw; revert w; decide +kernel)

/-- What a trip does not write it keeps. -/
abbrev trip_W : List (Ref sig .tc) := main_while0b_v31 :: (slice_W ++ last_W)
theorem trip_of (V : Vals F) (c : Dev nD) (r : Ref sig .tc) (h : r ∉ trip_W) : trip V c r = V c r := by
  have h1 : r ≠ main_while0b_v31 := fun e => h (e ▸ List.mem_cons_self)
  have h2 : r ∉ slice_W := fun e => h (List.mem_cons_of_mem _ (List.mem_append_left _ e))
  have h3 : r ∉ last_W := fun e => h (List.mem_cons_of_mem _ (List.mem_append_right _ e))
  exact (last_of _ r h3).trans ((nx1_of _ c r h1).trans (sliced_of _ r h2))

theorem Uk_of (c : Dev nD) (r : Ref sig .tc) (h : r ∉ condOps_W ++ trip_W) : ∀ k, Uk m k c r = U3 m c r
  | 0 => rfl
  | k + 1 => by
    rw [Uk_succ]
    exact (trip_of _ c r fun e => h (List.mem_append_right _ e)).trans ((cond_of _ r fun e => h (List.mem_append_left _ e)).trans (Uk_of c r h k))

/-! ## The counter -/

theorem ctr_last (X : Valuation τ sig (Elt F)) : after while0Ops1 X (Proc.devRef .tc main_v17_12) = addi (X (Proc.devRef .tc main_v17_12)) (constantI S_ 32 1#32) := by
  after_results
  rfl
theorem ctr_entry (c : Dev nD) : U3 m c (Proc.devRef .tc main_v17_12) = fun _ => (0#32 : BitVec 32) := by
  show after hostOps1 (U2 m c) _ = _
  after_reads_simp
  rfl
theorem ctr_at (c : Dev nD) : ∀ k, Uk m k c (Proc.devRef .tc main_v17_12) = fun _ => Scf.iv 0#32 1#32 k
  | 0 => by rw [Uk_zero, ctr_entry, Scf.iv_zero]
  | k + 1 => by
    rw [Uk_succ]
    show after while0Ops1 _ _ = _
    rw [ctr_last, show nx 1 (fun c => sliced (after condOps (Uk m k c))) c (Proc.devRef .tc main_v17_12) = Uk m k c (Proc.devRef .tc main_v17_12) from
      (nx1_of _ c main_v17_12 (by decide)).trans ((sliced_of _ main_v17_12 (by decide)).trans (cond_of _ main_v17_12 (by decide))), ctr_at c k, Scf.iv_succ]
    rfl

set_option backward.isDefEq.respectTransparency.types false in
/-- The condition holds before the first six trips and fails after them. -/
theorem cond_spec : LoopCondI (pcfgs (F := F)) Cond.adm defs₀ Variants.none Lv lv0 loops (tks m) (ucRefs τ sig) Rid (main_while0_cond (F := F)) condOps (items m) (U3 m) 6 := by
  intro k hk c bd
  have hctr := ctr_at m c k
  change iprop(boundary (c : Thread nD τ) ∗ StableHlo.held (c : Thread nD τ) (ucRefs τ sig) (Uk m k c) ∗ Rid c) ⊢ wp frame _ Set.univ _ (fun v => iprop(⌜v = 1#1 ↔ k < 6⌝ ∗ boundary (c : Thread nD τ) ∗ StableHlo.held (c : Thread nD τ) (ucRefs τ sig) (after condOps (Uk m k c)) ∗ Rid c))
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Uk m k c) main_v17_12 HostLoop.idx0)
        (HloOp.result _ (Uk m k c) main_while0c_c_13 HostLoop.idx0) = 1#1) (k < 6)
    rw [nullary_result_ne _ _ _ _ (by decide), nullary_result, hctr]
    exact Scf.cmpi_slt_iv_ub_iff (lb := 0#32) (ub := 6#32) (st := 1#32) (by decide) (show k ≤ Scf.trips 0#32 6#32 1#32 from hk)
  isplitl [Hb]; · iexact Hb
  isplitl [Hh]; · rw [after_cons, after_cons, after_nil]; iexact Hh
  iexact HR

/-! ## The segment -/

theorem items_ok : ∀ k < 6, okL k (items m) fun c => after condOps (atTripI condOps (items m) (U3 m) k c) := fun k _ => by
  refine ⟨trivial, trivial, trivial, trivial, trivial, trivial, trivial, trivial, trivial, trivial, trivial, trivial, trivial, trivial, trivial⟩
theorem items_T (k : ℕ) : (items m).map (fun i => i.T k) = [∅, ∅, ∅, ∅, ∅, ∅, ∅, ∅, ∅, ∅, ∅, ∅, {tkAt k}, ∅] := rfl
theorem items_disj (k : ℕ) : (items m).Pairwise fun i i' => Disjoint (i.T k) (i'.T k) := by
  have h : ((items m).map fun i => i.T k).Pairwise fun s s' => Disjoint s s' := by
    rw [items_T]
    simp
  exact List.pairwise_map.mp h
theorem tickets (k : ℕ) : ticketsL k (items m) = {tkAt k} := by
  simp only [items, ticketsL, stretch, layerItem, LoopItem.ofOps, LoopItem.region, Finset.empty_union, Finset.union_empty]
theorem tickets_disj (k k' : ℕ) (h : k < k') (h' : k' < 6) : Disjoint (ticketsL k (items m)) (ticketsL k' (items m)) := by
  rw [tickets, tickets, Finset.disjoint_singleton]
  intro e
  have := congrArg Fin.val e
  simp only [tkAt] at this
  omega

/-- The loop over the layers. -/
abbrev loopL : K m :=
  loopSegI _ _ _ _ _ _ _ _ _ _ 0 (main_while0_cond (F := F)) (main_while0_body (F := F)) rfl condOps (items m)
    (by rw [while0_body_chain]; rfl) 6 (U3 m) (cond_spec m) (items_ok m) (fun k _ => items_disj m k) (tickets_disj m)
end

end Cert.Proof.KI

end
-- ==== Proof.RunMain.lean ====
module

public import proofs.«01_k».proof.Proof.Loop

/-!
The program's run from its five segments, and its frame.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf CSeg ucRefs sub_ucRefs afterRegion)

variable {F : FTy → Type} [FloatOps F] [Named F]

local notation "𝕄" => MT nD τ sig Unit (Elt F) ℕ UU ℕ

variable (m : (ℓ : Loc nD τ sig) → Buf (Elt F) ℓ)

theorem ops_bufs {ops : List (HloOp τ sig (Elt F))} (hs : ops.Forall fun op => op.bufs ⊆ StableHlo.tcRefs τ sig) : ∀ op ∈ ops, op.bufs ⊆ ucRefs τ sig :=
  fun op h => sub_ucRefs op ((List.forall_iff_forall_mem.mp hs) op h)

/-- The host stretches and the two launches outside the loop. -/
abbrev sg0 : K m := CSeg.ofOps _ _ _ _ _ _ _ _ (ucRefs τ sig) hostOps0 (ops_bufs hostOps0_sub) (fun op h => (List.forall_iff_forall_mem.mp Cond.hostOps0_fresh) op h) (U0 m) Rid
abbrev sg1 : K m := CSeg.regionAtP _ _ () cellOf_inj _ _ _ _ _ _ 0 (show Cond.tkP 0 = 0 from rfl) (pds (U1 m)) (reg 0 (U1 m))
abbrev sg2 : K m := CSeg.ofOps _ _ _ _ _ _ _ _ (ucRefs τ sig) hostOps1 (ops_bufs hostOps1_sub) (fun op h => (List.forall_iff_forall_mem.mp Cond.hostOps1_fresh) op h) (U2 m) Rid
abbrev sg4 : K m := CSeg.regionAtP _ _ () cellOf_inj _ _ _ _ _ _ 1 (show Cond.tkP 1 = 2 from rfl) (pds (U4 m)) (reg 2 (U4 m))
abbrev segs : List (K m) := [sg0 m, sg1 m, sg2 m, loopL m, sg4 m]

theorem segs_prog : (segs m).map CSeg.prog = [StableHlo.seq hostOps0, Prog.lift (.customCall (HostLoop.inner (Pipeline.entry 0)) ()), StableHlo.seq hostOps1, HostLoop.enter 0,
    Prog.lift (.customCall (HostLoop.inner (Pipeline.entry 2)) ())] := by
  simp only [segs, List.map_cons, List.map_nil, CSeg.regionAtP_prog]
  rfl
theorem segs_T : (segs m).map CSeg.T = [∅, {0}, ∅, (Finset.range 6).biUnion fun k => {tkAt k}, {1}] := by
  have h : (loopL m).T = (Finset.range 6).biUnion fun k => {tkAt k} := by
    show ((Finset.range 6).biUnion fun k => StableHlo.ticketsL k (items m)) = _
    exact Finset.biUnion_congr rfl fun k _ => tickets m k
  simp only [segs, List.map_cons, List.map_nil, h]
  rfl
theorem segs_disj : (segs m).Pairwise fun s s' => Disjoint s.T s'.T := by
  have h : ((segs m).map CSeg.T).Pairwise fun s s' => Disjoint s s' := by
    rw [segs_T]
    decide
  exact List.pairwise_map.mp h

/-- One copy of the pipeline library's launch element per ticket. -/
abbrev el : UU := (fun _ => initOf (Pipeline.cells cfgs cellOf_inj) (Pipeline.launchToks cfgs cellOf_inj), 1)

theorem el_own : (ownU el : sProp 𝕄) ⊢ |={Set.univ}=> iprop((bigSep Finset.univ fun j => BI.own ((tks m j).EP (initOf (Pipeline.cells cfgs cellOf_inj) (Pipeline.launchToks cfgs cellOf_inj)))) ∗ bigSep Finset.univ fun _ : Dev nD => (iprop(emp) : sProp 𝕄)) := by
  iintro Hu
  ihave H := (ownU_pair _ _) $$ Hu
  icases H with ⟨HX, -⟩
  imodintro
  isplitl [HX]
  · iapply (own_iprod (B := Counters) (fun _ : Fin 8 => initOf (Pipeline.cells cfgs cellOf_inj) (Pipeline.launchToks cfgs cellOf_inj))); iexact HX
  iapply (show (BI.emp : sProp 𝕄) ⊢ bigSep Finset.univ fun _ : Dev nD => (BI.emp : sProp 𝕄) from Entails.of_eq (BI.bigSep_emp_const _).symm)
  iempintro

abbrev T0 (c : Dev nD) : sProp 𝕄 := iprop(StableHlo.held (c : Thread nD τ) (ucRefs τ sig) (U0 m c) ∗ Rid c)

theorem init (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)) ∗ levAts Lv lv0)
      ⊢ (|={Set.univ}=> bigSep Finset.univ (T0 m) : sProp 𝕄) := by
  have h (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) ⊢ T0 m c := by
    rw [show unscopedBufs c (fun b => m ((c : Thread nD τ).loc b)) = StableHlo.held (c : Thread nD τ) (ucRefs τ sig) (U0 m c) from Pipeline.unscopedBufs_held c (U0 m c)]
    iintro ⟨Hh, -, HO, -⟩
    isplitl [Hh]; · iexact Hh
    isplitl [HO]; · iexists ∅; iexact HO
    isplitl <;> iempintro
  iintro ⟨H, -⟩
  imodintro
  iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
      ⊢ bigSep Finset.univ (T0 m) from bigSep_mono fun c _ => h c)
  iexact H

set_option backward.isDefEq.respectTransparency.types false in
/-- The run: from any memory, with the semaphores at zero, every weakly fair execution ends, and then every buffer that no
    launch stages holds what `U5` gives and every semaphore is at zero. -/
theorem run_main (ρ : Dev nD → PrngReg) : θ_run defs (onTc (τ := τ) (main (F := F))) ⟨m, fun _ => 0, ρ⟩
    (fun r => (∀ c : Dev nD, ∀ b ∈ ucRefs τ sig, r.2.mem (((c : Thread nD τ)).1, b) = U5 m c b) ∧ r.2.sem = fun _ => 0) :=
  Pipeline.θ_run_regions_loop_kit_sems (pcfgs (F := F)) Cond.adm cellOf_inj defs₀ Variants.none Lv lv0 loops (tks m) m ρ main (segs m)
    (fun c Q => by rw [main_chain c, CSeg.runL, segs_prog]) (segs_disj m)
    (O₀ := fun _ => 0) (hL := Lv_off) (G := fun _ => iprop(emp)) (u₀ := el) (hu₀ := el_own m)
    (T₀ := T0 m) (Tₙ := fun c => StableHlo.held (c : Thread nD τ) (ucRefs τ sig) (U5 m c))
    (hch := ⟨fun _ => .rfl, fun c => by rw [CSeg.regionAtP_pre]; exact reg_pre 0 (U1 m) c, fun c => by rw [CSeg.regionAtP_post]; exact reg_post 0 (U1 m) c,
      fun _ => .rfl, fun c => by rw [CSeg.regionAtP_pre]; exact reg_pre 2 (U4 m) c, fun c => by
        rw [CSeg.regionAtP_post]
        refine (reg_post 2 (U4 m) c).trans ?_
        iintro ⟨Hh, HO, -⟩
        isplitl [Hh] <;> iassumption⟩)
    (hinit := init m ρ)
    (QY := fun c s => ∀ b ∈ ucRefs τ sig, s.mem (((c : Thread nD τ)).1, b) = U5 m c b)
    (hfin := fun c s' => by
      unfold StableHlo.held
      iintro ⟨Hh, HSI⟩
      ihave Hp := (pointsTo_read_all (ucRefs τ sig) (fun b => (((c : Thread nD τ)).1, b)) (U5 m c) s') $$ [Hh HSI]
      · isplitl [Hh] <;> iassumption
      icases Hp with ⟨%hb, HSI⟩
      imodintro
      isplitr; · ipureintro; exact hb
      iexact HSI)
    (hQ := fun _ h hz => ⟨h, funext fun g => hz g (.inr (Cond.regions_no_unscoped g.2))⟩)

/-- No item writes an argument. -/
theorem arg_kept (c : Dev nD) (r : Ref sig .tc) (h : r ∈ Cond.argRefs) : U5 m c r = m ((c : Thread nD τ).loc r) := by
  have d : ∀ r ∈ Cond.argRefs, r ∉ [main_v18_0, main_v18_1, main_v18_2] ∧ r ∉ condOps_W ∧ r ∉ trip_W ∧ r ∉ Cond.hostOps1_W ∧ r ≠ main_v4 ∧ r ∉ Cond.hostOps0_W :=
    ListAll.forall_mem_of_all_decide (by decide +kernel)
  obtain ⟨h1, h2, h3, h4, h5, h6⟩ := d r h
  exact ((nx2_of (U4 m) c r h1).trans ((cond_of _ r h2).trans (Uk_of m c r (fun e => (List.mem_append.mp e).elim h2 h3) 6))).trans <| (StableHlo.after_of_writes_sub hostOps1 _ Cond.hostOps1_writes h4).trans ((nx0_of _ c r h5).trans (StableHlo.after_of_writes_sub hostOps0 _ Cond.hostOps0_writes h6))

/-- The frame: the run ends with every argument as it was. -/
theorem frame (ρ : Dev nD → PrngReg) : θ_run defs (onTc (τ := τ) (main (F := F))) ⟨m, fun _ => 0, ρ⟩
    (fun r => (∀ c : Dev nD, ∀ a ∈ Cond.argRefs, r.2.mem ((c.tc : Thread nD τ).loc a) = m ((c.tc : Thread nD τ).loc a)) ∧ r.2.sem = fun _ => 0) :=
  (θ_run defs _ _).mono (fun _ h => ⟨fun c a ha => (h.1 c _ (Finset.mem_filter.mpr ⟨StableHlo.devRef_mem_tcRefs a, by
    revert a; exact ListAll.forall_mem_of_all_decide (by decide +kernel)⟩)).trans (arg_kept m c a ha), h.2⟩) (run_main m ρ)

end Cert.Proof.KI

end
-- ==== Proof.Frames.lean ====
module

public import proofs.«01_k».proof.Defs
public import proofs.«01_k».proof.Proof.RunMain
public import proofs.«01_k».proof.Proof.Raw.RunMain
public import proofs.«01_k».proof.Proof.Gen.ReferenceIdeal.Run
public import proofs.«01_k».proof.Proof.Gen.Pre_in_tables

/-!
The frame claims of the three programs, and the two named constants.
-/

@[expose] public section

noncomputable section

namespace Cert.Proof

open Idealize.ShloMosaic Idealize.SL.Sem

/-- The printed program ends with its arguments unchanged and every counter at zero. -/
theorem frame_kernel : Cert.quiescent_Kernel := fun m g _ =>
  (θ_run Cert.Kernel.defs _ _).mono (fun _ h => ⟨fun c => by
    and_intros <;> exact h.1 c _ (by decide), h.2⟩) (Cert.Proof.KR.frame (F := Bits) m g)

/-- So does the program with the two constants named, over the extended reals. -/
theorem frame_ideal : Cert.quiescent_KernelIdeal := fun m g _ =>
  (θ_run Cert.KernelIdeal.defs _ _).mono (fun _ h => ⟨fun c => by
    and_intros <;> exact h.1 c _ (by decide), h.2⟩) (Cert.Proof.KI.frame (F := Ideal) m g)

/-- The same under the precondition on the indices, which the run does not use. -/
theorem frame_ideal_pre : Cert.quiescent_KernelIdeal_pre_in_tables := fun m g _ => frame_ideal m g trivial

/-- The reference ends with its arguments unchanged; it has no counters. -/
theorem frame_reference : Cert.quiescent_ReferenceIdeal := fun m g _ =>
  (θ_run Cert.ReferenceIdeal.defs _ _).mono (fun r h => ⟨fun c => (h c).2.2.2,
    sem_eq_zero_of_no_sems (by decide) r.2⟩) (Cert.ReferenceIdeal.Value.run (F := Ideal) m g)

/-- The same under the precondition. -/
theorem frame_reference_pre : Cert.quiescent_ReferenceIdeal_pre_in_tables := fun m g _ => frame_reference m g trivial

/-- The two named constants stand for the literals they replace. -/
theorem preserves : Cert.preserves_Kernel_KernelIdeal :=
  ⟨IdealRules.named_const.statement _ _ _ _ _ rfl, IdealRules.named_const.statement _ _ _ _ _ rfl⟩

end Cert.Proof

end
-- ==== Proof.TileAt.lean ====
module

public import proofs.«01_k».proof.Proof.Tile
public import Idealize.ShloMosaic.Lib.Pointwise

/-!
`at'` and `tile` of arrays of rank two and three, at an index given by its coordinates.
-/

@[expose] public section

noncomputable section

namespace Cert.Proof

open Idealize.ShloMosaic

/-- An index of rank two from numbers in range. -/
theorem at'_ix2 {n m : ℕ} (a b : ℕ) (ha : a < n) (hb : b < m) (hs : ∀ i, 0 < (⟨2, ![n, m]⟩ : Shape).size i) :
    at' ⟨2, ![n, m]⟩ ![a, b] hs = ix2 ⟨a, ha⟩ ⟨b, hb⟩ := by
  funext i
  refine Fin.ext ?_
  match i with
  | ⟨0, _⟩ => exact Nat.mod_eq_of_lt ha
  | ⟨1, _⟩ => exact Nat.mod_eq_of_lt hb

/-- An index of rank three from numbers in range. -/
theorem at'_ix3 {n m l : ℕ} (a b c : ℕ) (ha : a < n) (hb : b < m) (hc : c < l) (hs : ∀ i, 0 < (⟨3, ![n, m, l]⟩ : Shape).size i) :
    at' ⟨3, ![n, m, l]⟩ ![a, b, c] hs = ix3 ⟨a, ha⟩ ⟨b, hb⟩ ⟨c, hc⟩ := by
  funext i
  refine Fin.ext ?_
  match i with
  | ⟨0, _⟩ => exact Nat.mod_eq_of_lt ha
  | ⟨1, _⟩ => exact Nat.mod_eq_of_lt hb
  | ⟨2, _⟩ => exact Nat.mod_eq_of_lt hc

/-- A rectangle of an array of rank two, at an index. -/
theorem tile_ix2 {α : Type} {n m n' m' : ℕ} (X : (⟨2, ![n, m]⟩ : Shape).Idx → α) (p q : ℕ) (hs : ∀ i, 0 < (⟨2, ![n, m]⟩ : Shape).size i)
    (a : Fin n') (b : Fin m') (A : Fin n) (B : Fin m) (hA : p + a.val = A.val) (hB : q + b.val = B.val) :
    tile ⟨2, ![n, m]⟩ ![n', m'] X ![p, q] hs (ix2 a b) = X (ix2 A B) := by
  unfold tile
  refine congrArg X (funext fun i => Fin.ext ?_)
  match i with
  | ⟨0, _⟩ => exact (Nat.mod_eq_of_lt (show p + a.val < n from hA ▸ A.isLt)).trans hA
  | ⟨1, _⟩ => exact (Nat.mod_eq_of_lt (show q + b.val < m from hB ▸ B.isLt)).trans hB

/-- A rectangle of an array of rank three, at an index. -/
theorem tile_ix3 {α : Type} {n m l n' m' l' : ℕ} (X : (⟨3, ![n, m, l]⟩ : Shape).Idx → α) (p q o : ℕ) (hs : ∀ i, 0 < (⟨3, ![n, m, l]⟩ : Shape).size i)
    (a : Fin n') (b : Fin m') (c : Fin l') (A : Fin n) (B : Fin m) (C : Fin l) (hA : p + a.val = A.val) (hB : q + b.val = B.val) (hC : o + c.val = C.val) :
    tile ⟨3, ![n, m, l]⟩ ![n', m', l'] X ![p, q, o] hs (ix3 a b c) = X (ix3 A B C) := by
  unfold tile
  refine congrArg X (funext fun i => Fin.ext ?_)
  match i with
  | ⟨0, _⟩ => exact (Nat.mod_eq_of_lt (show p + a.val < n from hA ▸ A.isLt)).trans hA
  | ⟨1, _⟩ => exact (Nat.mod_eq_of_lt (show q + b.val < m from hB ▸ B.isLt)).trans hB
  | ⟨2, _⟩ => exact (Nat.mod_eq_of_lt (show o + c.val < l from hC ▸ C.isLt)).trans hC

end Cert.Proof
end
-- ==== Proof.Spec.lean ====
module

public import Idealize.ShloMosaic.Lib.Pointwise

/-!
One encoder layer as plain functions over the extended reals: rows of 768 numbers, twelve heads of 64 columns.
-/

@[expose] public section

noncomputable section

namespace Cert.Proof.Sp

open Idealize.ShloMosaic

/-- A linear map with bias: `x` against the rows of `w`, plus `b`. -/
def lin {n m : ℕ} (x : Fin n → EReal) (w : Fin m → Fin n → EReal) (b : Fin m → EReal) : Fin m → EReal := fun c => ∑ k, x k * w c k + b c

/-- The mean of a row of 768. -/
def mean (y : Fin 768 → EReal) : EReal := Ideal.div (∑ k, y k) (Ideal.ofBits .f32 0x44400000#32)

/-- Layer normalisation of a row with gain `g` and offset `b`. -/
def norm (y g b : Fin 768 → EReal) : Fin 768 → EReal := fun c =>
  (y c - mean y) * Ideal.rsqrt (mean (fun k => (y k - mean y) * (y k - mean y)) + Ideal.ofBits .f32 0x3727C5AC#32) * g c + b c

/-- The exponentials of a row of scores less their greatest. -/
def soft {n : ℕ} (s : Fin n → EReal) : Fin n → EReal := fun j => Ideal.exp (s j - Finset.univ.fold max (Ideal.ofBits .f32 0xFF800000#32) s)

/-- The values weighted by the exponentials, then divided by the sum of these. -/
def att {n : ℕ} (s v : Fin n → EReal) : EReal := (∑ j, soft s j * v j) * Ideal.div 1 (∑ j, soft s j)

/-- The values weighted by the normalised exponentials. -/
def attR {n : ℕ} (s v : Fin n → EReal) : EReal := ∑ j, v j * (soft s j * Ideal.div 1 (∑ j, soft s j))

/-- A layer's parameters. -/
structure Par where
  wqkv : Fin 2304 → Fin 768 → EReal
  bqkv : Fin 2304 → EReal
  wo : Fin 768 → Fin 768 → EReal
  bo : Fin 768 → EReal
  g1 : Fin 768 → EReal
  be1 : Fin 768 → EReal
  w1 : Fin 2048 → Fin 768 → EReal
  bf1 : Fin 2048 → EReal
  w2 : Fin 768 → Fin 2048 → EReal
  bf2 : Fin 768 → EReal
  g2 : Fin 768 → EReal
  be2 : Fin 768 → EReal

/-- The part of a layer after the attention: projection, residual, norm, feed-forward, residual, norm. -/
def block (p : Par) (a x : Fin 768 → EReal) : Fin 768 → EReal :=
  let y := norm (fun c => x c + lin a p.wo p.bo c) p.g1 p.be1
  norm (fun c => y c + lin (fun c => max (lin y p.w1 p.bf1 c) 0) p.w2 p.bf2 c) p.g2 p.be2

/-- Column `d` of head `h` in part `a` (queries, keys, values) of the packed projection. -/
def col (a : Fin 3) (h : Fin 12) (d : Fin 64) : Fin 2304 := ⟨768 * a.val + (64 * h.val + d.val), by omega⟩

/-- What position `r` sees of position `j`: 0 where `j` is not after `r` and is a context position or `r` is one, −∞ elsewhere. -/
def mask (r j : Fin 1088) : EReal := if j.val ≤ r.val ∧ j.val < 1024 then 0 else ⊥

/-- The scores of position `r` in head `h`, from the packed projection `q`. -/
def score (q : Fin 1088 → Fin 2304 → EReal) (h : Fin 12) (r j : Fin 1088) : EReal :=
  (∑ d, q r (col 0 h d) * q j (col 1 h d)) * ((1 / 8 : ℝ) : EReal) + mask r j

/-- The attention output at position `r`, head `h`, column `d`. -/
def heads (q : Fin 1088 → Fin 2304 → EReal) (r : Fin 1088) (h : Fin 12) (d : Fin 64) : EReal := attR (score q h r) (fun j => q j (col 2 h d))

/-- One layer. -/
def layer (p : Par) (X : Fin 1088 → Fin 768 → EReal) : Fin 1088 → Fin 768 → EReal := fun r =>
  block p (fun c => heads (fun r => lin (X r) p.wqkv p.bqkv) r ⟨c.val / 64, by omega⟩ ⟨c.val % 64, by omega⟩) (X r)

/-! ## The softmax -/

/-- A nonnegative real factor comes out of a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The literal −∞. -/
theorem ninf : Ideal.ofBits .f32 0xFF800000#32 = ⊥ := by simp [Ideal.ofBits, Ideal.ieee]

/-- The greatest of a row is its supremum. -/
theorem fold_sup {n : ℕ} (s : Fin n → EReal) : Finset.univ.fold max (Ideal.ofBits .f32 0xFF800000#32) s = Finset.univ.sup s := by
  rw [ninf]; rfl

theorem exp_bot : Ideal.exp ⊥ = 0 := rfl

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Either every exponential is zero, or their sum is a positive real. -/
theorem soft_cases {n : ℕ} (s : Fin n → EReal) : (∀ j, soft s j = 0) ∨ ∃ r : ℝ, 0 < r ∧ ∑ j, soft s j = (r : EReal) := by
  unfold soft
  rw [fold_sup]
  have hle : ∀ j, s j ≤ Finset.univ.sup s := fun j => Finset.le_sup (Finset.mem_univ j)
  generalize Finset.univ.sup s = M at hle ⊢
  induction M using EReal.rec with
  | bot =>
    refine .inl fun j => ?_
    rw [le_bot_iff.mp (hle j)]; rfl
  | top =>
    refine .inl fun j => ?_
    rw [sub_eq_add_neg, EReal.neg_top, EReal.add_bot]; rfl
  | coe M =>
    have hr : ∀ j, ∃ r : ℝ, 0 ≤ r ∧ Ideal.exp (s j - (M : EReal)) = (r : EReal) := fun j => by
      have h := hle j
      generalize s j = x at h ⊢
      induction x using EReal.rec with
      | bot => exact ⟨0, le_refl _, by rw [EReal.bot_sub]; rfl⟩
      | top => exact absurd (top_le_iff.mp h) (EReal.coe_ne_top M)
      | coe x => exact ⟨Real.exp (x - M), (Real.exp_pos _).le, by rw [← EReal.coe_sub]; rfl⟩
    choose f hf0 hf using hr
    have hs : ∑ j, Ideal.exp (s j - (M : EReal)) = ((∑ j, f j : ℝ) : EReal) := by
      rw [coe_sum]; exact Finset.sum_congr rfl fun j _ => hf j
    rcases (Finset.sum_nonneg fun j (_ : j ∈ Finset.univ) => hf0 j).eq_or_lt with h | h
    · left
      intro j
      rw [hf j, (Finset.sum_eq_zero_iff_of_nonneg fun j _ => hf0 j).mp h.symm j (Finset.mem_univ j)]; rfl
    · exact .inr ⟨_, h, hs⟩

/-- Dividing the weighted sum is weighting by the divided exponentials. -/
theorem att_eq {n : ℕ} (s v : Fin n → EReal) : att s v = attR s v := by
  unfold att attR
  rcases soft_cases s with h | ⟨r, hr, h⟩
  · simp [h]
  · rw [h]
    have hd : Ideal.div 1 (r : EReal) = ((r⁻¹ : ℝ) : EReal) := by
      unfold Ideal.div
      rw [if_neg (by exact_mod_cast hr.ne'), one_mul]; rfl
    rw [hd, sum_mul_real _ _ _ (inv_nonneg.mpr hr.le)]
    exact Finset.sum_congr rfl fun j _ => by rw [mul_right_comm, mul_comm]

/-- Scores that are −∞ from position `n` on do not count. -/
theorem att_cut {n k : ℕ} (s v : Fin (n + k) → EReal) (h : ∀ j : Fin k, s (Fin.natAdd n j) = ⊥) :
    att s v = att (fun j : Fin n => s (Fin.castAdd k j)) (fun j => v (Fin.castAdd k j)) := by
  have hs : Finset.univ.sup s = Finset.univ.sup fun j : Fin n => s (Fin.castAdd k j) := by
    apply le_antisymm
    · refine Finset.sup_le fun j _ => ?_
      refine Fin.addCases (fun i => ?_) (fun i => ?_) j
      · exact Finset.le_sup (f := fun j : Fin n => s (Fin.castAdd k j)) (Finset.mem_univ i)
      · rw [h i]; exact bot_le
    · exact Finset.sup_le fun j _ => Finset.le_sup (Finset.mem_univ _)
  have h0 : ∀ j : Fin k, soft s (Fin.natAdd n j) = 0 := fun j => by unfold soft; rw [h j, EReal.bot_sub]; rfl
  have h1 : ∀ j : Fin n, soft s (Fin.castAdd k j) = soft (fun j : Fin n => s (Fin.castAdd k j)) j := fun j => by
    unfold soft; rw [fold_sup, fold_sup, hs]
  unfold att
  rw [Fin.sum_univ_add, Fin.sum_univ_add (fun j => soft s j)]
  simp [h0, h1]

/-- Parameters with the same entries are the same. -/
theorem par_ext {P Q : Par}
    (h0 : ∀ c k, P.wqkv c k = Q.wqkv c k) (h1 : ∀ k, P.bqkv k = Q.bqkv k) (h2 : ∀ c k, P.wo c k = Q.wo c k) (h3 : ∀ k, P.bo k = Q.bo k)
    (h4 : ∀ k, P.g1 k = Q.g1 k) (h5 : ∀ k, P.be1 k = Q.be1 k) (h6 : ∀ c k, P.w1 c k = Q.w1 c k) (h7 : ∀ k, P.bf1 k = Q.bf1 k)
    (h8 : ∀ c k, P.w2 c k = Q.w2 c k) (h9 : ∀ k, P.bf2 k = Q.bf2 k) (h10 : ∀ k, P.g2 k = Q.g2 k) (h11 : ∀ k, P.be2 k = Q.be2 k) : P = Q := by
  cases P
  cases Q
  simp only at h0 h1 h2 h3 h4 h5 h6 h7 h8 h9 h10 h11
  simp only [Par.mk.injEq]
  exact ⟨funext fun c => funext (h0 c), funext h1, funext fun c => funext (h2 c), funext h3, funext h4, funext h5, funext fun c => funext (h6 c), funext h7, funext fun c => funext (h8 c), funext h9, funext h10, funext h11⟩

end Cert.Proof.Sp
end
-- ==== Proof.KLayer.lean ====
module

public import proofs.«01_k».proof.Proof.LayerVals
public import proofs.«01_k».proof.Proof.TileAt
public import proofs.«01_k».proof.Proof.Spec

/-!
The kernel's layer over the extended reals is the layer of `Spec`.
-/

@[expose] public section

set_option maxRecDepth 16384

noncomputable section

namespace Cert.Proof.KI

open Cert.KernelIdeal Cert.KernelIdeal.Gen
open Idealize.ShloMosaic Cert.Proof.Sp

/-- The scale of the queries. -/
theorem scale_lit : Ideal.ofBits .f32 0x3E000000#32 = ((1 / 8 : ℝ) : EReal) := by
  simp [Ideal.ofBits, Ideal.ieee, -EReal.coe_mul]; norm_num

/-! ## The packed projection -/

theorem pay6_at (xb : Vec Ideal S1x272x768 .f32) (W : Vec Ideal S768x768 .bf16) (b : Vec Ideal S1x768 .f32) (r : Fin 272) (c : Fin 768) :
    k1_pay6 xb W b (ix2 r c) = lin (fun k => xb (ix3 0 r k)) (fun c k => W (ix2 c k)) (fun c => b (ix2 0 c)) c * ((1 / 8 : ℝ) : EReal) := by
  rw [← scale_lit]; pointwise [k1_pay6, k1_pay5]; rfl

theorem pay7_at (xb : Vec Ideal S1x272x768 .f32) (W : Vec Ideal S768x768 .bf16) (b : Vec Ideal S1x768 .f32) (r : Fin 272) (c : Fin 768) :
    k1_pay7 xb W b (ix2 r c) = lin (fun k => xb (ix3 0 r k)) (fun c k => W (ix2 c k)) (fun c => b (ix2 0 c)) c := by
  pointwise [k1_pay7, k1_pay5]; rfl

theorem pay8_at (xb : Vec Ideal S1x272x768 .f32) (W : Vec Ideal S768x768 .bf16) (b : Vec Ideal S1x768 .f32) (r : Fin 272) (c : Fin 768) :
    k1_pay38 (k1_pay8 xb W) (k1_pay9 b) (ix2 r c) = lin (fun k => xb (ix3 0 r k)) (fun c k => W (ix2 c k)) (fun c => b (ix2 0 c)) c := by
  pointwise [k1_pay38, k1_pay8, k1_pay9, k1_pay5]; rfl

/-- The packed projection of row `r`, less the scale. -/
def qS (X : S1x1088x768.Idx → EReal) (W : S2304x768.Idx → EReal) (b : S1x2304.Idx → EReal) (r : Fin 1088) (c : Fin 2304) : EReal :=
  lin (fun k => X (ix3 0 r k)) (fun c k => W (ix2 c k)) (fun c => b (ix2 0 c)) c

/-- A band of the projection is the projection of the band's rows. -/
theorem lin_tile (X : S1x1088x768.Idx → EReal) (W : S2304x768.Idx → EReal) (b : S1x2304.Idx → EReal) (r : Fin 1088) (c : Fin 2304) (o : ℕ)
    (c' : Fin 768) (hc : o + c'.val = c.val) (r' : Fin 272) (p : ℕ) (hr : p + r'.val = r.val) :
    lin (fun k => (tile S1x1088x768 S1x272x768.size X ![0, p, 0] : Vec Ideal S1x272x768 .f32) (ix3 0 r' k))
      (fun c k => (tile S2304x768 S768x768.size W ![o, 0] : Vec Ideal S768x768 .bf16) (ix2 c k)) (fun c => (tile S1x2304 S1x768.size b ![0, o] : Vec Ideal S1x768 .f32) (ix2 0 c)) c'
      = qS X W b r c := by
  unfold qS lin
  refine congrArg₂ (· + ·) (Finset.sum_congr rfl fun k _ => congrArg₂ (· * ·) ?_ ?_) ?_
  · exact tile_ix3 X 0 p 0 _ (0 : Fin 1) r' k 0 r k rfl hr (Nat.zero_add _)
  · exact tile_ix2 W o 0 _ c' k c k hc (Nat.zero_add _)
  · exact tile_ix2 b 0 o _ (0 : Fin 1) c' 0 c rfl hc

theorem qkvV_at (X : S1x1088x768.Idx → Elt Ideal .f32) (W : S2304x768.Idx → Elt Ideal .bf16) (b : S1x2304.Idx → Elt Ideal .f32) (r : Fin 1088) (c : Fin 2304) :
    qkvV X W b (ix2 r c) = if c.val < 768 then qS X W b r c * ((1 / 8 : ℝ) : EReal) else qS X W b r c := by
  have hr := r.isLt
  have hc := c.isLt
  unfold qkvV
  show (if c.val < 768 then k1_pay6 (F := Ideal) (tile S1x1088x768 S1x272x768.size X ![0, 272 * (r.val / 272), 0]) _ _ (at' S272x768 ![r.val % 272, c.val % 768])
    else if c.val < 1536 then k1_pay7 (F := Ideal) _ _ _ (at' S272x768 ![r.val % 272, c.val % 768])
    else k1_pay38 (F := Ideal) (k1_pay8 _ _) (k1_pay9 _) (at' S272x768 ![r.val % 272, c.val % 768])) = _
  rw [at'_ix2 (r.val % 272) (c.val % 768) (by omega) (by omega)]
  by_cases h1 : c.val < 768
  · rw [if_pos h1, if_pos h1, pay6_at, lin_tile X W b r c 0 _ (by show 0 + c.val % 768 = c.val; omega) _ _ (by show 272 * (r.val / 272) + r.val % 272 = r.val; omega)]
  · rw [if_neg h1, if_neg h1]
    by_cases h2 : c.val < 1536
    · rw [if_pos h2, pay7_at, lin_tile X W b r c 768 _ (by show 768 + c.val % 768 = c.val; omega) _ _ (by show 272 * (r.val / 272) + r.val % 272 = r.val; omega)]
    · rw [if_neg h2, pay8_at, lin_tile X W b r c 1536 _ (by show 1536 + c.val % 768 = c.val; omega) _ _ (by show 272 * (r.val / 272) + r.val % 272 = r.val; omega)]

/-! ## The mask -/

theorem maskV_at (r j : Fin 1088) : maskV (F := Ideal) (ix2 r j) = mask r j := by
  have hr := r.isLt
  have hj := j.isLt
  unfold maskV mask
  show k1_pay39 (F := Ideal) (Scalar.muli (Scf.iv 0#32 1#32 (r.val / 272)) 272#32) (at' S272x1088 ![r.val % 272, j.val]) = _
  rw [at'_ix2 (r.val % 272) j.val (by omega) hj]
  have hw : ∀ w : BitVec 32, w = BitVec.ofNat 32 (272 * (r.val / 272)) → k1_pay39 (F := Ideal) w (ix2 ⟨r.val % 272, by omega⟩ j) =
      Scalar.select (IntOp.cmpi .sle (BitVec.ofNat 32 j.val) (IntOp.minsi (BitVec.ofNat 32 r.val) 1023#32)) 0 ⊥ := by
    rintro w rfl
    have e : IntOp.addi (BitVec.ofNat 32 (272 * (r.val / 272))) (BitVec.ofNat 32 (r.val % 272)) = BitVec.ofNat 32 r.val := by
      apply BitVec.eq_of_toNat_eq
      simp [IntOp.addi]
      omega
    pointwise [k1_pay39]
    rw [e, show Named.named (F := Ideal) κ "mask" (φ := .f32) 0xCE6E6B28#32 = ⊥ from IdealRules.named_const.ideal_named_scalar _ _ _ _ rfl]
  rw [hw _ (by
    apply BitVec.eq_of_toNat_eq
    simp [Scalar.muli, IntOp.muli, Scf.iv]
    omega)]
  have hi : ∀ n : ℕ, n < 2 ^ 31 → (BitVec.ofNat 32 n).toInt = n := fun n hn => by
    rw [BitVec.toInt_eq_toNat_cond, BitVec.toNat_ofNat]; omega
  have hm : IntOp.minsi (BitVec.ofNat 32 r.val) 1023#32 = BitVec.ofNat 32 (min r.val 1023) := by
    unfold IntOp.minsi
    by_cases h : r.val < 1023
    · rw [if_pos (by rw [BitVec.slt, decide_eq_true_iff, hi _ (by omega), show (1023#32 : BitVec 32).toInt = 1023 from rfl]; omega), Nat.min_eq_left h.le]
    · rw [if_neg (by rw [BitVec.slt, decide_eq_true_iff, hi _ (by omega), show (1023#32 : BitVec 32).toInt = 1023 from rfl]; omega), Nat.min_eq_right (by omega)]
  rw [hm]
  unfold IntOp.cmpi Scalar.select
  by_cases h : j.val ≤ r.val ∧ j.val < 1024
  · rw [if_pos h, if_pos]
    show BitVec.ofBool (BitVec.sle _ _) = 1
    rw [BitVec.sle, hi _ (by omega), hi _ (by omega), decide_eq_true (by omega)]; rfl
  · rw [if_neg h, if_neg]
    show ¬ BitVec.ofBool (BitVec.sle _ _) = 1
    rw [BitVec.sle, hi _ (by omega), hi _ (by omega), decide_eq_false (by omega)]; decide

/-! ## The attention -/

theorem A640_at (m : Vec Ideal S272x640 .f32) (k v : Vec Ideal S640x64 .bf16) (q : Vec Ideal S272x64 .bf16) (r : Fin 272) (d : Fin 64) :
    A640 m k v q (ix2 r d) = att (fun j => ∑ x, q (ix2 r x) * k (ix2 j x) + m (ix2 r j)) (fun j => v (ix2 j d)) := by
  pointwise [A640, k1_pay40, k1_pay11]; rfl

theorem A1088_at (m : Vec Ideal S272x1088 .f32) (k v : Vec Ideal S1088x64 .bf16) (q : Vec Ideal S272x64 .bf16) (r : Fin 272) (d : Fin 64) :
    A1088 m k v q (ix2 r d) = att (fun j => ∑ x, q (ix2 r x) * k (ix2 j x) + m (ix2 r j)) (fun j => v (ix2 j d)) := by
  pointwise [A1088, k1_pay41, k1_pay13]; rfl

/-- The attention output from any packed array `Q`, under the mask. -/
theorem attV_at (Q : S1088x2304.Idx → Elt Ideal .bf16) (r : Fin 1088) (c : Fin 768) (h : Fin 12) (d : Fin 64) (hh : c.val / 64 = h.val) (hd : c.val % 64 = d.val) :
    attV Q (maskV (F := Ideal)) (ix2 r c) = att (fun j => ∑ x, Q (ix2 r (col 0 h x)) * Q (ix2 j (col 1 h x)) + mask r j) (fun j => Q (ix2 j (col 2 h d))) := by
  have hr := r.isLt
  have hc := c.isLt
  have hh' := h.isLt
  unfold attV
  show (if r.val / 272 < 2 then
      A640 (F := Ideal) (tile S1088x1088 S272x640.size maskV ![272 * (r.val / 272), 0]) (tile S1088x2304 S640x64.size Q ![0, 768 + 64 * (c.val / 64)])
        (tile S1088x2304 S640x64.size Q ![0, 1536 + 64 * (c.val / 64)]) (tile S1088x2304 S272x64.size Q ![272 * (r.val / 272), 64 * (c.val / 64)]) (at' S272x64 ![r.val % 272, c.val % 64])
    else
      A1088 (F := Ideal) (tile S1088x1088 S272x1088.size maskV ![272 * (r.val / 272), 0]) (tile S1088x2304 S1088x64.size Q ![0, 768 + 64 * (c.val / 64)])
        (tile S1088x2304 S1088x64.size Q ![0, 1536 + 64 * (c.val / 64)]) (tile S1088x2304 S272x64.size Q ![272 * (r.val / 272), 64 * (c.val / 64)]) (at' S272x64 ![r.val % 272, c.val % 64])) = _
  rw [at'_ix2 (r.val % 272) (c.val % 64) (by omega) (by omega), hh]
  by_cases hb : r.val / 272 < 2
  · rw [if_pos hb, A640_at]
    refine Eq.trans ?_ (att_cut (n := 640) (k := 448) (fun j => ∑ x, Q (ix2 r (col 0 h x)) * Q (ix2 j (col 1 h x)) + mask r j) (fun j => Q (ix2 j (col 2 h d))) fun j => by
      have hm : mask r (Fin.natAdd 640 j) = ⊥ := if_neg (by show ¬ (640 + j.val ≤ r.val ∧ _); omega)
      rw [hm, EReal.add_bot]).symm
    refine congrArg₂ att (funext fun j => congrArg₂ (· + ·) (Finset.sum_congr rfl fun x _ => congrArg₂ (· * ·) ?_ ?_) ?_) (funext fun j => ?_)
    · exact tile_ix2 Q _ _ _ _ x r (col 0 h x) (by show 272 * (r.val / 272) + r.val % 272 = r.val; omega) (by show _ = 768 * 0 + (64 * h.val + x.val); omega)
    · exact tile_ix2 Q _ _ _ j x (Fin.castAdd 448 j) (col 1 h x) (Nat.zero_add _) (by show _ = 768 * 1 + (64 * h.val + x.val); omega)
    · exact (tile_ix2 (maskV (F := Ideal)) _ _ _ _ j r (Fin.castAdd 448 j) (by show 272 * (r.val / 272) + r.val % 272 = r.val; omega) (Nat.zero_add _)).trans (maskV_at _ _)
    · exact tile_ix2 Q _ _ _ j _ (Fin.castAdd 448 j) (col 2 h d) (Nat.zero_add _) (by show 1536 + 64 * h.val + c.val % 64 = 768 * 2 + (64 * h.val + d.val); omega)
  · rw [if_neg hb, A1088_at]
    refine congrArg₂ att (funext fun j => congrArg₂ (· + ·) (Finset.sum_congr rfl fun x _ => congrArg₂ (· * ·) ?_ ?_) ?_) (funext fun j => ?_)
    · exact tile_ix2 Q _ _ _ _ x r (col 0 h x) (by show 272 * (r.val / 272) + r.val % 272 = r.val; omega) (by show _ = 768 * 0 + (64 * h.val + x.val); omega)
    · exact tile_ix2 Q _ _ _ j x j (col 1 h x) (Nat.zero_add _) (by show _ = 768 * 1 + (64 * h.val + x.val); omega)
    · exact (tile_ix2 (maskV (F := Ideal)) _ _ _ _ j r j (by show 272 * (r.val / 272) + r.val % 272 = r.val; omega) (Nat.zero_add _)).trans (maskV_at _ _)
    · exact tile_ix2 Q _ _ _ j _ j (col 2 h d) (Nat.zero_add _) (by show 1536 + 64 * h.val + c.val % 64 = 768 * 2 + (64 * h.val + d.val); omega)

/-- The attention output from the projection of the block `X`. -/
theorem attV_heads (X : S1x1088x768.Idx → Elt Ideal .f32) (W : S2304x768.Idx → Elt Ideal .bf16) (b : S1x2304.Idx → Elt Ideal .f32) (r : Fin 1088) (c : Fin 768) (h : Fin 12) (d : Fin 64)
    (hh : c.val / 64 = h.val) (hd : c.val % 64 = d.val) : attV (qkvV X W b) (maskV (F := Ideal)) (ix2 r c) = heads (qS X W b) r h d := by
  rw [attV_at _ r c h d hh hd, att_eq]
  have q0 : ∀ r x, qkvV (F := Ideal) X W b (ix2 r (col 0 h x)) = qS X W b r (col 0 h x) * ((1 / 8 : ℝ) : EReal) := fun r x => by
    rw [qkvV_at, if_pos (by show 768 * 0 + (64 * h.val + x.val) < 768; omega)]
  have q1 : ∀ r x, qkvV (F := Ideal) X W b (ix2 r (col 1 h x)) = qS X W b r (col 1 h x) := fun r x => by
    rw [qkvV_at, if_neg (by show ¬ 768 * 1 + (64 * h.val + x.val) < 768; omega)]
  have q2 : ∀ r x, qkvV (F := Ideal) X W b (ix2 r (col 2 h x)) = qS X W b r (col 2 h x) := fun r x => by
    rw [qkvV_at, if_neg (by show ¬ 768 * 2 + (64 * h.val + x.val) < 768; omega)]
  unfold heads
  refine congrArg₂ attR (funext fun j => ?_) (funext fun j => q2 j d)
  unfold score
  rw [sum_mul_real _ _ _ (by norm_num)]
  exact congrArg (· + mask r j) (Finset.sum_congr rfl fun x _ => by rw [q0, q1, mul_right_comm])

/-! ## The rest of the layer -/

/-- A layer's parameters, from the arrays the body reads. -/
def kpar (wqkv : S2304x768.Idx → Elt Ideal .bf16) (bqkv : S1x2304.Idx → Elt Ideal .f32) (wo : Vec Ideal S768x768 .bf16) (bo g1 be1 : Vec Ideal S1x768 .f32)
    (w1 : Vec Ideal S2048x768 .bf16) (bf1 : Vec Ideal S1x2048 .f32) (w2 : Vec Ideal S768x2048 .bf16) (bf2 g2 be2 : Vec Ideal S1x768 .f32) : Par where
  wqkv c k := wqkv (ix2 c k)
  bqkv c := bqkv (ix2 0 c)
  wo c k := wo (ix2 c k)
  bo c := bo (ix2 0 c)
  g1 c := g1 (ix2 0 c)
  be1 c := be1 (ix2 0 c)
  w1 c k := w1 (ix2 c k)
  bf1 c := bf1 (ix2 0 c)
  w2 c k := w2 (ix2 c k)
  bf2 c := bf2 (ix2 0 c)
  g2 c := g2 (ix2 0 c)
  be2 c := be2 (ix2 0 c)

/-- The rows after the first norm. -/
theorem pay34_at (a : Vec Ideal S136x768 .f32) (wo : Vec Ideal S768x768 .bf16) (bo : Vec Ideal S1x768 .f32) (x : Vec Ideal S1x136x768 .f32) (g1 be1 : Vec Ideal S1x768 .f32)
    (r : Fin 136) (c : Fin 768) :
    k1_pay34 a wo bo x g1 be1 (ix2 r c) = norm (fun c => x (ix3 0 r c) + lin (fun k => a (ix2 r k)) (fun c k => wo (ix2 c k)) (fun c => bo (ix2 0 c)) c)
      (fun c => g1 (ix2 0 c)) (fun c => be1 (ix2 0 c)) c := by
  pointwise [k1_pay34]; rfl

/-- The rows after the feed-forward and the second norm, from the rows `y` after the first. -/
theorem pay36_at (y : FVec Ideal S136x768 .f32) (w1 : Vec Ideal S2048x768 .bf16) (bf1 : Vec Ideal S1x2048 .f32) (w2 : Vec Ideal S768x2048 .bf16) (bf2 g2 be2 : Vec Ideal S1x768 .f32)
    (r : Fin 136) (c : Fin 768) :
    k1_pay4 (k1_pay36 y (truncf .bf16 y bitsLt_bf16_f32) w1 bf1 w2 bf2 g2) (k1_pay37 be2) (ix3 0 r c) = norm (fun c => y (ix2 r c) +
      lin (fun c => max (lin (fun k => y (ix2 r k)) (fun c k => w1 (ix2 c k)) (fun c => bf1 (ix2 0 c)) c) 0) (fun c k => w2 (ix2 c k)) (fun c => bf2 (ix2 0 c)) c)
      (fun c => g2 (ix2 0 c)) (fun c => be2 (ix2 0 c)) c := by
  pointwise [k1_pay4, k1_pay36, k1_pay37]; rfl

/-- The rows the body writes out. -/
theorem mlp_at (wqkv : S2304x768.Idx → Elt Ideal .bf16) (bqkv : S1x2304.Idx → Elt Ideal .f32) (a : Vec Ideal S136x768 .f32) (x : Vec Ideal S1x136x768 .f32) (wo : Vec Ideal S768x768 .bf16) (bo g1 be1 : Vec Ideal S1x768 .f32)
    (w1 : Vec Ideal S2048x768 .bf16) (bf1 : Vec Ideal S1x2048 .f32) (w2 : Vec Ideal S768x2048 .bf16) (bf2 g2 be2 : Vec Ideal S1x768 .f32) (r : Fin 136) (c : Fin 768) :
    mlp a x wo bo g1 be1 w1 bf1 w2 bf2 g2 be2 (ix3 0 r c) = block (kpar wqkv bqkv wo bo g1 be1 w1 bf1 w2 bf2 g2 be2) (fun k => a (ix2 r k)) (fun k => x (ix3 0 r k)) c := by
  unfold mlp k1_pay35
  rw [pay36_at]
  simp only [pay34_at]
  rfl

/-- The kernel's layer is the layer. -/
theorem layerV_at (X : S1x1088x768.Idx → Elt Ideal .f32) (wqkv : S2304x768.Idx → Elt Ideal .bf16) (bqkv : S1x2304.Idx → Elt Ideal .f32) (wo : Vec Ideal S768x768 .bf16) (bo g1 be1 : Vec Ideal S1x768 .f32)
    (w1 : Vec Ideal S2048x768 .bf16) (bf1 : Vec Ideal S1x2048 .f32) (w2 : Vec Ideal S768x2048 .bf16) (bf2 g2 be2 : Vec Ideal S1x768 .f32) (r : Fin 1088) (c : Fin 768) :
    layerV X wqkv bqkv wo bo g1 be1 w1 bf1 w2 bf2 g2 be2 (ix3 0 r c) = layer (kpar wqkv bqkv wo bo g1 be1 w1 bf1 w2 bf2 g2 be2) (fun r c => X (ix3 0 r c)) r c := by
  have hr := r.isLt
  unfold layerV outV
  show mlp (F := Ideal) (tile S1088x768 S136x768.size _ ![136 * (r.val / 136), 0]) (tile S1x1088x768 S1x136x768.size X ![0, 136 * (r.val / 136), 0]) wo bo g1 be1 w1 bf1 w2 bf2 g2 be2
    (at' S1x136x768 ![0, r.val % 136, c.val]) = _
  rw [at'_ix3 0 (r.val % 136) c.val (by omega) (by omega) c.isLt]
  refine (mlp_at wqkv bqkv _ _ _ _ _ _ _ _ _ _ _ _ _ _).trans ?_
  unfold layer
  refine congrFun (congrArg₂ (block _) (funext fun k => ?_) (funext fun k => ?_)) c
  · exact (tile_ix2 _ _ _ _ _ k r k (by show 136 * (r.val / 136) + r.val % 136 = r.val; omega) (Nat.zero_add _)).trans (attV_heads X wqkv bqkv r k _ _ rfl rfl)
  · exact tile_ix3 X _ _ _ _ (0 : Fin 1) _ k 0 r k rfl (by show 136 * (r.val / 136) + r.val % 136 = r.val; omega) (Nat.zero_add _)

end Cert.Proof.KI
end
-- ==== Proof.Value1.lean ====
module

public import proofs.«01_k».proof.Proof.Loop
public import proofs.«01_k».proof.Proof.KLayer
public import Idealize.ShloMosaic.Lib.Pipeline.ValueKit

/-!
The layer launch's result: the stream after the layer, at an index, from the stream and the sliced weights it reads.
-/

@[expose] public section

set_option maxRecDepth 16384

noncomputable section

namespace Cert.Proof.KI

open Idealize.ShloMosaic Idealize.ShloMosaic.TcCoe Cert.KernelIdeal Cert.KernelIdeal.Gen Cert.Proof.Sp
open Idealize.ShloMosaic.Pipeline (Dat Cfg afterRegion)

/-- Point `b` of the layer launch's grid. -/
abbrev pt1 (b : Fin 8) : Fin cfg1.N := ⟨b.val, by show _ < grid1.N; rw [Gen.N_1]; exact b.isLt⟩

/-- The stream moves with the grid point; the weights stay. -/
theorem ix1_0 : ∀ t : Fin cfg1.N, win1_0.index t = ![t.val, 0, 0] := (by decide +kernel : ∀ t : Fin grid1.N, _)
theorem ix1_13 : ∀ t : Fin cfg1.N, win1_13.index t = ![t.val, 0, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, 0] := (by decide +kernel : ∀ t : Fin grid1.N, _)
theorem ix1_3 : ∀ t : Fin cfg1.N, win1_3.index t = ![0, 0] := (by decide +kernel : ∀ t : Fin grid1.N, _)
theorem ix1_4 : ∀ t : Fin cfg1.N, win1_4.index t = ![0, 0] := (by decide +kernel : ∀ t : Fin grid1.N, _)
theorem ix1_5 : ∀ t : Fin cfg1.N, win1_5.index t = ![0, 0] := (by decide +kernel : ∀ t : Fin grid1.N, _)
theorem ix1_6 : ∀ t : Fin cfg1.N, win1_6.index t = ![0, 0] := (by decide +kernel : ∀ t : Fin grid1.N, _)
theorem ix1_7 : ∀ t : Fin cfg1.N, win1_7.index t = ![0, 0] := (by decide +kernel : ∀ t : Fin grid1.N, _)
theorem ix1_8 : ∀ t : Fin cfg1.N, win1_8.index t = ![0, 0] := (by decide +kernel : ∀ t : Fin grid1.N, _)
theorem ix1_9 : ∀ t : Fin cfg1.N, win1_9.index t = ![0, 0] := (by decide +kernel : ∀ t : Fin grid1.N, _)
theorem ix1_10 : ∀ t : Fin cfg1.N, win1_10.index t = ![0, 0] := (by decide +kernel : ∀ t : Fin grid1.N, _)
theorem ix1_11 : ∀ t : Fin cfg1.N, win1_11.index t = ![0, 0] := (by decide +kernel : ∀ t : Fin grid1.N, _)
theorem ix1_12 : ∀ t : Fin cfg1.N, win1_12.index t = ![0, 0] := (by decide +kernel : ∀ t : Fin grid1.N, _)

variable (V : Valuation τ sig (Elt Ideal)) (b : Fin 8)

theorem blk1_0 (r : Fin 1088) (k : Fin 768) : blk1 V 0 (pt1 b) (ix3 0 r k) = V main_v17_13 (ix3 b r k) := by
  show V main_v17_13 ((win1_0.blk (pt1 b)).view.emb _) = _
  refine congrArg _ ?_
  blk_ext [ix1_0]
theorem blk1_1 (r : Fin 2304) (k : Fin 768) : blk1 V 1 (pt1 b) (ix2 r k) = V main_while0b_v19 (ix2 r k) := by
  show V main_while0b_v19 ((win1_1.blk (pt1 b)).view.emb _) = _
  refine congrArg _ ?_
  blk_ext [ix1_1]
theorem blk1_2 (k : Fin 2304) : blk1 V 2 (pt1 b) (ix2 0 k) = V main_while0b_v20 (ix2 0 k) := by
  show V main_while0b_v20 ((win1_2.blk (pt1 b)).view.emb _) = _
  refine congrArg _ ?_
  blk_ext [ix1_2]
theorem blk1_3 (r : Fin 768) (k : Fin 768) : blk1 V 3 (pt1 b) (ix2 r k) = V main_while0b_v21 (ix2 r k) := by
  show V main_while0b_v21 ((win1_3.blk (pt1 b)).view.emb _) = _
  refine congrArg _ ?_
  blk_ext [ix1_3]
theorem blk1_4 (k : Fin 768) : blk1 V 4 (pt1 b) (ix2 0 k) = V main_while0b_v22 (ix2 0 k) := by
  show V main_while0b_v22 ((win1_4.blk (pt1 b)).view.emb _) = _
  refine congrArg _ ?_
  blk_ext [ix1_4]
theorem blk1_5 (k : Fin 768) : blk1 V 5 (pt1 b) (ix2 0 k) = V main_while0b_v23 (ix2 0 k) := by
  show V main_while0b_v23 ((win1_5.blk (pt1 b)).view.emb _) = _
  refine congrArg _ ?_
  blk_ext [ix1_5]
theorem blk1_6 (k : Fin 768) : blk1 V 6 (pt1 b) (ix2 0 k) = V main_while0b_v24 (ix2 0 k) := by
  show V main_while0b_v24 ((win1_6.blk (pt1 b)).view.emb _) = _
  refine congrArg _ ?_
  blk_ext [ix1_6]
theorem blk1_7 (r : Fin 2048) (k : Fin 768) : blk1 V 7 (pt1 b) (ix2 r k) = V main_while0b_v25 (ix2 r k) := by
  show V main_while0b_v25 ((win1_7.blk (pt1 b)).view.emb _) = _
  refine congrArg _ ?_
  blk_ext [ix1_7]
theorem blk1_8 (k : Fin 2048) : blk1 V 8 (pt1 b) (ix2 0 k) = V main_while0b_v26 (ix2 0 k) := by
  show V main_while0b_v26 ((win1_8.blk (pt1 b)).view.emb _) = _
  refine congrArg _ ?_
  blk_ext [ix1_8]
theorem blk1_9 (r : Fin 768) (k : Fin 2048) : blk1 V 9 (pt1 b) (ix2 r k) = V main_while0b_v27 (ix2 r k) := by
  show V main_while0b_v27 ((win1_9.blk (pt1 b)).view.emb _) = _
  refine congrArg _ ?_
  blk_ext [ix1_9]
theorem blk1_10 (k : Fin 768) : blk1 V 10 (pt1 b) (ix2 0 k) = V main_while0b_v28 (ix2 0 k) := by
  show V main_while0b_v28 ((win1_10.blk (pt1 b)).view.emb _) = _
  refine congrArg _ ?_
  blk_ext [ix1_10]
theorem blk1_11 (k : Fin 768) : blk1 V 11 (pt1 b) (ix2 0 k) = V main_while0b_v29 (ix2 0 k) := by
  show V main_while0b_v29 ((win1_11.blk (pt1 b)).view.emb _) = _
  refine congrArg _ ?_
  blk_ext [ix1_11]
theorem blk1_12 (k : Fin 768) : blk1 V 12 (pt1 b) (ix2 0 k) = V main_while0b_v30 (ix2 0 k) := by
  show V main_while0b_v30 ((win1_12.blk (pt1 b)).view.emb _) = _
  refine congrArg _ ?_
  blk_ext [ix1_12]

/-- The layer's weights as the launch finds them. -/
abbrev wpar (V : Valuation τ sig (Elt Ideal)) : Par :=
  kpar (V main_while0b_v19) (V main_while0b_v20) (V main_while0b_v21) (V main_while0b_v22) (V main_while0b_v23) (V main_while0b_v24) (V main_while0b_v25) (V main_while0b_v26) (V main_while0b_v27) (V main_while0b_v28) (V main_while0b_v29) (V main_while0b_v30)

/-- The launch's result is what its grid points wrote. -/
theorem nx1_arr (V : Vals Ideal) (c : Dev nD) : nx 1 V c main_while0b_v31 = fun i => (dat1 (V c) c).after 13 (pt1 (i 0)) (ix3 0 (i 1) (i 2)) := by
  refine (Pipeline.afterRegion_arr (dat1 (V c) c) (V c) launch1.win.arr_inj 13).trans ?_
  refine (dat1 (V c) c).arrAt_eq_of_covers 13 _ (by decide +kernel) fun t hf y => ?_
  blk_simp
  have e0 : pt1 (((win1_13.blk t).view.emb y) 0) = t := by
    refine Fin.ext ?_
    have hy := (y 0).isLt
    show (((win1_13.blk t).view.emb y) 0).val = t.val
    blk_simp [ix1_13]
  show _ = (dat1 (V c) c).after 13 (pt1 (((win1_13.blk t).view.emb y) 0)) (ix3 0 (((win1_13.blk t).view.emb y) 1) (((win1_13.blk t).view.emb y) 2))
  rw [e0]
  refine congrArg _ ?_
  blk_ext [ix1_13]

/-- The stream after the layer. -/
theorem nx1_at (V : Vals Ideal) (c : Dev nD) (b : Fin 8) (r : Fin 1088) (k : Fin 768) :
    nx 1 V c main_while0b_v31 (ix3 b r k) = layer (wpar (V c)) (fun r k => V c main_v17_13 (ix3 b r k)) r k := by
  rw [nx1_arr]
  refine (layerV_at (blk1 (V c) 0 (pt1 b)) (blk1 (V c) 1 (pt1 b)) (blk1 (V c) 2 (pt1 b)) (blk1 (V c) 3 (pt1 b)) (blk1 (V c) 4 (pt1 b)) (blk1 (V c) 5 (pt1 b)) (blk1 (V c) 6 (pt1 b)) (blk1 (V c) 7 (pt1 b)) (blk1 (V c) 8 (pt1 b)) (blk1 (V c) 9 (pt1 b)) (blk1 (V c) 10 (pt1 b)) (blk1 (V c) 11 (pt1 b)) (blk1 (V c) 12 (pt1 b)) r k).trans ?_
  simp only [kpar, blk1_0, blk1_1, blk1_2, blk1_3, blk1_4, blk1_5, blk1_6, blk1_7, blk1_8, blk1_9, blk1_10, blk1_11, blk1_12]

end Cert.Proof.KI
end
-- ==== Proof.Slices.lean ====
module

public import Idealize.ShloMosaic.Lib.Pointwise

/-!
One layer's row of a stacked array: a slice that starts at the layer's number.
-/

@[expose] public section

set_option maxRecDepth 16384

noncomputable section

namespace Cert.Proof

open Idealize.ShloMosaic

/-- A layer's number as a word, read signed. -/
theorem num_toInt (j : Fin 6) : (BitVec.ofNat 32 j.val).toInt = (j.val : Int) := by
  revert j; decide

/-- A slice of one of six matrices. -/
theorem slice3 {α : Type} {n m : ℕ} (x : (⟨3, ![6, n, m]⟩ : Shape).Idx → α) (start : Fin 3 → Int) (h : Shape.Slices ⟨3, ![6, n, m]⟩ (fun _ => 0) ⟨3, ![1, n, m]⟩)
    (j : Fin 6) (h0 : start 0 = (j.val : Int)) (h1 : start 1 = 0) (h2 : start 2 = 0) (c : Fin n) (k : Fin m) :
    Host.dynamicSlice ⟨3, ![1, n, m]⟩ x start h (ix3 0 c k) = x (ix3 j c k) := by
  have hj := j.isLt
  rw [Host.dynamicSlice_apply]
  have e0 : Host.clampedStart ⟨3, ![6, n, m]⟩ ⟨3, ![1, n, m]⟩ h.1 start 0 = j.val := Host.clampedStart_of_le _ _ _ _ h0 (by show j.val + 1 ≤ 6; omega)
  have e1 : Host.clampedStart ⟨3, ![6, n, m]⟩ ⟨3, ![1, n, m]⟩ h.1 start 1 = 0 := Host.clampedStart_of_le _ _ _ 0 h1 (by show 0 + n ≤ n; omega)
  have e2 : Host.clampedStart ⟨3, ![6, n, m]⟩ ⟨3, ![1, n, m]⟩ h.1 start 2 = 0 := Host.clampedStart_of_le _ _ _ 0 h2 (by show 0 + m ≤ m; omega)
  refine congrArg x (funext fun a => Fin.ext ?_)
  match a with
  | ⟨0, _⟩ => exact congrArg (· + 0) e0
  | ⟨1, _⟩ => exact (congrArg (· + c.val) e1).trans (Nat.zero_add _)
  | ⟨2, _⟩ => exact (congrArg (· + k.val) e2).trans (Nat.zero_add _)

/-- A slice of one of six rows. -/
theorem slice2 {α : Type} {n : ℕ} (x : (⟨2, ![6, n]⟩ : Shape).Idx → α) (start : Fin 2 → Int) (h : Shape.Slices ⟨2, ![6, n]⟩ (fun _ => 0) ⟨2, ![1, n]⟩)
    (j : Fin 6) (h0 : start 0 = (j.val : Int)) (h1 : start 1 = 0) (c : Fin n) :
    Host.dynamicSlice ⟨2, ![1, n]⟩ x start h (ix2 0 c) = x (ix2 j c) := by
  have hj := j.isLt
  rw [Host.dynamicSlice_apply]
  have e0 : Host.clampedStart ⟨2, ![6, n]⟩ ⟨2, ![1, n]⟩ h.1 start 0 = j.val := Host.clampedStart_of_le _ _ _ _ h0 (by show j.val + 1 ≤ 6; omega)
  have e1 : Host.clampedStart ⟨2, ![6, n]⟩ ⟨2, ![1, n]⟩ h.1 start 1 = 0 := Host.clampedStart_of_le _ _ _ 0 h1 (by show 0 + n ≤ n; omega)
  refine congrArg x (funext fun a => Fin.ext ?_)
  match a with
  | ⟨0, _⟩ => exact congrArg (· + 0) e0
  | ⟨1, _⟩ => exact (congrArg (· + c.val) e1).trans (Nat.zero_add _)

end Cert.Proof
end
-- ==== Proof.SliceLine.lean ====
module

public import proofs.«01_k».proof.Proof.Value1
public import proofs.«01_k».proof.Proof.Slices
public import Idealize.ShloMosaic.Lib.StableHlo.RunRead
public import Idealize.ShloMosaic.Lib.ValueLayout

/-!
A trip's slices: each of the twelve stretches leaves, in its last buffer, the layer's matrix or row of a stacked array.
-/

@[expose] public section

set_option maxRecDepth 16384

noncomputable section

namespace Cert.Proof.KI

open Idealize.ShloMosaic Idealize.ShloMosaic.TcCoe Cert.KernelIdeal Cert.KernelIdeal.Gen Cert.Proof.Sp
open Idealize.ShloMosaic.StableHlo

/-- What a reshape of typed references leaves. -/
theorem reshape_at {T T' : BufTy} (x : TRef sig T) (y : TRef sig T') (he : T.elt = T'.elt) (hn : T.shape.ShapeCasts T'.shape) (V : Valuation τ sig (Elt Ideal)) :
    y.ofBuf ((TRef.reshape x y he hn).result V (Proc.devRef .tc y.ref)) = fun i => he ▸ shapeCast T'.shape (x.ofBuf (V (Proc.devRef .tc x.ref))) hn i := by
  obtain ⟨x, rfl, _, _⟩ := x
  obtain ⟨y, rfl, _, _⟩ := y
  rw [reshape_result]
  rfl

/-- What an indexed operation of typed references leaves. -/
theorem indexed_at {T T' U : BufTy} {n : ℕ} (x : TRef sig T) (ix : Fin n → TRef sig U) (y : TRef sig T') (f : T.Contents (Elt Ideal) → (Fin n → U.Contents (Elt Ideal)) → T'.Contents (Elt Ideal)) (V : Valuation τ sig (Elt Ideal)) :
    y.ofBuf ((TRef.unaryIndexed x ix y f).result V (Proc.devRef .tc y.ref)) = f (x.ofBuf (V (Proc.devRef .tc x.ref))) fun k => (ix k).ofBuf (V (Proc.devRef .tc (ix k).ref)) := by
  rw [unaryIndexed_result, TRef.ofBuf_toBuf]

/-- What a constant leaves. -/
theorem const_at {T : BufTy} (y : TRef sig T) (v : T.Contents (Elt Ideal)) (V : Valuation τ sig (Elt Ideal)) : y.ofBuf ((TRef.nullary y v).result V (Proc.devRef .tc y.ref)) = v := by
  rw [nullary_result, TRef.ofBuf_toBuf]

/-- One stretch: two zeros, the slice of a stacked array at the counter, the leading axis dropped. -/
theorem slice_line {n m : ℕ} {e : EltTy} (x : TRef sig ⟨⟨3, ![6, n, m]⟩, e⟩) (s a b : TRef sig ⟨S_, .i32⟩) (v : TRef sig ⟨⟨3, ![1, n, m]⟩, e⟩) (y : TRef sig ⟨⟨2, ![n, m]⟩, e⟩)
    (hs : Shape.Slices ⟨3, ![6, n, m]⟩ (fun _ => 0) ⟨3, ![1, n, m]⟩) (hc : Shape.ShapeCasts ⟨3, ![1, n, m]⟩ ⟨2, ![n, m]⟩)
    (hsa : s.ref ≠ a.ref) (hsb : s.ref ≠ b.ref) (hab : a.ref ≠ b.ref) (hxa : x.ref ≠ a.ref) (hxb : x.ref ≠ b.ref)
    (V : Valuation τ sig (Elt Ideal)) (j : Fin 6) (h : s.ofBuf (V (Proc.devRef .tc s.ref)) = fun _ => BitVec.ofNat 32 j.val) (c : Fin n) (k : Fin m) :
    y.ofBuf (after [TRef.nullary a (constantI S_ 32 0#32), TRef.nullary b (constantI S_ 32 0#32),
      TRef.unaryIndexed x ![s, a, b] v (fun x i => Host.dynamicSlice ⟨3, ![1, n, m]⟩ x (fun k => (i k (Shape.Idx.first h_S_)).toInt) hs),
      TRef.reshape v y rfl hc] V (Proc.devRef .tc y.ref)) (ix2 c k) = x.ofBuf (V (Proc.devRef .tc x.ref)) (ix3 j c k) := by
  rw [after_cons, after_cons, after_cons, after_cons, after_nil, reshape_at, indexed_at]
  refine (ValueIdx.shapeCast_1ab_ab_apply _ hc c k).trans ?_
  rw [nullary_result_ne _ _ _ _ hxb, nullary_result_ne _ _ _ _ hxa]
  refine slice3 _ _ hs j ?_ ?_ ?_ c k
  · show BitVec.toInt (s.ofBuf (HloOp.result _ (HloOp.result _ V) (Proc.devRef .tc s.ref)) _) = _
    rw [nullary_result_ne _ _ _ _ hsb, nullary_result_ne _ _ _ _ hsa, h]
    exact num_toInt j
  · show BitVec.toInt (a.ofBuf (HloOp.result _ (HloOp.result _ V) (Proc.devRef .tc a.ref)) _) = _
    rw [nullary_result_ne _ _ _ _ hab, const_at]
    rfl
  · show BitVec.toInt (b.ofBuf (HloOp.result _ (HloOp.result _ V) (Proc.devRef .tc b.ref)) _) = _
    rw [const_at]
    rfl

/-! ## A trip's slices in one line -/

theorem map_writes : (sliceOps : List (HloOp τ sig (Elt Ideal))).map HloOp.writes = slice_W.map fun r => {Proc.devRef (τ := τ) .tc r} := rfl

/-- The first `p` operations keep what they do not write. -/
theorem slices_before (V : Valuation τ sig (Elt Ideal)) (p : ℕ) (r : Ref sig .tc) (h : r ∉ slice_W.take p) : after (sliceOps.take p) V (Proc.devRef .tc r) = V (Proc.devRef .tc r) :=
  after_of_writes_sub _ V (forall_writes_sub_of_map (W := slice_W.take p) (by rw [List.map_take, List.map_take, map_writes])) h

/-- Those from the `p`-th on keep what they do not write. -/
theorem slices_after (V : Valuation τ sig (Elt Ideal)) (p : ℕ) (r : Ref sig .tc) (h : r ∉ slice_W.drop p) : after (sliceOps.drop p) V (Proc.devRef .tc r) = V (Proc.devRef .tc r) :=
  after_of_writes_sub _ V (forall_writes_sub_of_map (W := slice_W.drop p) (by rw [List.map_drop, List.map_drop, map_writes])) h

theorem after_two (l₁ l₂ : List (HloOp τ sig (Elt Ideal))) (V : Valuation τ sig (Elt Ideal)) : after (l₁ ++ l₂) V = after l₂ (after l₁ V) := by
  induction l₁ generalizing V with
  | nil => rfl
  | cons op l ih => exact ih _

/-- What the stretch at position `p` leaves in a buffer that no later one writes. -/
theorem slices_mid (V : Valuation τ sig (Elt Ideal)) (p : ℕ) (r : Ref sig .tc) (h : r ∉ slice_W.drop (p + 4)) :
    sliced V (Proc.devRef .tc r) = after ((sliceOps.drop p).take 4) (after (sliceOps.take p) V) (Proc.devRef .tc r) := by
  rw [sliced_eq]
  refine Eq.trans (congrFun ?_ _) (slices_after (after ((sliceOps.drop p).take 4) (after (sliceOps.take p) V)) (p + 4) r h)
  rw [← after_two, ← after_two]
  refine congrArg (after · V) ?_
  rw [← List.drop_drop, List.take_append_drop, List.take_append_drop]

/-- A buffer that a stretch leaves is the layer's matrix of the stacked array, at trip `j`. -/
theorem row_of (p : ℕ) {n m : ℕ} {e : EltTy} (x : TRef sig ⟨⟨3, ![6, n, m]⟩, e⟩) (a b : TRef sig ⟨S_, .i32⟩) (v : TRef sig ⟨⟨3, ![1, n, m]⟩, e⟩) (y : TRef sig ⟨⟨2, ![n, m]⟩, e⟩)
    (hs : Shape.Slices ⟨3, ![6, n, m]⟩ (fun _ => 0) ⟨3, ![1, n, m]⟩) (hc : Shape.ShapeCasts ⟨3, ![1, n, m]⟩ ⟨2, ![n, m]⟩)
    (hop : ((sliceOps : List (HloOp τ sig (Elt Ideal))).drop p).take 4 = [TRef.nullary a (constantI S_ 32 0#32), TRef.nullary b (constantI S_ 32 0#32),
      TRef.unaryIndexed x ![.of main_v17_12, a, b] v (fun x i => Host.dynamicSlice ⟨3, ![1, n, m]⟩ x (fun k => (i k (Shape.Idx.first h_S_)).toInt) hs),
      TRef.reshape v y rfl hc])
    (hd : main_v17_12 ≠ a.ref ∧ main_v17_12 ≠ b.ref ∧ a.ref ≠ b.ref ∧ x.ref ≠ a.ref ∧ x.ref ≠ b.ref ∧ y.ref ∉ slice_W.drop (p + 4) ∧ x.ref ∉ slice_W.take p ∧ main_v17_12 ∉ slice_W.take p)
    (V : Valuation τ sig (Elt Ideal)) (j : Fin 6) (h : V (Proc.devRef .tc main_v17_12) = fun _ => BitVec.ofNat 32 j.val) (c : Fin n) (k : Fin m) :
    y.ofBuf (sliced V (Proc.devRef .tc y.ref)) (ix2 c k) = x.ofBuf (V (Proc.devRef .tc x.ref)) (ix3 j c k) := by
  obtain ⟨h1, h2, h3, h4, h5, h6, h7, h8⟩ := hd
  rw [slices_mid V p y.ref h6, hop, ← slices_before V p x.ref h7]
  exact slice_line x (.of main_v17_12) a b v y hs hc h1 h2 h3 h4 h5 _ j ((slices_before V p main_v17_12 h8).trans h) c k

/-- A layer's parameters are known from their entries. -/
theorem kpar_eq {wqkv : S2304x768.Idx → Elt Ideal .bf16} {bqkv : S1x2304.Idx → Elt Ideal .f32} {wo : Vec Ideal S768x768 .bf16} {bo g1 be1 : Vec Ideal S1x768 .f32}
    {w1 : Vec Ideal S2048x768 .bf16} {bf1 : Vec Ideal S1x2048 .f32} {w2 : Vec Ideal S768x2048 .bf16} {bf2 g2 be2 : Vec Ideal S1x768 .f32} {P : Par}
    (h0 : ∀ c k, wqkv (ix2 c k) = P.wqkv c k) (h1 : ∀ k, bqkv (ix2 0 k) = P.bqkv k)    (h2 : ∀ c k, wo (ix2 c k) = P.wo c k)    (h3 : ∀ k, bo (ix2 0 k) = P.bo k)
    (h4 : ∀ k, g1 (ix2 0 k) = P.g1 k)    (h5 : ∀ k, be1 (ix2 0 k) = P.be1 k)    (h6 : ∀ c k, w1 (ix2 c k) = P.w1 c k)    (h7 : ∀ k, bf1 (ix2 0 k) = P.bf1 k)
    (h8 : ∀ c k, w2 (ix2 c k) = P.w2 c k)    (h9 : ∀ k, bf2 (ix2 0 k) = P.bf2 k)    (h10 : ∀ k, g2 (ix2 0 k) = P.g2 k)    (h11 : ∀ k, be2 (ix2 0 k) = P.be2 k) :
    kpar wqkv bqkv wo bo g1 be1 w1 bf1 w2 bf2 g2 be2 = P := by
  cases P
  simp only at h0 h1 h2 h3 h4 h5 h6 h7 h8 h9 h10 h11
  simp only [kpar, h0, h1, h2, h3, h4, h5, h6, h7, h8, h9, h10, h11]

set_option maxHeartbeats 1000000 in
/-- The layer's weights after a trip's slices are row `j` of the stacked ones. -/
theorem wpar_sliced (V : Valuation τ sig (Elt Ideal)) (j : Fin 6) (h : V (Proc.devRef .tc main_v17_12) = fun _ => BitVec.ofNat 32 j.val) :
    wpar (sliced V) = ⟨fun c k => V main_v17_0 (ix3 j c k), fun c => V main_v17_1 (ix3 j 0 c), fun c k => V main_v17_2 (ix3 j c k), fun c => V main_v17_3 (ix3 j 0 c),
      fun c => V main_v17_4 (ix3 j 0 c), fun c => V main_v17_5 (ix3 j 0 c), fun c k => V main_v17_6 (ix3 j c k), fun c => V main_v17_7 (ix3 j 0 c),
      fun c k => V main_v17_8 (ix3 j c k), fun c => V main_v17_9 (ix3 j 0 c), fun c => V main_v17_10 (ix3 j 0 c), fun c => V main_v17_11 (ix3 j 0 c)⟩ := by
  exact kpar_eq
    (fun c k => row_of 0 (n := 2304) (m := 768) (e := .bf16) (.of main_v17_0) (.of main_while0b_call0_c) (.of main_while0b_call0_c_0) (.of main_while0b_call0_v0) (.of main_while0b_v19)
      sliceFits_S6x2304x768_S1x2304x768 shapeCasts_S1x2304x768_S2304x768 rfl (by decide) V j h c k)
    (fun k => row_of 4 (n := 1) (m := 2304) (e := .f32) (.of main_v17_1) (.of main_while0b_call1_c) (.of main_while0b_call1_c_0) (.of main_while0b_call1_v0) (.of main_while0b_v20)
      sliceFits_S6x1x2304_S1x1x2304 shapeCasts_S1x1x2304_S1x2304 rfl (by decide) V j h 0 k)
    (fun c k => row_of 8 (n := 768) (m := 768) (e := .bf16) (.of main_v17_2) (.of main_while0b_call2_c) (.of main_while0b_call2_c_0) (.of main_while0b_call2_v0) (.of main_while0b_v21)
      sliceFits_S6x768x768_S1x768x768 shapeCasts_S1x768x768_S768x768 rfl (by decide) V j h c k)
    (fun k => row_of 12 (n := 1) (m := 768) (e := .f32) (.of main_v17_3) (.of main_while0b_call3_c) (.of main_while0b_call3_c_0) (.of main_while0b_call3_v0) (.of main_while0b_v22)
      sliceFits_S6x1x768_S1x1x768 shapeCasts_S1x1x768_S1x768 rfl (by decide) V j h 0 k)
    (fun k => row_of 16 (n := 1) (m := 768) (e := .f32) (.of main_v17_4) (.of main_while0b_call4_c) (.of main_while0b_call4_c_0) (.of main_while0b_call4_v0) (.of main_while0b_v23)
      sliceFits_S6x1x768_S1x1x768 shapeCasts_S1x1x768_S1x768 rfl (by decide) V j h 0 k)
    (fun k => row_of 20 (n := 1) (m := 768) (e := .f32) (.of main_v17_5) (.of main_while0b_call5_c) (.of main_while0b_call5_c_0) (.of main_while0b_call5_v0) (.of main_while0b_v24)
      sliceFits_S6x1x768_S1x1x768 shapeCasts_S1x1x768_S1x768 rfl (by decide) V j h 0 k)
    (fun c k => row_of 24 (n := 2048) (m := 768) (e := .bf16) (.of main_v17_6) (.of main_while0b_call6_c) (.of main_while0b_call6_c_0) (.of main_while0b_call6_v0) (.of main_while0b_v25)
      sliceFits_S6x2048x768_S1x2048x768 shapeCasts_S1x2048x768_S2048x768 rfl (by decide) V j h c k)
    (fun k => row_of 28 (n := 1) (m := 2048) (e := .f32) (.of main_v17_7) (.of main_while0b_call7_c) (.of main_while0b_call7_c_0) (.of main_while0b_call7_v0) (.of main_while0b_v26)
      sliceFits_S6x1x2048_S1x1x2048 shapeCasts_S1x1x2048_S1x2048 rfl (by decide) V j h 0 k)
    (fun c k => row_of 32 (n := 768) (m := 2048) (e := .bf16) (.of main_v17_8) (.of main_while0b_call8_c) (.of main_while0b_call8_c_0) (.of main_while0b_call8_v0) (.of main_while0b_v27)
      sliceFits_S6x768x2048_S1x768x2048 shapeCasts_S1x768x2048_S768x2048 rfl (by decide) V j h c k)
    (fun k => row_of 36 (n := 1) (m := 768) (e := .f32) (.of main_v17_9) (.of main_while0b_call9_c) (.of main_while0b_call9_c_0) (.of main_while0b_call9_v0) (.of main_while0b_v28)
      sliceFits_S6x1x768_S1x1x768 shapeCasts_S1x1x768_S1x768 rfl (by decide) V j h 0 k)
    (fun k => row_of 40 (n := 1) (m := 768) (e := .f32) (.of main_v17_10) (.of main_while0b_call10_c) (.of main_while0b_call10_c_0) (.of main_while0b_call10_v0) (.of main_while0b_v29)
      sliceFits_S6x1x768_S1x1x768 shapeCasts_S1x1x768_S1x768 rfl (by decide) V j h 0 k)
    (fun k => row_of 44 (n := 1) (m := 768) (e := .f32) (.of main_v17_11) (.of main_while0b_call11_c) (.of main_while0b_call11_c_0) (.of main_while0b_call11_v0) (.of main_while0b_v30)
      sliceFits_S6x1x768_S1x1x768 shapeCasts_S1x1x768_S1x768 rfl (by decide) V j h 0 k)

end Cert.Proof.KI
end
-- ==== Proof.Embed.lean ====
module

public import proofs.«01_k».proof.Proof.Spec
public import Idealize.ShloMosaic.Lib.WordCmp

/-!
The embedded tokens as a plain function, and the facts about one-hot rows, table look-ups and frequencies that both programs' embeddings come down to.
-/

@[expose] public section

set_option maxRecDepth 16384

noncomputable section

namespace Cert.Proof.Sp

open Idealize.ShloMosaic

/-- The frequency of a pair of time columns. -/
def freq (i : ℕ) : EReal := ((Real.rpow 10000 (-(i : ℝ) / 256) : ℝ) : EReal) * Ideal.ofBits .f32 0x3EDA1700#32

/-- Column `c` of the time embedding: sine on even columns, cosine on odd ones. -/
def sinu (t : EReal) (c : ℕ) : EReal := if c % 2 = 0 then Ideal.sin (freq (c / 2) * t) else Ideal.cos (freq (c / 2) * t)

/-- The embedded tokens of one sequence: 1024 context rows, each of three embeddings side by side, and 64 prediction rows. -/
def emb (np : Fin 1024 → Fin 64) (t : Fin 1024 → EReal) (nf : Fin 1024 → Fin 360) (P : Fin 64 → Fin 128 → EReal) (T : Fin 360 → Fin 384 → EReal) (pad : Fin 768 → EReal) :
    Fin 1088 → Fin 768 → EReal := fun r c =>
  if h : r.val < 1024 then
    if h1 : c.val < 128 then P (np ⟨r.val, h⟩) ⟨c.val, h1⟩
    else if h2 : c.val < 384 then sinu (t ⟨r.val, h⟩) (c.val - 128)
    else T (nf ⟨r.val, h⟩) ⟨c.val - 384, by omega⟩
  else pad c

/-- A sum that keeps the term whose number is a given word. -/
theorem onehot {k : ℕ} (hk : k < 2 ^ 31) (w : BitVec 32) (n : Fin k) (hw : w = BitVec.ofNat 32 n.val) (f : Fin k → EReal) :
    ∑ x : Fin k, Scalar.select (IntOp.cmpi .eq (BitVec.ofNat 32 x.val) w) (f x) 0 = f n := by
  subst hw
  have hn := n.isLt
  have e : ∀ x : Fin k, Scalar.select (IntOp.cmpi .eq (BitVec.ofNat 32 x.val) (BitVec.ofNat 32 n.val)) (f x) 0 = if x = n then f x else 0 := fun x => by
    have hx := x.isLt
    rw [WordCmp.cmpi_eq_eq, WordCmp.select_decide]
    refine if_congr ⟨fun h => Fin.ext ?_, fun h => by rw [h]⟩ rfl rfl
    have h' := congrArg BitVec.toNat h
    rw [BitVec.toNat_ofNat, BitVec.toNat_ofNat] at h'
    omega
  simp only [e, Finset.sum_ite_eq', Finset.mem_univ, if_true]

/-- A table look-up's dimensions. -/
abbrev rowDims (N C : ℕ) (wf : GatherDims.WF ⟨2, ![N, C]⟩ ⟨3, ![8, 1024, 1]⟩ ⟨3, ![8, 1024, C]⟩ [2] [0] [] [0] [] 2 ![1, C]) :
    GatherDims ⟨2, ![N, C]⟩ ⟨3, ![8, 1024, 1]⟩ ⟨3, ![8, 1024, C]⟩ where
  offsetDims := [2]
  collapsedSliceDims := [0]
  operandBatchingDims := []
  startIndicesBatchingDims := []
  startIndexMap := [0]
  indexVectorDim := 2
  sliceSizes := ![1, C]
  wf := wf

/-- A table look-up at an index whose word names a row reads that row. -/
theorem lookup {α : Type} {N C : ℕ} (hN : N < 2 ^ 31) (wf) (x : (⟨2, ![N, C]⟩ : Shape).Idx → α) (idx : IVec ⟨3, ![8, 1024, 1]⟩ 32) (b : Fin 8) (r : Fin 1024) (c : Fin C) (n : Fin N)
    (h : idx (ix3 b r 0) = BitVec.ofNat 32 n.val) : Host.gather (rowDims N C wf) x idx (ix3 b r c) = x (ix2 n c) := by
  have hn := n.isLt
  unfold Host.gather
  refine congrArg x (funext fun a => Fin.ext ?_)
  match a with
  | ⟨0, _⟩ =>
    show (rowDims N C wf).start (ix3 b r c) idx 0 + (rowDims N C wf).batchCoord (ix3 b r c) 0 + (rowDims N C wf).offCoord (ix3 b r c) 0 = n.val
    rw [GatherDims.batchCoord_eq_zero _ _ _ List.not_mem_nil, GatherDims.offCoord_eq_zero _ _ _ fun hk => ((GatherDims.mem_sKept _ _).mp hk).1 (List.mem_singleton.mpr rfl)]
    unfold GatherDims.start
    rw [dif_pos (List.mem_singleton.mpr rfl)]
    have hs : (rowDims N C wf).siIdx (ix3 b r c) ⟨(rowDims N C wf).startIndexMap.idxOf 0, List.idxOf_lt_length_iff.2 (List.mem_singleton.mpr rfl)⟩ = ix3 b r 0 := by
      funext k
      match k with
      | ⟨0, _⟩ => rfl
      | ⟨1, _⟩ => rfl
      | ⟨2, _⟩ => rfl
    have hi : (BitVec.ofNat 32 n.val).toInt = (n.val : Int) := by
      rw [BitVec.toInt_eq_toNat_cond, BitVec.toNat_ofNat, Nat.mod_eq_of_lt (by omega), if_pos (by omega)]
    rw [hs, h, hi]
    show min n.val (N - 1) = n.val
    omega
  | ⟨1, _⟩ =>
    show (rowDims N C wf).start (ix3 b r c) idx 1 + (rowDims N C wf).batchCoord (ix3 b r c) 1 + (rowDims N C wf).offCoord (ix3 b r c) 1 = c.val
    rw [GatherDims.batchCoord_eq_zero _ _ _ List.not_mem_nil]
    unfold GatherDims.start
    rw [dif_neg fun hk => absurd (congrArg Fin.val (List.mem_singleton.mp hk)) Nat.one_ne_zero, Nat.zero_add]
    unfold GatherDims.offCoord
    rw [dif_pos ((GatherDims.mem_sKept _ _).mpr ⟨fun hk => absurd (congrArg Fin.val (List.mem_singleton.mp hk)) Nat.one_ne_zero, List.not_mem_nil⟩)]
    rfl

/-- A power of two with the exponent in units of the logarithm is a power of 10000. -/
theorem freq_exp2 (i : ℕ) :
    Real.rpow 2 ((i : ℝ) * ((-(Real.log 10000 * (Real.log 2)⁻¹)) * (1 / 256))) = Real.rpow 10000 (-(i : ℝ) / 256) := by
  have h2 : Real.log 2 ≠ 0 := (Real.log_pos (by norm_num)).ne'
  rw [Real.rpow_eq_pow, Real.rpow_eq_pow, Real.rpow_def_of_pos (by norm_num), Real.rpow_def_of_pos (by norm_num)]
  congr 1
  field_simp

/-- The sum of the products of two families. -/
def dot {n : ℕ} (x y : Fin n → EReal) : EReal := ∑ k, x k * y k

theorem emb_ext {np : Fin 1024 → Fin 64} {nf : Fin 1024 → Fin 360} {t t' : Fin 1024 → EReal} {P P' : Fin 64 → Fin 128 → EReal} {T T' : Fin 360 → Fin 384 → EReal} {p p' : Fin 768 → EReal}
    (ht : ∀ r, t r = t' r) (hP : ∀ n k, P n k = P' n k) (hT : ∀ n k, T n k = T' n k) (hp : ∀ k, p k = p' k) (r : Fin 1088) (c : Fin 768) :
    emb np t nf P T p r c = emb np t' nf P' T' p' r c := by
  obtain rfl : t = t' := funext ht
  obtain rfl : P = P' := funext fun n => funext (hP n)
  obtain rfl : T = T' := funext fun n => funext (hT n)
  obtain rfl : p = p' := funext hp
  rfl

end Cert.Proof.Sp
end
-- ==== Proof.KEmbed.lean ====
module

public import proofs.«01_k».proof.Proof.Embed
public import proofs.«01_k».proof.Proof.TileAt
public import proofs.«01_k».proof.Proof.EmbedHead

/-!
What the embedding kernel writes, and what the head kernel writes, at an index.
-/

@[expose] public section

set_option maxRecDepth 16384

noncomputable section

namespace Cert.Proof.KI

open Idealize.ShloMosaic Cert.KernelIdeal Cert.KernelIdeal.Gen Cert.Proof.Sp

theorem pay04_at (A : Vec Ideal S1x1x1024 .i32) (P : Vec Ideal S64x128 .f32) (r : Fin 1024) (c : Fin 128) (n : Fin 64) (h : A (ix3 0 0 r) = BitVec.ofNat 32 n.val) :
    k0_pay4 A P (ix3 0 r c) = P (ix2 n c) := by
  pointwise [k0_pay4]
  exact onehot (by norm_num) _ n h fun x => P (ix2 x c)

theorem pay02_at (A : Vec Ideal S1x1x1024 .i32) (P : Vec Ideal S360x384 .f32) (r : Fin 1024) (c : Fin 384) (n : Fin 360) (h : A (ix3 0 0 r) = BitVec.ofNat 32 n.val) :
    k0_pay2 A P (ix3 0 r c) = P (ix2 n c) := by
  pointwise [k0_pay2]
  exact onehot (by norm_num) _ n h fun x => P (ix2 x c)

theorem pay03_at (A : Vec Ideal S1x768 .f32) (r : Fin 64) (c : Fin 768) : k0_pay3 A (ix3 0 r c) = A (ix2 0 c) := by
  pointwise [k0_pay3]

/-- The halved row number, and its parity. -/
theorem half_word (x : Fin 256) : IntOp.shrsi .vector (BitVec.ofNat 32 x.val) 1#32 = BitVec.ofNat 32 (x.val / 2) := by
  revert x; decide
theorem odd_word (x : Fin 256) : IntOp.andi (BitVec.ofNat 32 x.val) 1#32 = BitVec.ofNat 32 (x.val % 2) := by
  revert x; decide

/-- The kernel's frequency. -/
theorem freq_word (i : ℕ) (hi : i < 128) : FloatOps.exp2 (FloatOps.sitofp (F := Ideal) .f32 (BitVec.ofNat 32 i) * Named.named (F := Ideal) κ "freq" (φ := .f32) 3176438392#32) * Ideal.ofBits .f32 1054480128#32 = freq i := by
  rw [show Named.named (F := Ideal) κ "freq" (φ := .f32) 3176438392#32 = (((-(Real.log 10000 * (Real.log 2)⁻¹)) * (1 / 256) : ℝ) : EReal) from IdealRules.named_const.ideal_named_scalar _ _ _ _ rfl]
  have hs : FloatOps.sitofp (F := Ideal) .f32 (BitVec.ofNat 32 i) = ((i : ℝ) : EReal) := by
    show (((BitVec.ofNat 32 i).toInt : ℝ) : EReal) = _
    rw [show (BitVec.ofNat 32 i).toInt = (i : Int) from by rw [BitVec.toInt_eq_toNat_cond, BitVec.toNat_ofNat]; omega]
    norm_cast
  rw [hs, ← EReal.coe_mul]
  exact congrArg (fun t : ℝ => (t : EReal) * _) (freq_exp2 i)

theorem pay01_at (A : Vec Ideal S1x1x1024 .f32) (r : Fin 1024) (c : Fin 256) :
    k0_pay1 (k0_pay5 A) k0_pay6 (Scalar.ofBits .f32 0x00000000#32) k0_pay7 (ix3 0 r c) = sinu (A (ix3 0 0 r)) c.val := by
  have hc := c.isLt
  pointwise [k0_pay1, k0_pay5, k0_pay6, k0_pay7]
  rw [onehot (by norm_num) _ c rfl, half_word, odd_word, freq_word _ (by omega)]
  unfold sinu
  rw [WordCmp.cmpi_eq_eq, WordCmp.select_decide]
  refine if_congr ⟨fun h => ?_, fun h => by rw [h]⟩ rfl rfl
  have h' := congrArg BitVec.toNat h
  rw [BitVec.toNat_ofNat] at h'
  change _ = 0 at h'
  omega

/-- The kernel's embedded tokens. -/
theorem embedV_at (A1 : Vec Ideal S1x1x1024 .i32) (A2 : Vec Ideal S1x1x1024 .f32) (A3 : Vec Ideal S1x1x1024 .i32) (A4 : Vec Ideal S64x128 .f32) (A5 : Vec Ideal S360x384 .f32) (A6 : Vec Ideal S1x768 .f32)
    (np : Fin 1024 → Fin 64) (nf : Fin 1024 → Fin 360) (h1 : ∀ r, A1 (ix3 0 0 r) = BitVec.ofNat 32 (np r).val) (h3 : ∀ r, A3 (ix3 0 0 r) = BitVec.ofNat 32 (nf r).val)
    (r : Fin 1088) (c : Fin 768) :
    embedV A1 A2 A3 A4 A5 A6 (ix3 0 r c) = emb np (fun r => A2 (ix3 0 0 r)) nf (fun n c => A4 (ix2 n c)) (fun n c => A5 (ix2 n c)) (fun c => A6 (ix2 0 c)) r c := by
  have hr := r.isLt
  have hc := c.isLt
  unfold embedV emb
  show (if r.val < 1024 then
      if c.val < 128 then k0_pay4 A1 A4 (at' S1x1024x128 ![0, r.val, c.val])
      else if c.val < 384 then k0_pay1 (F := Ideal) (k0_pay5 A2) k0_pay6 (Scalar.ofBits .f32 0x00000000#32) k0_pay7 (at' S1x1024x256 ![0, r.val, c.val - 128])
      else k0_pay2 A3 A5 (at' S1x1024x384 ![0, r.val, c.val - 384])
    else k0_pay3 A6 (at' S1x64x768 ![0, r.val - 1024, c.val])) = _
  by_cases h : r.val < 1024
  · rw [if_pos h, dif_pos h]
    by_cases hc1 : c.val < 128
    · rw [if_pos hc1, dif_pos hc1, at'_ix3 0 r.val c.val (by omega) h hc1]
      exact pay04_at A1 A4 ⟨r.val, h⟩ ⟨c.val, hc1⟩ _ (h1 _)
    · rw [if_neg hc1, dif_neg hc1]
      by_cases hc2 : c.val < 384
      · rw [if_pos hc2, dif_pos hc2, at'_ix3 0 r.val (c.val - 128) (by omega) h (by omega)]
        exact pay01_at A2 ⟨r.val, h⟩ ⟨c.val - 128, by omega⟩
      · rw [if_neg hc2, dif_neg hc2, at'_ix3 0 r.val (c.val - 384) (by omega) h (by omega)]
        exact pay02_at A3 A5 ⟨r.val, h⟩ ⟨c.val - 384, by omega⟩ _ (h3 _)
  · rw [if_neg h, dif_neg h, at'_ix3 0 (r.val - 1024) c.val (by omega) (by omega) hc]
    exact pay03_at A6 _ _

/-! ## The heads -/

theorem pay22_at (x : Vec Ideal S1x64x768 .f32) (T : Vec Ideal S64x128 .f32) (r : Fin 64) (c : Fin 64) :
    k2_pay2 x T (ix3 0 r c) = ∑ k : Fin 128, x (ix3 0 r ⟨k.val, by omega⟩) * T (ix2 c k) := by
  pointwise [k2_pay2, k2_pay1]
theorem pay23_at (x : Vec Ideal S1x64x768 .f32) (T : Vec Ideal S601x256 .f32) (r : Fin 64) (c : Fin 601) :
    k2_pay3 x T (ix3 0 r c) = ∑ k : Fin 256, x (ix3 0 r ⟨128 + k.val, by omega⟩) * T (ix2 c k) := by
  pointwise [k2_pay3, k2_pay1]
theorem pay24_at (x : Vec Ideal S1x64x768 .f32) (T : Vec Ideal S360x384 .f32) (r : Fin 64) (c : Fin 360) :
    k2_pay4 x T (ix3 0 r c) = ∑ k : Fin 384, x (ix3 0 r ⟨384 + k.val, by omega⟩) * T (ix2 c k) := by
  pointwise [k2_pay4, k2_pay1]

end Cert.Proof.KI
end
-- ==== Proof.Value0.lean ====
module

public import proofs.«01_k».proof.Proof.Loop
public import proofs.«01_k».proof.Proof.KEmbed
public import Idealize.ShloMosaic.Lib.Pipeline.ValueKit

/-!
The embedding launch's result: the array of embedded tokens, at an index.
-/

@[expose] public section

set_option maxRecDepth 16384

noncomputable section

namespace Cert.Proof.KI

open Idealize.ShloMosaic Idealize.ShloMosaic.TcCoe Cert.KernelIdeal Cert.KernelIdeal.Gen Cert.Proof.Sp
open Idealize.ShloMosaic.Pipeline (Dat Cfg afterRegion)

/-- Point `b` of the embedding launch's grid. -/
abbrev pt0 (b : Fin 8) : Fin cfg0.N := ⟨b.val, by show _ < grid0.N; rw [Gen.N_0]; exact b.isLt⟩

theorem ix0_6 : ∀ t : Fin cfg0.N, win0_6.index t = ![t.val, 0, 0] := (by decide +kernel : ∀ t : Fin grid0.N, _)
theorem ix0_0 : ∀ t : Fin cfg0.N, win0_0.index t = ![t.val, 0, 0] := (by decide +kernel : ∀ t : Fin grid0.N, _)
theorem ix0_1 : ∀ t : Fin cfg0.N, win0_1.index t = ![t.val, 0, 0] := (by decide +kernel : ∀ t : Fin grid0.N, _)
theorem ix0_2 : ∀ t : Fin cfg0.N, win0_2.index t = ![t.val, 0, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![0, 0] := (by decide +kernel : ∀ t : Fin grid0.N, _)
theorem ix0_5 : ∀ t : Fin cfg0.N, win0_5.index t = ![0, 0] := (by decide +kernel : ∀ t : Fin grid0.N, _)

variable (V : Valuation τ sig (Elt Ideal))

theorem blk0_0 (b : Fin 8) (r : Fin 1024) : blk0 V 0 (pt0 b) (ix3 0 0 r) = V main_v0 (ix3 b 0 r) := by
  show V main_v0 ((win0_0.blk (pt0 b)).view.emb _) = _
  refine congrArg _ ?_
  blk_ext [ix0_0]
theorem blk0_1 (b : Fin 8) (r : Fin 1024) : blk0 V 1 (pt0 b) (ix3 0 0 r) = V main_v2 (ix3 b 0 r) := by
  show V main_v2 ((win0_1.blk (pt0 b)).view.emb _) = _
  refine congrArg _ ?_
  blk_ext [ix0_1]
theorem blk0_2 (b : Fin 8) (r : Fin 1024) : blk0 V 2 (pt0 b) (ix3 0 0 r) = V main_v1 (ix3 b 0 r) := by
  show V main_v1 ((win0_2.blk (pt0 b)).view.emb _) = _
  refine congrArg _ ?_
  blk_ext [ix0_2]
theorem blk0_3 (b : Fin 8) (r : Fin 64) (k : Fin 128) : blk0 V 3 (pt0 b) (ix2 r k) = V main_arg3 (ix2 r k) := by
  show V main_arg3 ((win0_3.blk (pt0 b)).view.emb _) = _
  refine congrArg _ ?_
  blk_ext [ix0_3]
theorem blk0_4 (b : Fin 8) (r : Fin 360) (k : Fin 384) : blk0 V 4 (pt0 b) (ix2 r k) = V main_arg5 (ix2 r k) := by
  show V main_arg5 ((win0_4.blk (pt0 b)).view.emb _) = _
  refine congrArg _ ?_
  blk_ext [ix0_4]
theorem blk0_5 (b : Fin 8) (k : Fin 768) : blk0 V 5 (pt0 b) (ix2 0 k) = V main_v3 (ix2 0 k) := by
  show V main_v3 ((win0_5.blk (pt0 b)).view.emb _) = _
  refine congrArg _ ?_
  blk_ext [ix0_5]

/-- The launch's result is what its grid points wrote. -/
theorem nx0_arr (V : Vals Ideal) (c : Dev nD) : nx 0 V c main_v4 = fun i => (dat0 (V c) c).after 6 (pt0 (i 0)) (ix3 0 (i 1) (i 2)) := by
  refine (Pipeline.afterRegion_arr (dat0 (V c) c) (V c) launch0.win.arr_inj 6).trans ?_
  refine (dat0 (V c) c).arrAt_eq_of_covers 6 _ (by decide +kernel) fun t hf y => ?_
  blk_simp
  have e0 : pt0 (((win0_6.blk t).view.emb y) 0) = t := by
    refine Fin.ext ?_
    have hy := (y 0).isLt
    show (((win0_6.blk t).view.emb y) 0).val = t.val
    blk_simp [ix0_6]
  show _ = (dat0 (V c) c).after 6 (pt0 (((win0_6.blk t).view.emb y) 0)) (ix3 0 (((win0_6.blk t).view.emb y) 1) (((win0_6.blk t).view.emb y) 2))
  rw [e0]
  refine congrArg _ ?_
  blk_ext [ix0_6]

/-- The embedded tokens. -/
theorem nx0_at (V : Vals Ideal) (c : Dev nD) (b : Fin 8) (np : Fin 1024 → Fin 64) (nf : Fin 1024 → Fin 360) (h1 : ∀ r, V c main_v0 (ix3 b 0 r) = BitVec.ofNat 32 (np r).val) (h3 : ∀ r, V c main_v1 (ix3 b 0 r) = BitVec.ofNat 32 (nf r).val)
    (r : Fin 1088) (k : Fin 768) :
    nx 0 V c main_v4 (ix3 b r k) = emb np (fun r => V c main_v2 (ix3 b 0 r)) nf (fun n k => V c main_arg3 (ix2 n k)) (fun n k => V c main_arg5 (ix2 n k)) (fun k => V c main_v3 (ix2 0 k)) r k := by
  rw [nx0_arr]
  refine (embedV_at (blk0 (V c) 0 (pt0 b)) (blk0 (V c) 1 (pt0 b)) (blk0 (V c) 2 (pt0 b)) (blk0 (V c) 3 (pt0 b)) (blk0 (V c) 4 (pt0 b)) (blk0 (V c) 5 (pt0 b)) np nf
    (fun r => (blk0_0 _ b r).trans (h1 r)) (fun r => (blk0_2 _ b r).trans (h3 r)) r k).trans ?_
  simp only [blk0_1, blk0_3, blk0_4, blk0_5]

end Cert.Proof.KI
end
-- ==== Proof.Stream.lean ====
module

public import proofs.«01_k».proof.Proof.SliceLine
public import proofs.«01_k».proof.Proof.Value0

/-!
The stream through the kernel's run, from the arguments: the embedded tokens, then the six layers.
-/

@[expose] public section

set_option maxRecDepth 16384

noncomputable section

namespace Cert.Proof.KI

open Idealize.ShloMosaic Idealize.ShloMosaic.TcCoe Cert.KernelIdeal Cert.KernelIdeal.Gen Cert.Proof.Sp
open Idealize.ShloMosaic.StableHlo

variable (m : (ℓ : Loc nD τ sig) → Buf (Elt Ideal) ℓ) (c : Dev nD)

/-! ## The first host stretch -/

theorem U1_v0 (b : Fin 8) (r : Fin 1024) : U1 m c main_v0 (ix3 b 0 r) = m ((c : Thread nD τ).loc main_arg0) (ix2 b r) := by
  show after hostOps0 (U0 m c) (Proc.devRef .tc main_v0) _ = _
  after_reads_simp
  pointwise []
theorem U1_v1 (b : Fin 8) (r : Fin 1024) : U1 m c main_v1 (ix3 b 0 r) = m ((c : Thread nD τ).loc main_arg2) (ix2 b r) := by
  show after hostOps0 (U0 m c) (Proc.devRef .tc main_v1) _ = _
  after_reads_simp
  pointwise []
theorem U1_v2 (b : Fin 8) (r : Fin 1024) : U1 m c main_v2 (ix3 b 0 r) = m ((c : Thread nD τ).loc main_arg1) (ix2 b r) := by
  show after hostOps0 (U0 m c) (Proc.devRef .tc main_v2) _ = _
  after_reads_simp
  pointwise []
theorem U1_v3 (k : Fin 768) : U1 m c main_v3 (ix2 0 k) = m ((c : Thread nD τ).loc main_arg6) (ix1 k) := by
  show after hostOps0 (U0 m c) (Proc.devRef .tc main_v3) _ = _
  after_reads_simp
  pointwise []
abbrev host0_W : List (Ref sig .tc) := [main_v0, main_v1, main_v2, main_v3]
theorem U1_of (r : Ref sig .tc) (h : r ∉ host0_W) : U1 m c (Proc.devRef .tc r) = m ((c : Thread nD τ).loc r) :=
  after_of_writes_sub hostOps0 (U0 m c) (forall_writes_sub_of_map (W := host0_W) rfl) h
theorem U2_of (r : Ref sig .tc) (h : r ∉ host0_W) (h' : r ≠ main_v4) : U2 m c (Proc.devRef .tc r) = m ((c : Thread nD τ).loc r) :=
  (nx0_of _ c r h').trans (U1_of m c r h)

/-! ## The second: the stacked weights and the stream as the loop finds them -/

theorem U3_x : U3 m c main_v17_13 = U2 m c main_v4 := by
  show after hostOps1 (U2 m c) (Proc.devRef .tc main_v17_13) = _
  after_reads_simp
  rfl
theorem U3_0 (j : Fin 6) (n : Fin 2304) (k : Fin 768) : U3 m c main_v17_0 (ix3 j n k) = m ((c : Thread nD τ).loc main_arg7) (ix3 j n k) := by
  show after hostOps1 (U2 m c) (Proc.devRef .tc main_v17_0) _ = _
  after_reads_simp
  rw [show U2 m c (Proc.devRef .tc main_arg7) = m ((c : Thread nD τ).loc main_arg7) from U2_of m c main_arg7 (by decide) (by decide)]
  pointwise []
  rfl
theorem U3_1 (j : Fin 6) (k : Fin 2304) : U3 m c main_v17_1 (ix3 j 0 k) = m ((c : Thread nD τ).loc main_arg8) (ix2 j k) := by
  show after hostOps1 (U2 m c) (Proc.devRef .tc main_v17_1) _ = _
  after_reads_simp
  rw [show U2 m c (Proc.devRef .tc main_arg8) = m ((c : Thread nD τ).loc main_arg8) from U2_of m c main_arg8 (by decide) (by decide)]
  pointwise []
  rfl
theorem U3_2 (j : Fin 6) (n : Fin 768) (k : Fin 768) : U3 m c main_v17_2 (ix3 j n k) = m ((c : Thread nD τ).loc main_arg9) (ix3 j n k) := by
  show after hostOps1 (U2 m c) (Proc.devRef .tc main_v17_2) _ = _
  after_reads_simp
  rw [show U2 m c (Proc.devRef .tc main_arg9) = m ((c : Thread nD τ).loc main_arg9) from U2_of m c main_arg9 (by decide) (by decide)]
  pointwise []
  rfl
theorem U3_3 (j : Fin 6) (k : Fin 768) : U3 m c main_v17_3 (ix3 j 0 k) = m ((c : Thread nD τ).loc main_arg10) (ix2 j k) := by
  show after hostOps1 (U2 m c) (Proc.devRef .tc main_v17_3) _ = _
  after_reads_simp
  rw [show U2 m c (Proc.devRef .tc main_arg10) = m ((c : Thread nD τ).loc main_arg10) from U2_of m c main_arg10 (by decide) (by decide)]
  pointwise []
  rfl
theorem U3_4 (j : Fin 6) (k : Fin 768) : U3 m c main_v17_4 (ix3 j 0 k) = m ((c : Thread nD τ).loc main_arg11) (ix2 j k) := by
  show after hostOps1 (U2 m c) (Proc.devRef .tc main_v17_4) _ = _
  after_reads_simp
  rw [show U2 m c (Proc.devRef .tc main_arg11) = m ((c : Thread nD τ).loc main_arg11) from U2_of m c main_arg11 (by decide) (by decide)]
  pointwise []
  rfl
theorem U3_5 (j : Fin 6) (k : Fin 768) : U3 m c main_v17_5 (ix3 j 0 k) = m ((c : Thread nD τ).loc main_arg12) (ix2 j k) := by
  show after hostOps1 (U2 m c) (Proc.devRef .tc main_v17_5) _ = _
  after_reads_simp
  rw [show U2 m c (Proc.devRef .tc main_arg12) = m ((c : Thread nD τ).loc main_arg12) from U2_of m c main_arg12 (by decide) (by decide)]
  pointwise []
  rfl
theorem U3_6 (j : Fin 6) (n : Fin 2048) (k : Fin 768) : U3 m c main_v17_6 (ix3 j n k) = m ((c : Thread nD τ).loc main_arg13) (ix3 j n k) := by
  show after hostOps1 (U2 m c) (Proc.devRef .tc main_v17_6) _ = _
  after_reads_simp
  rw [show U2 m c (Proc.devRef .tc main_arg13) = m ((c : Thread nD τ).loc main_arg13) from U2_of m c main_arg13 (by decide) (by decide)]
  pointwise []
  rfl
theorem U3_7 (j : Fin 6) (k : Fin 2048) : U3 m c main_v17_7 (ix3 j 0 k) = m ((c : Thread nD τ).loc main_arg14) (ix2 j k) := by
  show after hostOps1 (U2 m c) (Proc.devRef .tc main_v17_7) _ = _
  after_reads_simp
  rw [show U2 m c (Proc.devRef .tc main_arg14) = m ((c : Thread nD τ).loc main_arg14) from U2_of m c main_arg14 (by decide) (by decide)]
  pointwise []
  rfl
theorem U3_8 (j : Fin 6) (n : Fin 768) (k : Fin 2048) : U3 m c main_v17_8 (ix3 j n k) = m ((c : Thread nD τ).loc main_arg15) (ix3 j n k) := by
  show after hostOps1 (U2 m c) (Proc.devRef .tc main_v17_8) _ = _
  after_reads_simp
  rw [show U2 m c (Proc.devRef .tc main_arg15) = m ((c : Thread nD τ).loc main_arg15) from U2_of m c main_arg15 (by decide) (by decide)]
  pointwise []
  rfl
theorem U3_9 (j : Fin 6) (k : Fin 768) : U3 m c main_v17_9 (ix3 j 0 k) = m ((c : Thread nD τ).loc main_arg16) (ix2 j k) := by
  show after hostOps1 (U2 m c) (Proc.devRef .tc main_v17_9) _ = _
  after_reads_simp
  rw [show U2 m c (Proc.devRef .tc main_arg16) = m ((c : Thread nD τ).loc main_arg16) from U2_of m c main_arg16 (by decide) (by decide)]
  pointwise []
  rfl
theorem U3_10 (j : Fin 6) (k : Fin 768) : U3 m c main_v17_10 (ix3 j 0 k) = m ((c : Thread nD τ).loc main_arg17) (ix2 j k) := by
  show after hostOps1 (U2 m c) (Proc.devRef .tc main_v17_10) _ = _
  after_reads_simp
  rw [show U2 m c (Proc.devRef .tc main_arg17) = m ((c : Thread nD τ).loc main_arg17) from U2_of m c main_arg17 (by decide) (by decide)]
  pointwise []
  rfl
theorem U3_11 (j : Fin 6) (k : Fin 768) : U3 m c main_v17_11 (ix3 j 0 k) = m ((c : Thread nD τ).loc main_arg18) (ix2 j k) := by
  show after hostOps1 (U2 m c) (Proc.devRef .tc main_v17_11) _ = _
  after_reads_simp
  rw [show U2 m c (Proc.devRef .tc main_arg18) = m ((c : Thread nD τ).loc main_arg18) from U2_of m c main_arg18 (by decide) (by decide)]
  pointwise []
  rfl

/-- Layer `j`'s parameters, from the arguments. -/
def argPar (j : Fin 6) : Par :=
  ⟨fun n k => m ((c : Thread nD τ).loc main_arg7) (ix3 j n k), fun k => m ((c : Thread nD τ).loc main_arg8) (ix2 j k), fun n k => m ((c : Thread nD τ).loc main_arg9) (ix3 j n k), fun k => m ((c : Thread nD τ).loc main_arg10) (ix2 j k),
    fun k => m ((c : Thread nD τ).loc main_arg11) (ix2 j k), fun k => m ((c : Thread nD τ).loc main_arg12) (ix2 j k), fun n k => m ((c : Thread nD τ).loc main_arg13) (ix3 j n k), fun k => m ((c : Thread nD τ).loc main_arg14) (ix2 j k),
    fun n k => m ((c : Thread nD τ).loc main_arg15) (ix3 j n k), fun k => m ((c : Thread nD τ).loc main_arg16) (ix2 j k), fun k => m ((c : Thread nD τ).loc main_arg17) (ix2 j k), fun k => m ((c : Thread nD τ).loc main_arg18) (ix2 j k)⟩

/-! ## The loop -/

/-- The contents with which trip `j`'s launch is entered. -/
theorem wpar_trip (j : Fin 6) : wpar (sliced (after condOps (Uk m j.val c))) = argPar m c j := by
  have hctr : after condOps (Uk m j.val c) (Proc.devRef .tc main_v17_12) = fun _ => BitVec.ofNat 32 j.val := by
    refine (cond_of _ main_v17_12 (by decide)).trans ((ctr_at m c j.val).trans ?_)
    funext _
    revert j; decide
  have hk : ∀ r : Ref sig .tc, r ∉ condOps_W ++ trip_W → after condOps (Uk m j.val c) (Proc.devRef .tc r) = U3 m c (Proc.devRef .tc r) := fun r h =>
    (cond_of _ r fun e => h (List.mem_append_left _ e)).trans (Uk_of m c r h j.val)
  rw [wpar_sliced _ j hctr]
  exact par_ext (fun n k => (congrFun (hk main_v17_0 (by decide)) _).trans (U3_0 m c j n k)) (fun k => (congrFun (hk main_v17_1 (by decide)) _).trans (U3_1 m c j k)) (fun n k => (congrFun (hk main_v17_2 (by decide)) _).trans (U3_2 m c j n k))
    (fun k => (congrFun (hk main_v17_3 (by decide)) _).trans (U3_3 m c j k)) (fun k => (congrFun (hk main_v17_4 (by decide)) _).trans (U3_4 m c j k)) (fun k => (congrFun (hk main_v17_5 (by decide)) _).trans (U3_5 m c j k))
    (fun n k => (congrFun (hk main_v17_6 (by decide)) _).trans (U3_6 m c j n k)) (fun k => (congrFun (hk main_v17_7 (by decide)) _).trans (U3_7 m c j k)) (fun n k => (congrFun (hk main_v17_8 (by decide)) _).trans (U3_8 m c j n k))
    (fun k => (congrFun (hk main_v17_9 (by decide)) _).trans (U3_9 m c j k)) (fun k => (congrFun (hk main_v17_10 (by decide)) _).trans (U3_10 m c j k)) (fun k => (congrFun (hk main_v17_11 (by decide)) _).trans (U3_11 m c j k))

/-- The stream before trip `k`, for batch row `b`. -/
def stream (k : ℕ) (b : Fin 8) : Fin 1088 → Fin 768 → EReal := fun r n => Uk m k c main_v17_13 (ix3 b r n)

theorem stream_succ (j : Fin 6) (b : Fin 8) : stream m c (j.val + 1) b = layer (argPar m c j) (stream m c j.val b) := by
  funext r n
  unfold stream
  rw [Uk_succ]
  show after while0Ops1 (nx 1 (fun c => sliced (after condOps (Uk m j.val c))) c) (Proc.devRef .tc main_v17_13) _ = _
  after_reads_simp
  refine (nx1_at _ c b r n).trans ?_
  rw [wpar_trip]
  refine congrArg (fun X => layer (argPar m c j) X r n) (funext fun r => funext fun n => ?_)
  exact congrFun ((sliced_of _ main_v17_13 (by decide)).trans (cond_of _ main_v17_13 (by decide))) _

theorem stream_zero (b : Fin 8) (np : Fin 1024 → Fin 64) (nf : Fin 1024 → Fin 360) (h0 : ∀ r, m ((c : Thread nD τ).loc main_arg0) (ix2 b r) = BitVec.ofNat 32 (np r).val) (h2 : ∀ r, m ((c : Thread nD τ).loc main_arg2) (ix2 b r) = BitVec.ofNat 32 (nf r).val) :
    stream m c 0 b = emb np (fun r => m ((c : Thread nD τ).loc main_arg1) (ix2 b r)) nf (fun n k => m ((c : Thread nD τ).loc main_arg3) (ix2 n k)) (fun n k => m ((c : Thread nD τ).loc main_arg5) (ix2 n k)) (fun k => m ((c : Thread nD τ).loc main_arg6) (ix1 k)) := by
  funext r n
  unfold stream
  rw [Uk_zero, U3_x]
  refine (nx0_at (U1 m) c b np nf (fun r => (U1_v0 m c b r).trans (h0 r)) (fun r => (U1_v1 m c b r).trans (h2 r)) r n).trans ?_
  exact emb_ext (fun r => U1_v2 m c b r) (fun n k => congrFun (U1_of m c main_arg3 (by decide)) _) (fun n k => congrFun (U1_of m c main_arg5 (by decide)) _) (fun k => U1_v3 m c k) r n

end Cert.Proof.KI
end
-- ==== Proof.Value2.lean ====
module

public import proofs.«01_k».proof.Proof.Loop
public import proofs.«01_k».proof.Proof.KEmbed
public import Idealize.ShloMosaic.Lib.Pipeline.ValueKit

/-!
The heads' launch: its three results, at an index, from the stream it reads and the three tables.
-/

@[expose] public section

set_option maxRecDepth 16384

noncomputable section

namespace Cert.Proof.KI

open Idealize.ShloMosaic Idealize.ShloMosaic.TcCoe Cert.KernelIdeal Cert.KernelIdeal.Gen Cert.Proof.Sp
open Idealize.ShloMosaic.Pipeline (Dat Cfg afterRegion)

/-- Point `b` of the heads' grid. -/
abbrev pt2 (b : Fin 8) : Fin cfg2.N := ⟨b.val, by show _ < grid2.N; rw [Gen.N_2]; exact b.isLt⟩

/-- The stream's last 64 rows are block 16 of blocks of 64 rows. -/
theorem ix2_0 : ∀ t : Fin cfg2.N, win2_0.index t = ![t.val, 16, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![0, 0] := (by decide +kernel : ∀ t : Fin grid2.N, _)
theorem ix2_3 : ∀ t : Fin cfg2.N, win2_3.index t = ![0, 0] := (by decide +kernel : ∀ t : Fin grid2.N, _)
theorem ix2_4 : ∀ t : Fin cfg2.N, win2_4.index t = ![t.val, 0, 0] := (by decide +kernel : ∀ t : Fin grid2.N, _)
theorem ix2_5 : ∀ t : Fin cfg2.N, win2_5.index t = ![t.val, 0, 0] := (by decide +kernel : ∀ t : Fin grid2.N, _)
theorem ix2_6 : ∀ t : Fin cfg2.N, win2_6.index t = ![t.val, 0, 0] := (by decide +kernel : ∀ t : Fin grid2.N, _)

variable (V : Valuation τ sig (Elt Ideal)) (b : Fin 8)

theorem blk2_0 (r : Fin 64) (k : Fin 768) : blk2 V 0 (pt2 b) (ix3 0 r k) = V main_v17_13 (ix3 b ⟨1024 + r.val, by omega⟩ k) := by
  show V main_v17_13 ((win2_0.blk (pt2 b)).view.emb _) = _
  refine congrArg _ ?_
  blk_ext [ix2_0]
theorem blk2_1 (r : Fin 64) (k : Fin 128) : blk2 V 1 (pt2 b) (ix2 r k) = V main_arg3 (ix2 r k) := by
  show V main_arg3 ((win2_1.blk (pt2 b)).view.emb _) = _
  refine congrArg _ ?_
  blk_ext [ix2_1]
theorem blk2_2 (r : Fin 601) (k : Fin 256) : blk2 V 2 (pt2 b) (ix2 r k) = V main_arg4 (ix2 r k) := by
  show V main_arg4 ((win2_2.blk (pt2 b)).view.emb _) = _
  refine congrArg _ ?_
  blk_ext [ix2_2]
theorem blk2_3 (r : Fin 360) (k : Fin 384) : blk2 V 3 (pt2 b) (ix2 r k) = V main_arg5 (ix2 r k) := by
  show V main_arg5 ((win2_3.blk (pt2 b)).view.emb _) = _
  refine congrArg _ ?_
  blk_ext [ix2_3]

theorem nx2_arr1 (V : Vals Ideal) (c : Dev nD) : nx 2 V c main_v18_0 = fun i => (dat2 (V c) c).after 4 (pt2 (i 0)) (ix3 0 (i 1) (i 2)) := by
  refine (Pipeline.afterRegion_arr (dat2 (V c) c) (V c) launch2.win.arr_inj 4).trans ?_
  refine (dat2 (V c) c).arrAt_eq_of_covers 4 _ (by decide +kernel) fun t hf y => ?_
  blk_simp
  have e0 : pt2 (((win2_4.blk t).view.emb y) 0) = t := by
    refine Fin.ext ?_
    have hy := (y 0).isLt
    show (((win2_4.blk t).view.emb y) 0).val = t.val
    blk_simp [ix2_4]
  show _ = (dat2 (V c) c).after 4 (pt2 (((win2_4.blk t).view.emb y) 0)) (ix3 0 (((win2_4.blk t).view.emb y) 1) (((win2_4.blk t).view.emb y) 2))
  rw [e0]
  refine congrArg _ ?_
  blk_ext [ix2_4]
theorem nx2_at1 (V : Vals Ideal) (c : Dev nD) (b : Fin 8) (r : Fin 64) (j : Fin 64) :
    nx 2 V c main_v18_0 (ix3 b r j) = dot (fun k : Fin 128 => V c main_v17_13 (ix3 b ⟨1024 + r.val, by omega⟩ ⟨k.val, by omega⟩)) (fun k => V c main_arg3 (ix2 j k)) := by
  rw [nx2_arr1]
  refine (pay22_at (blk2 (V c) 0 (pt2 b)) (blk2 (V c) 1 (pt2 b)) r j).trans ?_
  simp only [blk2_0, blk2_1]
  rfl

theorem nx2_arr2 (V : Vals Ideal) (c : Dev nD) : nx 2 V c main_v18_1 = fun i => (dat2 (V c) c).after 5 (pt2 (i 0)) (ix3 0 (i 1) (i 2)) := by
  refine (Pipeline.afterRegion_arr (dat2 (V c) c) (V c) launch2.win.arr_inj 5).trans ?_
  refine (dat2 (V c) c).arrAt_eq_of_covers 5 _ (by decide +kernel) fun t hf y => ?_
  blk_simp
  have e0 : pt2 (((win2_5.blk t).view.emb y) 0) = t := by
    refine Fin.ext ?_
    have hy := (y 0).isLt
    show (((win2_5.blk t).view.emb y) 0).val = t.val
    blk_simp [ix2_5]
  show _ = (dat2 (V c) c).after 5 (pt2 (((win2_5.blk t).view.emb y) 0)) (ix3 0 (((win2_5.blk t).view.emb y) 1) (((win2_5.blk t).view.emb y) 2))
  rw [e0]
  refine congrArg _ ?_
  blk_ext [ix2_5]
theorem nx2_at2 (V : Vals Ideal) (c : Dev nD) (b : Fin 8) (r : Fin 64) (j : Fin 601) :
    nx 2 V c main_v18_1 (ix3 b r j) = dot (fun k : Fin 256 => V c main_v17_13 (ix3 b ⟨1024 + r.val, by omega⟩ ⟨128 + k.val, by omega⟩)) (fun k => V c main_arg4 (ix2 j k)) := by
  rw [nx2_arr2]
  refine (pay23_at (blk2 (V c) 0 (pt2 b)) (blk2 (V c) 2 (pt2 b)) r j).trans ?_
  simp only [blk2_0, blk2_2]
  rfl

theorem nx2_arr3 (V : Vals Ideal) (c : Dev nD) : nx 2 V c main_v18_2 = fun i => (dat2 (V c) c).after 6 (pt2 (i 0)) (ix3 0 (i 1) (i 2)) := by
  refine (Pipeline.afterRegion_arr (dat2 (V c) c) (V c) launch2.win.arr_inj 6).trans ?_
  refine (dat2 (V c) c).arrAt_eq_of_covers 6 _ (by decide +kernel) fun t hf y => ?_
  blk_simp
  have e0 : pt2 (((win2_6.blk t).view.emb y) 0) = t := by
    refine Fin.ext ?_
    have hy := (y 0).isLt
    show (((win2_6.blk t).view.emb y) 0).val = t.val
    blk_simp [ix2_6]
  show _ = (dat2 (V c) c).after 6 (pt2 (((win2_6.blk t).view.emb y) 0)) (ix3 0 (((win2_6.blk t).view.emb y) 1) (((win2_6.blk t).view.emb y) 2))
  rw [e0]
  refine congrArg _ ?_
  blk_ext [ix2_6]
theorem nx2_at3 (V : Vals Ideal) (c : Dev nD) (b : Fin 8) (r : Fin 64) (j : Fin 360) :
    nx 2 V c main_v18_2 (ix3 b r j) = dot (fun k : Fin 384 => V c main_v17_13 (ix3 b ⟨1024 + r.val, by omega⟩ ⟨384 + k.val, by omega⟩)) (fun k => V c main_arg5 (ix2 j k)) := by
  rw [nx2_arr3]
  refine (pay24_at (blk2 (V c) 0 (pt2 b)) (blk2 (V c) 3 (pt2 b)) r j).trans ?_
  simp only [blk2_0, blk2_3]
  rfl

end Cert.Proof.KI
end
-- ==== Proof.RefLayer.lean ====
module

public import proofs.«01_k».proof.Proof.Spec
public import proofs.«01_k».proof.Proof.Slices
public import Idealize.ShloMosaic.Lib.WordCmp
public import proofs.«01_k».proof.Proof.Gen.ReferenceIdeal.Step

/-!
One trip of the reference's loop is one encoder layer.
-/

@[expose] public section

set_option maxRecDepth 16384

noncomputable section

namespace Cert.Proof.RI

open Idealize.ShloMosaic Cert.ReferenceIdeal Cert.ReferenceIdeal.Gen Cert.ReferenceIdeal.Step Cert.Proof.Sp

/-! ## The scale and the mask -/

theorem k52 : K_main_v52 (F := Ideal) ix0 = ((1 / 8 : ℝ) : EReal) := by
  pointwise [K_main_v52, K_main_v51, K_main_cst_12, K_main_cst_11]
  have h64 : Ideal.ofBits .f32 0x42800000#32 = ((64 : ℝ) : EReal) := by
    simp [Ideal.ofBits, Ideal.ieee, -EReal.coe_mul]; norm_num
  have hs : Ideal.sqrt ((64 : ℝ) : EReal) = ((8 : ℝ) : EReal) := by
    show (if (64 : ℝ) < 0 then ⊥ else ((Real.sqrt 64 : ℝ) : EReal)) = _
    rw [if_neg (by norm_num)]
    rw [show (64 : ℝ) = 8 * 8 by norm_num, Real.sqrt_mul_self (by norm_num)]
  rw [h64, hs]
  unfold Ideal.div
  rw [if_neg (by exact_mod_cast (by norm_num : (8 : ℝ) ≠ 0)), one_mul, one_div]; rfl

theorem k50 (r x : Fin 1088) : K_main_v50 (F := Ideal) (ix2 r x) = mask r x := by
  have hr := r.isLt
  have hx := x.isLt
  rw [show K_main_v50 (F := Ideal) = K_main_v49 from rfl]
  pointwise [K_main_v49, K_main_v48, K_main_v47, K_main_v46, K_main_v45, K_main_v44, K_main_v43, K_main_v42, K_main_v41, K_main_v40, K_main_c_7, K_main_c_8, K_main_cst_9, K_main_cst_10, K_main_call0_v0, K_main_call0_v1]
  have hi : ∀ n : ℕ, n < 2 ^ 31 → (BitVec.ofNat 32 n).toInt = n := fun n hn => by
    rw [BitVec.toInt_eq_toNat_cond, BitVec.toNat_ofNat]; omega
  rw [WordCmp.cmpi_sgt_eq, WordCmp.cmpi_sge_eq, WordCmp.cmpi_sge_eq, hi _ (by omega), hi _ (by omega), show (1024#32 : BitVec 32).toInt = 1024 from rfl, ninf]
  rw [WordCmp.andi_ofBool, WordCmp.ori_ofBool]
  unfold mask Scalar.select
  by_cases h : x.val ≤ r.val ∧ x.val < 1024
  · rw [if_pos h, if_neg]
    rw [show (1 : BitVec 1) = 1#1 from rfl, WordCmp.ofBool_eq_one_iff, Bool.or_eq_true, Bool.and_eq_true, decide_eq_true_iff, decide_eq_true_iff, decide_eq_true_iff]
    omega
  · rw [if_neg h, if_pos]
    rw [show (1 : BitVec 1) = 1#1 from rfl, WordCmp.ofBool_eq_one_iff, Bool.or_eq_true, Bool.and_eq_true, decide_eq_true_iff, decide_eq_true_iff, decide_eq_true_iff]
    omega

/-! ## A layer's slices of the parameters -/

variable (j : Fin 6) (s : State Ideal)

theorem b3_at (c : Fin 2304) (k : Fin 768) : b3 j.val s (ix2 c k) = s.main_v53_0 (ix3 j c k) := by
  pointwise [b3]
  exact slice3 _ _ _ j (num_toInt j) rfl rfl c k
theorem b10_at (c : Fin 768) (k : Fin 768) : b10 j.val s (ix2 c k) = s.main_v53_2 (ix3 j c k) := by
  pointwise [b10]
  exact slice3 _ _ _ j (num_toInt j) rfl rfl c k
theorem b23_at (c : Fin 2048) (k : Fin 768) : b23 j.val s (ix2 c k) = s.main_v53_6 (ix3 j c k) := by
  pointwise [b23]
  exact slice3 _ _ _ j (num_toInt j) rfl rfl c k
theorem b30_at (c : Fin 768) (k : Fin 2048) : b30 j.val s (ix2 c k) = s.main_v53_8 (ix3 j c k) := by
  pointwise [b30]
  exact slice3 _ _ _ j (num_toInt j) rfl rfl c k
theorem b6_at (c : Fin 2304) : b6 j.val s (ix1 c) = s.main_v53_1 (ix2 j c) := by
  pointwise [b6]
  exact slice2 _ _ _ j (num_toInt j) rfl c
theorem b13_at (c : Fin 768) : b13 j.val s (ix1 c) = s.main_v53_3 (ix2 j c) := by
  pointwise [b13]
  exact slice2 _ _ _ j (num_toInt j) rfl c
theorem b16_at (c : Fin 768) : b16 j.val s (ix1 c) = s.main_v53_4 (ix2 j c) := by
  pointwise [b16]
  exact slice2 _ _ _ j (num_toInt j) rfl c
theorem b19_at (c : Fin 768) : b19 j.val s (ix1 c) = s.main_v53_5 (ix2 j c) := by
  pointwise [b19]
  exact slice2 _ _ _ j (num_toInt j) rfl c
theorem b26_at (c : Fin 2048) : b26 j.val s (ix1 c) = s.main_v53_7 (ix2 j c) := by
  pointwise [b26]
  exact slice2 _ _ _ j (num_toInt j) rfl c
theorem b33_at (c : Fin 768) : b33 j.val s (ix1 c) = s.main_v53_9 (ix2 j c) := by
  pointwise [b33]
  exact slice2 _ _ _ j (num_toInt j) rfl c
theorem b36_at (c : Fin 768) : b36 j.val s (ix1 c) = s.main_v53_10 (ix2 j c) := by
  pointwise [b36]
  exact slice2 _ _ _ j (num_toInt j) rfl c
theorem b39_at (c : Fin 768) : b39 j.val s (ix1 c) = s.main_v53_11 (ix2 j c) := by
  pointwise [b39]
  exact slice2 _ _ _ j (num_toInt j) rfl c

/-- Layer `j`'s parameters, from the stacked arrays. -/
def par : Par where
  wqkv c k := s.main_v53_0 (ix3 j c k)
  bqkv c := s.main_v53_1 (ix2 j c)
  wo c k := s.main_v53_2 (ix3 j c k)
  bo c := s.main_v53_3 (ix2 j c)
  g1 c := s.main_v53_4 (ix2 j c)
  be1 c := s.main_v53_5 (ix2 j c)
  w1 c k := s.main_v53_6 (ix3 j c k)
  bf1 c := s.main_v53_7 (ix2 j c)
  w2 c k := s.main_v53_8 (ix3 j c k)
  bf2 c := s.main_v53_9 (ix2 j c)
  g2 c := s.main_v53_10 (ix2 j c)
  be2 c := s.main_v53_11 (ix2 j c)

/-- Sequence `b` of the state. -/
abbrev X (b : Fin 8) : Fin 1088 → Fin 768 → EReal := fun r c => s.main_v53_15 (ix3 b r c)

/-! ## The layer -/

/-- The packed projection. -/
theorem b44_at (b : Fin 8) (r : Fin 1088) (c : Fin 2304) : b44 j.val s (ix3 b r c) = lin (X s b r) (par j s).wqkv (par j s).bqkv c := by
  pointwise [b44, b43, b42, b41, b40]
  simp only [b3_at, b6_at]
  rfl

/-- The scores. -/
theorem b56_at (b : Fin 8) (h : Fin 12) (r x : Fin 1088) : b56 j.val s (ix4 b h r x) = score (fun r c => b44 j.val s (ix3 b r c)) h r x := by
  pointwise [b45, b46, b48, b49, b51, b52, b53, b54, b55, b56]
  rw [k52, k50]
  refine congrArg (fun t : EReal => t * _ + _) (Finset.sum_congr rfl fun d _ => congrArg₂ (fun u v : Fin 2304 => b44 j.val s (ix3 b r u) * b44 j.val s (ix3 b x v)) (Fin.ext ?_) (Fin.ext ?_))
  · show h.val * 64 + d.val = 768 * 0 + (64 * h.val + d.val); omega
  · show 768 + (h.val * 64 + d.val) = 768 * 1 + (64 * h.val + d.val); omega

/-- The heads. -/
theorem b71_at (b : Fin 8) (h : Fin 12) (d : Fin 64) (r : Fin 1088) : b71 j.val s (ix4 b h d r) = heads (fun r c => b44 j.val s (ix3 b r c)) r h d := by
  pointwise [b47, b50, b57, b58, b59, b60, b61, b62, b63, b64, b65, b66, b67, b68, b69, b70, b71]
  simp only [b56_at]
  refine Finset.sum_congr rfl fun x _ => congrArg (fun u : Fin 2304 => b44 j.val s (ix3 b x u) * _) (Fin.ext ?_)
  show 1536 + (h.val * 64 + d.val) = 768 * 2 + (64 * h.val + d.val); omega

theorem b73_at (b : Fin 8) (r : Fin 1088) (c : Fin 768) :
    b73 j.val s (ix3 b r c) = heads (fun r => lin (X s b r) (par j s).wqkv (par j s).bqkv) r ⟨c.val / 64, by omega⟩ ⟨c.val % 64, by omega⟩ := by
  pointwise [b73, b72]
  rw [b71_at]
  simp only [b44_at]

/-- The rows after the first norm. -/
theorem b79_at (b : Fin 8) (r : Fin 1088) (c : Fin 768) :
    b79 j.val s (ix3 b r c) = X s b r c + lin (fun k => b73 j.val s (ix3 b r k)) (par j s).wo (par j s).bo c := by
  pointwise [b74, b75, b76, b77, b78, b79]
  simp only [b10_at, b13_at]
  rfl
theorem b108_at (b : Fin 8) (r : Fin 1088) (c : Fin 768) :
    b108 j.val s (ix3 b r c) = norm (fun c => b79 j.val s (ix3 b r c)) (par j s).g1 (par j s).be1 c := by
  pointwise [b80, b81, b82, b83, b84, b85, b86, b87, b88, b89, b90, b91, b92, b93, b94, b95, b96, b97, b98, b99, b100, b101, b102, b103, b104, b105, b106, b107, b108]
  simp only [b16_at, b19_at]
  rfl

/-- The rows after the feed-forward. -/
theorem b122_at (b : Fin 8) (r : Fin 1088) (c : Fin 768) :
    b122 j.val s (ix3 b r c) = b108 j.val s (ix3 b r c) +
      lin (fun c => max (lin (fun k => b108 j.val s (ix3 b r k)) (par j s).w1 (par j s).bf1 c) 0) (par j s).w2 (par j s).bf2 c := by
  pointwise [b109, b110, b111, b112, b113, b114, b115, b116, b117, b118, b119, b120, b121, b122]
  simp only [b23_at, b26_at, b30_at, b33_at]
  rfl
theorem b151_at (b : Fin 8) (r : Fin 1088) (c : Fin 768) :
    b151 j.val s (ix3 b r c) = norm (fun c => b122 j.val s (ix3 b r c)) (par j s).g2 (par j s).be2 c := by
  pointwise [b123, b124, b125, b126, b127, b128, b129, b130, b131, b132, b133, b134, b135, b136, b137, b138, b139, b140, b141, b142, b143, b144, b145, b146, b147, b148, b149, b150, b151]
  simp only [b36_at, b39_at]
  rfl

/-- The reference's trip is the layer. -/
theorem step_at (b : Fin 8) (r : Fin 1088) (c : Fin 768) : (step j.val s).main_v53_15 (ix3 b r c) = layer (par j s) (X s b) r c := by
  rw [step_main_v53_15, b151_at]
  simp only [b122_at, b108_at, b79_at, b73_at]
  rfl

end Cert.Proof.RI
end
-- ==== Proof.RefEnds.lean ====
module

public import proofs.«01_k».proof.Proof.Embed
public import proofs.«01_k».proof.Proof.Gen.ReferenceIdeal.Step
public import Idealize.ShloMosaic.Lib.Routing.OpsPair
public import Idealize.ShloMosaic.Lib.WordCmp

/-!
The reference's embedded tokens and its three results, at an index.
-/

@[expose] public section

set_option maxRecDepth 16384

noncomputable section

namespace Cert.Proof.RI

open Idealize.ShloMosaic Cert.ReferenceIdeal Cert.ReferenceIdeal.Gen Cert.ReferenceIdeal.Step Cert.Proof.Sp

/-- The reference's frequencies. -/
theorem k14_at (i : Fin 128) : K_main_v14 (F := Ideal) (ix1 i) = freq i.val := by
  have hi := i.isLt
  pointwise [K_main_v14, K_main_v13, K_main_v12, K_main_v11, K_main_v10, K_main_v9, K_main_v8, K_main_v7, K_main_cst, K_main_cst_1, K_main_cst_2]
  have h1 : Ideal.ofBits .f32 1176256512#32 = ((10000 : ℝ) : EReal) := by
    simp [Ideal.ofBits, Ideal.ieee, -EReal.coe_mul]; norm_num
  have h2 : Ideal.ofBits .f32 1132462080#32 = ((256 : ℝ) : EReal) := by
    simp [Ideal.ofBits, Ideal.ieee, -EReal.coe_mul]; norm_num
  have hs : FloatOps.sitofp (F := Ideal) .f32 (BitVec.ofNat 32 i.val) = ((i.val : ℝ) : EReal) := by
    show (((BitVec.ofNat 32 i.val).toInt : ℝ) : EReal) = _
    rw [show (BitVec.ofNat 32 i.val).toInt = (i.val : Int) from by rw [BitVec.toInt_eq_toNat_cond, BitVec.toNat_ofNat]; omega]
    norm_cast
  have hd : Ideal.div (-((i.val : ℝ) : EReal)) ((256 : ℝ) : EReal) = ((-(i.val : ℝ) / 256 : ℝ) : EReal) := by
    unfold Ideal.div
    rw [if_neg (by exact_mod_cast (by norm_num : (256 : ℝ) ≠ 0)), div_eq_mul_inv, EReal.coe_mul, EReal.coe_neg]; rfl
  rw [h1, h2, hs, hd]
  rfl

section
variable (a0 : (⟨S8x1024, .i32⟩ : BufTy).Contents (Elt Ideal)) (a1 : (⟨S8x1024, .f32⟩ : BufTy).Contents (Elt Ideal)) (a2 : (⟨S8x1024, .i32⟩ : BufTy).Contents (Elt Ideal))
  (a3 : (⟨S64x128, .f32⟩ : BufTy).Contents (Elt Ideal)) (a5 : (⟨S360x384, .f32⟩ : BufTy).Contents (Elt Ideal)) (a6 : (⟨S768, .f32⟩ : BufTy).Contents (Elt Ideal))

theorem a6_at (b : Fin 8) (r : Fin 1024) (c : Fin 128) (n : Fin 64) (h : a0 (ix2 b r) = BitVec.ofNat 32 n.val) : A_main_v6 a0 a1 a2 a3 a5 a6 (ix3 b r c) = a3 (ix2 n c) := by
  have hn := n.isLt
  refine lookup (by norm_num) gather_S64x128_S8x1024x1_S8x1024x128_2_0_n_n_0_2_1128_wf a3 (A_main_v5 a0 a1 a2 a3 a5 a6) b r c n ?_
  pointwise [A_main_v5, A_main_v4, A_main_v3, A_main_v1, K_main_v0, K_main_v2, K_main_c, K_main_c_0]
  rw [h]
  exact Routing.wrap_of_lt _ _ (by rw [BitVec.toNat_ofNat]; omega)

theorem a32_at (b : Fin 8) (r : Fin 1024) (c : Fin 384) (n : Fin 360) (h : a2 (ix2 b r) = BitVec.ofNat 32 n.val) : A_main_v32 a0 a1 a2 a3 a5 a6 (ix3 b r c) = a5 (ix2 n c) := by
  have hn := n.isLt
  refine lookup (by norm_num) gather_S360x384_S8x1024x1_S8x1024x384_2_0_n_n_0_2_1384_wf a5 (A_main_v31 a0 a1 a2 a3 a5 a6) b r c n ?_
  pointwise [A_main_v31, A_main_v30, A_main_v29, A_main_v27, K_main_v26, K_main_v28, K_main_c_3, K_main_c_4]
  rw [h]
  exact Routing.wrap_of_lt _ _ (by rw [BitVec.toNat_ofNat]; omega)

theorem a25_at (b : Fin 8) (r : Fin 1024) (c : Fin 256) : A_main_v25 a0 a1 a2 a3 a5 a6 (ix3 b r c) = sinu (a1 (ix2 b r)) c.val := by
  pointwise [A_main_v25, A_main_v24, A_main_v23, A_main_v22, A_main_v21, A_main_v20, A_main_v19, A_main_v17, A_main_v15, K_main_v18, K_main_v16]
  unfold sinu
  have hc := c.isLt
  have hf := congrArg (· * a1 (ix2 b r)) (k14_at ⟨c.val / 2, by omega⟩)
  by_cases h : c.val % 2 = 0
  · rw [if_pos h, dif_pos (by omega)]
    exact congrArg Ideal.sin ((mul_comm _ _).trans hf)
  · rw [if_neg h, dif_neg (by omega)]
    exact congrArg Ideal.cos ((mul_comm _ _).trans hf)

/-- The reference's embedded tokens. -/
theorem a39_at (b : Fin 8) (np : Fin 1024 → Fin 64) (nf : Fin 1024 → Fin 360) (h0 : ∀ r, a0 (ix2 b r) = BitVec.ofNat 32 (np r).val) (h2 : ∀ r, a2 (ix2 b r) = BitVec.ofNat 32 (nf r).val)
    (r : Fin 1088) (c : Fin 768) :
    A_main_v39 a0 a1 a2 a3 a5 a6 (ix3 b r c) = emb np (fun r => a1 (ix2 b r)) nf (fun n c => a3 (ix2 n c)) (fun n c => a5 (ix2 n c)) (fun c => a6 (ix1 c)) r c := by
  have hc := c.isLt
  have hr := r.isLt
  pointwise [A_main_v39, A_main_v38, A_main_v34, A_main_v33, K_main_v37, K_main_v36, K_main_v35, K_main_c_6, K_main_cst_5]
  have hi : (BitVec.ofNat 32 r.val).toInt = r.val := by
    rw [BitVec.toInt_eq_toNat_cond, BitVec.toNat_ofNat]; omega
  rw [WordCmp.cmpi_slt_eq, hi, show (1024#32 : BitVec 32).toInt = 1024 from rfl]
  unfold emb Scalar.select
  by_cases h : r.val < 1024
  · rw [if_pos (by rw [show (1 : BitVec 1) = 1#1 from rfl, WordCmp.ofBool_eq_one_iff, decide_eq_true_iff]; omega), dif_pos h, dif_pos h]
    by_cases hc1 : c.val < 128
    · rw [dif_pos hc1, dif_pos hc1, a6_at a0 a1 a2 a3 a5 a6 b _ _ _ (h0 _)]
    · rw [dif_neg hc1, dif_neg hc1]
      by_cases hc2 : c.val < 384
      · rw [dif_pos (by omega), dif_pos hc2, a25_at]
      · rw [dif_neg (by omega), dif_neg hc2, a32_at a0 a1 a2 a3 a5 a6 b _ _ _ (h2 _)]
        exact congrArg (fun u => a5 (ix2 _ u)) (Fin.ext (by show c.val - 128 - 256 = c.val - 384; omega))
  · rw [if_neg (by rw [show (1 : BitVec 1) = 1#1 from rfl, WordCmp.ofBool_eq_one_iff, decide_eq_true_iff]; omega), dif_neg h]

end

/-! ## The results -/

variable (s : State Ideal)
theorem r57_at (T : (⟨S64x128, .f32⟩ : BufTy).Contents (Elt Ideal)) (b : Fin 8) (r : Fin 64) (c : Fin 64) :
    R_main_v57 s T (ix3 b r c) = ∑ k : Fin 128, s.main_v53_15 (ix3 b ⟨1024 + r.val, by omega⟩ ⟨k.val, by omega⟩) * T (ix2 c k) := by
  pointwise [R_main_v57]
theorem r60_at (T : (⟨S601x256, .f32⟩ : BufTy).Contents (Elt Ideal)) (b : Fin 8) (r : Fin 64) (c : Fin 601) :
    R_main_v60 s T (ix3 b r c) = ∑ k : Fin 256, s.main_v53_15 (ix3 b ⟨1024 + r.val, by omega⟩ ⟨128 + k.val, by omega⟩) * T (ix2 c k) := by
  pointwise [R_main_v60]
theorem r63_at (T : (⟨S360x384, .f32⟩ : BufTy).Contents (Elt Ideal)) (b : Fin 8) (r : Fin 64) (c : Fin 360) :
    R_main_v63 s T (ix3 b r c) = ∑ k : Fin 384, s.main_v53_15 (ix3 b ⟨1024 + r.val, by omega⟩ ⟨384 + k.val, by omega⟩) * T (ix2 c k) := by
  pointwise [R_main_v63]

end Cert.Proof.RI
end
-- ==== Proof.Algebraic.lean ====
module

public import proofs.«01_k».proof.Defs
public import proofs.«01_k».proof.Proof.RunMain
public import proofs.«01_k».proof.Proof.Stream
public import proofs.«01_k».proof.Proof.Value2
public import proofs.«01_k».proof.Proof.RefLayer
public import proofs.«01_k».proof.Proof.RefEnds
public import proofs.«01_k».proof.Proof.Gen.ReferenceIdeal.StepRun
public import proofs.«01_k».proof.Proof.Gen.Pre_in_tables

/-!
The value claim: on the same arguments, with the indices inside their tables, the kernel and the reference end with
the same three results.
-/

@[expose] public section

set_option maxRecDepth 16384

noncomputable section

namespace Cert.Proof.Alg

open Idealize.ShloMosaic Idealize.SL.Sem Idealize.ShloMosaic.TcCoe Cert.Proof.Sp

/-! ## The indices -/

/-- A word that is at least zero and below `n`, read signed, is the word of a number below `n`. -/
theorem word_row {n : ℕ} (hn : n < 2 ^ 31) (w : BitVec 32) (h0 : 0 ≤ w.toInt) (h1 : w.toInt < n) :
    ∃ i : Fin n, w = BitVec.ofNat 32 i.val := by
  have hw := BitVec.toInt_eq_toNat_cond w
  have := w.isLt
  refine ⟨⟨w.toNat, by split at hw <;> omega⟩, ?_⟩
  show w = BitVec.ofNat 32 w.toNat
  rw [BitVec.ofNat_toNat, BitVec.setWidth_eq]

variable {a0 a2 : IVec Cert.Pre_in_tables.S8x1024 32}

/-- What the precondition says at one entry. -/
theorem in_bounds {a1 a3 a4 a5 a6 a7 a8 a9 a10 a11 a12 a13 a14 a15 a16 a17 a18}
    (h : Cert.Pre_in_tables.fn (F := Ideal) a0 a1 a2 a3 a4 a5 a6 a7 a8 a9 a10 a11 a12 a13 a14 a15 a16 a17 a18 = fun _ => 1#1)
    (b : Fin 8) (r : Fin 1024) :
    (0 ≤ (a0 (ix2 b r)).toInt ∧ (a0 (ix2 b r)).toInt < 64) ∧ 0 ≤ (a2 (ix2 b r)).toInt ∧ (a2 (ix2 b r)).toInt < 360 := by
  have e := congrFun h (ix2 b r)
  pointwise [Cert.Pre_in_tables.fn] at e
  rw [WordCmp.cmpi_sge_eq, WordCmp.cmpi_sge_eq, WordCmp.cmpi_slt_eq, WordCmp.cmpi_slt_eq, WordCmp.andi_ofBool, WordCmp.andi_ofBool, WordCmp.andi_ofBool,
    WordCmp.ofBool_eq_one_iff] at e
  simp only [Bool.and_eq_true, decide_eq_true_iff] at e
  obtain ⟨⟨⟨p, q⟩, s⟩, t⟩ := e
  exact ⟨⟨p, q⟩, s, t⟩

/-! ## The two programs' streams -/

/-- The kernel's location of a buffer on device `c`. -/
abbrev kl (c : Dev Cert.KernelIdeal.nD) (r : Ref Cert.KernelIdeal.sig .tc) : Loc Cert.KernelIdeal.nD Cert.KernelIdeal.τ Cert.KernelIdeal.sig :=
  (c : Thread Cert.KernelIdeal.nD Cert.KernelIdeal.τ).loc r

/-- The reference's. -/
abbrev rl (c : Dev Cert.ReferenceIdeal.nD) (r : Ref Cert.ReferenceIdeal.sig .tc) : Loc Cert.ReferenceIdeal.nD Cert.ReferenceIdeal.τ Cert.ReferenceIdeal.sig :=
  (c : Thread Cert.ReferenceIdeal.nD Cert.ReferenceIdeal.τ).loc r

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's states, from the one before its loop. -/
def it (c : Dev Cert.ReferenceIdeal.nD) (n : ℕ) : Cert.ReferenceIdeal.Step.State Ideal :=
  n.rec (Cert.ReferenceIdeal.StepRun.initState m' c) (fun n s => Cert.ReferenceIdeal.Step.step n s)

/-- The two memories hold the same arguments on device `c`. -/
structure Agree (c : Dev Cert.KernelIdeal.nD) : Prop where
  h0 : m' (rl c Cert.ReferenceIdeal.main_arg0) = m (kl c Cert.KernelIdeal.main_arg0)
  h1 : m' (rl c Cert.ReferenceIdeal.main_arg1) = m (kl c Cert.KernelIdeal.main_arg1)
  h2 : m' (rl c Cert.ReferenceIdeal.main_arg2) = m (kl c Cert.KernelIdeal.main_arg2)
  h3 : m' (rl c Cert.ReferenceIdeal.main_arg3) = m (kl c Cert.KernelIdeal.main_arg3)
  h4 : m' (rl c Cert.ReferenceIdeal.main_arg4) = m (kl c Cert.KernelIdeal.main_arg4)
  h5 : m' (rl c Cert.ReferenceIdeal.main_arg5) = m (kl c Cert.KernelIdeal.main_arg5)
  h6 : m' (rl c Cert.ReferenceIdeal.main_arg6) = m (kl c Cert.KernelIdeal.main_arg6)
  h7 : m' (rl c Cert.ReferenceIdeal.main_arg7) = m (kl c Cert.KernelIdeal.main_arg7)
  h8 : m' (rl c Cert.ReferenceIdeal.main_arg8) = m (kl c Cert.KernelIdeal.main_arg8)
  h9 : m' (rl c Cert.ReferenceIdeal.main_arg9) = m (kl c Cert.KernelIdeal.main_arg9)
  h10 : m' (rl c Cert.ReferenceIdeal.main_arg10) = m (kl c Cert.KernelIdeal.main_arg10)
  h11 : m' (rl c Cert.ReferenceIdeal.main_arg11) = m (kl c Cert.KernelIdeal.main_arg11)
  h12 : m' (rl c Cert.ReferenceIdeal.main_arg12) = m (kl c Cert.KernelIdeal.main_arg12)
  h13 : m' (rl c Cert.ReferenceIdeal.main_arg13) = m (kl c Cert.KernelIdeal.main_arg13)
  h14 : m' (rl c Cert.ReferenceIdeal.main_arg14) = m (kl c Cert.KernelIdeal.main_arg14)
  h15 : m' (rl c Cert.ReferenceIdeal.main_arg15) = m (kl c Cert.KernelIdeal.main_arg15)
  h16 : m' (rl c Cert.ReferenceIdeal.main_arg16) = m (kl c Cert.KernelIdeal.main_arg16)
  h17 : m' (rl c Cert.ReferenceIdeal.main_arg17) = m (kl c Cert.KernelIdeal.main_arg17)
  h18 : m' (rl c Cert.ReferenceIdeal.main_arg18) = m (kl c Cert.KernelIdeal.main_arg18)

variable {m m'} in
/-- The weights of every reference state are the arguments' slices. -/
theorem par_it {c : Dev Cert.KernelIdeal.nD} (h : Agree m m' c) (j : Fin 6) (n : ℕ) : RI.par j (it m' c n) = KI.argPar m c j := by
  have e : RI.par j (it m' c n) = RI.par j (it m' c 0) := by
    induction n with
    | zero => rfl
    | succ n ih => exact Eq.trans (show RI.par j (Cert.ReferenceIdeal.Step.step n (it m' c n)) = _ by unfold Cert.ReferenceIdeal.Step.step; rfl) ih
  rw [e]
  exact par_ext (fun _ _ => congrFun h.h7 _) (fun _ => congrFun h.h8 _) (fun _ _ => congrFun h.h9 _) (fun _ => congrFun h.h10 _) (fun _ => congrFun h.h11 _) (fun _ => congrFun h.h12 _) (fun _ _ => congrFun h.h13 _) (fun _ => congrFun h.h14 _) (fun _ _ => congrFun h.h15 _) (fun _ => congrFun h.h16 _) (fun _ => congrFun h.h17 _) (fun _ => congrFun h.h18 _)

variable {m m'} in
/-- Before every trip the two programs hold the same stream. -/
theorem stream_it {c : Dev Cert.KernelIdeal.nD} (h : Agree m m' c) (np : Fin 8 → Fin 1024 → Fin 64) (nf : Fin 8 → Fin 1024 → Fin 360)
    (h0 : ∀ b r, m (kl c Cert.KernelIdeal.main_arg0) (ix2 b r) = BitVec.ofNat 32 (np b r).val)
    (h2 : ∀ b r, m (kl c Cert.KernelIdeal.main_arg2) (ix2 b r) = BitVec.ofNat 32 (nf b r).val) (b : Fin 8) :
    ∀ n ≤ 6, RI.X (it m' c n) b = KI.stream m c n b
  | 0, _ => by
    rw [KI.stream_zero m c b (np b) (nf b) (h0 b) (h2 b)]
    funext r n
    refine (RI.a39_at _ _ _ _ _ _ b (np b) (nf b) (fun r => (congrFun h.h0 _).trans (h0 b r)) (fun r => (congrFun h.h2 _).trans (h2 b r)) r n).trans ?_
    exact emb_ext (fun r => congrFun h.h1 _) (fun _ _ => congrFun h.h3 _) (fun _ _ => congrFun h.h5 _) (fun _ => congrFun h.h6 _) r n
  | n + 1, hn => by
    have ih := stream_it h np nf h0 h2 b n (by omega)
    rw [KI.stream_succ m c ⟨n, by omega⟩ b]
    funext r k
    refine (RI.step_at ⟨n, by omega⟩ (it m' c n) b r k).trans ?_
    rw [par_it h, ih]

/-! ## The results -/

/-- Every index of a rank-3 shape is one of its three coordinates. -/
theorem ix3_cases {a b c : ℕ} (ix : (⟨3, ![a, b, c]⟩ : Shape).Idx) : ∃ (i : Fin a) (j : Fin b) (k : Fin c), ix = ix3 i j k :=
  ⟨ix 0, ix 1, ix 2, by funext d; fin_cases d <;> rfl⟩

/-- Equal factors, equal products. -/
theorem dot_ext {n : ℕ} {x y x' y' : Fin n → EReal} (hx : ∀ k, x k = x' k) (hy : ∀ k, y k = y' k) : dot x y = dot x' y' := by
  rw [funext hx, funext hy]

variable (c : Dev Cert.KernelIdeal.nD)

/-- The stream the last call reads. -/
theorem last_stream : KI.U4 m c Cert.KernelIdeal.main_v17_13 = KI.Uk m 6 c Cert.KernelIdeal.main_v17_13 :=
  KI.cond_of _ Cert.KernelIdeal.main_v17_13 (by decide)

/-- The last call reads the arguments as they were. -/
theorem arg_late (r : Ref Cert.KernelIdeal.sig .tc) (h : r ∈ Cert.KernelIdeal.Gen.Cond.argRefs) : KI.U4 m c r = m (kl c r) :=
  (KI.nx2_of (KI.U4 m) c r (by revert r; exact ListAll.forall_mem_of_all_decide (by decide +kernel))).symm.trans (KI.arg_kept m c r h)

/-- Result 1: the last stream's prediction rows against a table, on both sides. -/
theorem result1 (hst : ∀ b, RI.X (it m' c 6) b = KI.stream m c 6 b) (h : Agree m m' c) :
    Cert.ReferenceIdeal.Step.R_main_v57 (it m' c 6) (m' (rl c Cert.ReferenceIdeal.main_arg3)) = KI.U5 m c Cert.KernelIdeal.main_v18_0 := by
  funext ix
  obtain ⟨b, r, j, rfl⟩ : ∃ (b : Fin 8) (r : Fin 64) (j : Fin 64), ix = ix3 b r j := ix3_cases ix
  refine (RI.r57_at _ _ b r j).trans (Eq.trans ?_ (KI.nx2_at1 (KI.U4 m) c b r j).symm)
  exact dot_ext (fun k => (congrFun (congrFun (hst b) _) _).trans (congrFun (last_stream m c).symm _))
    fun k => (congrFun h.h3 _).trans (congrFun (arg_late m c Cert.KernelIdeal.main_arg3 (by decide)).symm _)

/-- Result 2: the last stream's prediction rows against a table, on both sides. -/
theorem result2 (hst : ∀ b, RI.X (it m' c 6) b = KI.stream m c 6 b) (h : Agree m m' c) :
    Cert.ReferenceIdeal.Step.R_main_v60 (it m' c 6) (m' (rl c Cert.ReferenceIdeal.main_arg4)) = KI.U5 m c Cert.KernelIdeal.main_v18_1 := by
  funext ix
  obtain ⟨b, r, j, rfl⟩ : ∃ (b : Fin 8) (r : Fin 64) (j : Fin 601), ix = ix3 b r j := ix3_cases ix
  refine (RI.r60_at _ _ b r j).trans (Eq.trans ?_ (KI.nx2_at2 (KI.U4 m) c b r j).symm)
  exact dot_ext (fun k => (congrFun (congrFun (hst b) _) _).trans (congrFun (last_stream m c).symm _))
    fun k => (congrFun h.h4 _).trans (congrFun (arg_late m c Cert.KernelIdeal.main_arg4 (by decide)).symm _)

/-- Result 3: the last stream's prediction rows against a table, on both sides. -/
theorem result3 (hst : ∀ b, RI.X (it m' c 6) b = KI.stream m c 6 b) (h : Agree m m' c) :
    Cert.ReferenceIdeal.Step.R_main_v63 (it m' c 6) (m' (rl c Cert.ReferenceIdeal.main_arg5)) = KI.U5 m c Cert.KernelIdeal.main_v18_2 := by
  funext ix
  obtain ⟨b, r, j, rfl⟩ : ∃ (b : Fin 8) (r : Fin 64) (j : Fin 360), ix = ix3 b r j := ix3_cases ix
  refine (RI.r63_at _ _ b r j).trans (Eq.trans ?_ (KI.nx2_at3 (KI.U4 m) c b r j).symm)
  exact dot_ext (fun k => (congrFun (congrFun (hst b) _) _).trans (congrFun (last_stream m c).symm _))
    fun k => (congrFun h.h5 _).trans (congrFun (arg_late m c Cert.KernelIdeal.main_arg5 (by decide)).symm _)

/-! ## The claim -/

/-- Kernel and reference, from the same arguments with the indices inside their tables, end with equal results. -/
theorem algebraic : Cert.algebraic_KernelIdeal_ReferenceIdeal_pre_in_tables := by
  intro m g m' g' hpre hagree
  have ha : ∀ c, Agree m m' c := fun c => by
    obtain ⟨e0, e1, e2, e3, e4, e5, e6, e7, e8, e9, e10, e11, e12, e13, e14, e15, e16, e17, e18⟩ := hagree c
    exact ⟨e0, e1, e2, e3, e4, e5, e6, e7, e8, e9, e10, e11, e12, e13, e14, e15, e16, e17, e18⟩
  have hst : ∀ c b, RI.X (it m' c 6) b = KI.stream m c 6 b := fun c b => by
    have hb := in_bounds (hpre c)
    choose np h0 using fun b r => word_row (n := 64) (by norm_num) _ (hb b r).1.1 (hb b r).1.2
    choose nf h2 using fun b r => word_row (n := 360) (by norm_num) _ (hb b r).2.1 (hb b r).2.2
    exact stream_it (ha c) np nf h0 h2 b 6 le_rfl
  have hm : ∀ r : Ref Cert.KernelIdeal.sig .tc, r ∈ Cert.KernelIdeal.Gen.Cond.argRefs ++ [Cert.KernelIdeal.main_v18_0, Cert.KernelIdeal.main_v18_1, Cert.KernelIdeal.main_v18_2] →
      Proc.devRef .tc r ∈ Pipeline.ucRefs Cert.KernelIdeal.τ Cert.KernelIdeal.sig := fun r h =>
    Finset.mem_filter.mpr ⟨StableHlo.devRef_mem_tcRefs r, by revert r; exact ListAll.forall_mem_of_all_decide (by decide +kernel)⟩
  refine ⟨fun c => KI.U5 m c Cert.KernelIdeal.main_v18_0, fun c => KI.U5 m c Cert.KernelIdeal.main_v18_1, fun c => KI.U5 m c Cert.KernelIdeal.main_v18_2, ?_, ?_⟩
  · refine (θ_run _ _ _).mono (fun _ h c => ?_) (KI.run_main m g)
    have ha : ∀ r ∈ Cert.KernelIdeal.Gen.Cond.argRefs, _ = m (kl c r) := fun r hr => (h.1 c _ (hm r (List.mem_append_left _ hr))).trans (KI.arg_kept m c r hr)
    exact ⟨h.1 c _ (hm _ (by decide)), h.1 c _ (hm _ (by decide)), h.1 c _ (hm _ (by decide)), by and_intros <;> exact ha _ (by decide)⟩
  · refine (θ_run _ _ _).mono (fun _ h c => ?_) (Cert.ReferenceIdeal.StepRun.run_iter m' g' (it m') (fun _ => rfl) fun _ _ => rfl)
    exact ⟨(h c).1.trans (result1 m m' c (hst c) (ha c)), (h c).2.1.trans (result2 m m' c (hst c) (ha c)), (h c).2.2.1.trans (result3 m m' c (hst c) (ha c)), (h c).2.2.2⟩

end Cert.Proof.Alg

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_tables.Gen.facts,
  frame_kernel, frame_ideal, frame_ideal_pre, frame_reference, frame_reference_pre, preserves, Alg.algebraic⟩

end Cert.Proof

end
